-- ==== Defs.lean ====
def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleRefIdeal (m : (ℓ : Loc Cert.RetSampleRefIdeal.nD Cert.RetSampleRefIdeal.τ Cert.RetSampleRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_SharedK (m : (ℓ : Loc Cert.SharedK.nD Cert.SharedK.τ Cert.SharedK.sig) → Buf (Elt Bits) ℓ) : Prop :=
  True

def Pre_SharedKIdeal (m : (ℓ : Loc Cert.SharedKIdeal.nD Cert.SharedKIdeal.τ Cert.SharedKIdeal.sig) → Buf (Elt Ideal) ℓ) : Prop :=
  True

def Pre_SharedKRefIdeal (m : (ℓ : Loc Cert.SharedKRefIdeal.nD Cert.SharedKRefIdeal.τ Cert.SharedKRefIdeal.sig) → Buf (Elt Ideal) ℓ) : Prop :=
  True

def Pre_SharedV (m : (ℓ : Loc Cert.SharedV.nD Cert.SharedV.τ Cert.SharedV.sig) → Buf (Elt Bits) ℓ) : Prop :=
  True

def Pre_SharedVIdeal (m : (ℓ : Loc Cert.SharedVIdeal.nD Cert.SharedVIdeal.τ Cert.SharedVIdeal.sig) → Buf (Elt Ideal) ℓ) : Prop :=
  True

def Pre_SharedVRefIdeal (m : (ℓ : Loc Cert.SharedVRefIdeal.nD Cert.SharedVRefIdeal.τ Cert.SharedVRefIdeal.sig) → Buf (Elt Ideal) ℓ) : Prop :=
  True

def Pre_DiffQ (m : (ℓ : Loc Cert.DiffQ.nD Cert.DiffQ.τ Cert.DiffQ.sig) → Buf (Elt Bits) ℓ) : Prop :=
  True

def Pre_DiffQIdeal (m : (ℓ : Loc Cert.DiffQIdeal.nD Cert.DiffQIdeal.τ Cert.DiffQIdeal.sig) → Buf (Elt Ideal) ℓ) : Prop :=
  True

def Pre_DiffQRefIdeal (m : (ℓ : Loc Cert.DiffQRefIdeal.nD Cert.DiffQRefIdeal.τ Cert.DiffQRefIdeal.sig) → Buf (Elt Ideal) ℓ) : Prop :=
  True

def Pre_DiffOut (m : (ℓ : Loc Cert.DiffOut.nD Cert.DiffOut.τ Cert.DiffOut.sig) → Buf (Elt Bits) ℓ) : Prop :=
  True

def Pre_DiffOutIdeal (m : (ℓ : Loc Cert.DiffOutIdeal.nD Cert.DiffOutIdeal.τ Cert.DiffOutIdeal.sig) → Buf (Elt Ideal) ℓ) : Prop :=
  True

def Pre_DiffOutRefIdeal (m : (ℓ : Loc Cert.DiffOutRefIdeal.nD Cert.DiffOutRefIdeal.τ Cert.DiffOutRefIdeal.sig) → Buf (Elt Ideal) ℓ) : Prop :=
  True

def Pre_RetPrompt (m : (ℓ : Loc Cert.RetPrompt.nD Cert.RetPrompt.τ Cert.RetPrompt.sig) → Buf (Elt Bits) ℓ) : Prop :=
  True

def Pre_RetPromptIdeal (m : (ℓ : Loc Cert.RetPromptIdeal.nD Cert.RetPromptIdeal.τ Cert.RetPromptIdeal.sig) → Buf (Elt Ideal) ℓ) : Prop :=
  True

def Pre_RetPromptIdeal_finite_proj [hPre_finite_proj : Cert.Pre_finite_proj.Facts] (m : (ℓ : Loc Cert.RetPromptIdeal.nD Cert.RetPromptIdeal.τ Cert.RetPromptIdeal.sig) → Buf (Elt Ideal) ℓ) : Prop :=
  ∀ c : Dev Cert.RetPromptIdeal.nD,
    (Cert.Pre_finite_proj.fn (F := Ideal) (m ((c.tc : Thread Cert.RetPromptIdeal.nD Cert.RetPromptIdeal.τ).loc Cert.RetPromptIdeal.main_arg0))) = (fun _ => 1#1)

def Pre_RetPromptRefIdeal (m : (ℓ : Loc Cert.RetPromptRefIdeal.nD Cert.RetPromptRefIdeal.τ Cert.RetPromptRefIdeal.sig) → Buf (Elt Ideal) ℓ) : Prop :=
  True

def Pre_RetPromptRefIdeal_finite_proj [hPre_finite_proj : Cert.Pre_finite_proj.Facts] (m : (ℓ : Loc Cert.RetPromptRefIdeal.nD Cert.RetPromptRefIdeal.τ Cert.RetPromptRefIdeal.sig) → Buf (Elt Ideal) ℓ) : Prop :=
  ∀ c : Dev Cert.RetPromptRefIdeal.nD,
    (Cert.Pre_finite_proj.fn (F := Ideal) (m ((c.tc : Thread Cert.RetPromptRefIdeal.nD Cert.RetPromptRefIdeal.τ).loc Cert.RetPromptRefIdeal.main_arg0))) = (fun _ => 1#1)

def Pre_DiffAttn (m : (ℓ : Loc Cert.DiffAttn.nD Cert.DiffAttn.τ Cert.DiffAttn.sig) → Buf (Elt Bits) ℓ) : Prop :=
  True

def Pre_DiffAttnIdeal (m : (ℓ : Loc Cert.DiffAttnIdeal.nD Cert.DiffAttnIdeal.τ Cert.DiffAttnIdeal.sig) → Buf (Elt Ideal) ℓ) : Prop :=
  True

def Pre_DiffAttnIdeal_finite [hPre_finite : Cert.Pre_finite.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_finite.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4))) = (fun _ => 1#1)

def Pre_DiffAttnRefIdeal (m : (ℓ : Loc Cert.DiffAttnRefIdeal.nD Cert.DiffAttnRefIdeal.τ Cert.DiffAttnRefIdeal.sig) → Buf (Elt Ideal) ℓ) : Prop :=
  True

def Pre_DiffAttnRefIdeal_finite [hPre_finite : Cert.Pre_finite.Facts] (m : (ℓ : Loc Cert.DiffAttnRefIdeal.nD Cert.DiffAttnRefIdeal.τ Cert.DiffAttnRefIdeal.sig) → Buf (Elt Ideal) ℓ) : Prop :=
  ∀ c : Dev Cert.DiffAttnRefIdeal.nD,
    (Cert.Pre_finite.fn (F := Ideal) (m ((c.tc : Thread Cert.DiffAttnRefIdeal.nD Cert.DiffAttnRefIdeal.τ).loc Cert.DiffAttnRefIdeal.main_arg0)) (m ((c.tc : Thread Cert.DiffAttnRefIdeal.nD Cert.DiffAttnRefIdeal.τ).loc Cert.DiffAttnRefIdeal.main_arg1)) (m ((c.tc : Thread Cert.DiffAttnRefIdeal.nD Cert.DiffAttnRefIdeal.τ).loc Cert.DiffAttnRefIdeal.main_arg2)) (m ((c.tc : Thread Cert.DiffAttnRefIdeal.nD Cert.DiffAttnRefIdeal.τ).loc Cert.DiffAttnRefIdeal.main_arg3)) (m ((c.tc : Thread Cert.DiffAttnRefIdeal.nD Cert.DiffAttnRefIdeal.τ).loc Cert.DiffAttnRefIdeal.main_arg4))) = (fun _ => 1#1)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ r.2.sem = fun _ => 0)

def quiescent_RetSampleRefIdeal [hRetSampleRefIdeal : Cert.RetSampleRefIdeal.Facts] : Prop :=
  ∀ (m : (ℓ : Loc Cert.RetSampleRefIdeal.nD Cert.RetSampleRefIdeal.τ Cert.RetSampleRefIdeal.sig) → Buf (Elt Ideal) ℓ) (g : Dev Cert.RetSampleRefIdeal.nD → PrngReg), Pre_RetSampleRefIdeal m →
    θ_run (Cert.RetSampleRefIdeal.defs (F := Ideal)) (onTc (τ := Cert.RetSampleRefIdeal.τ) (Cert.RetSampleRefIdeal.main (F := Ideal))) ⟨m, fun _ => 0, g⟩ (fun r => (∀ c : Dev Cert.RetSampleRefIdeal.nD,
      r.2.mem ((c.tc : Thread Cert.RetSampleRefIdeal.nD Cert.RetSampleRefIdeal.τ).loc Cert.RetSampleRefIdeal.main_arg0) = m ((c.tc : Thread Cert.RetSampleRefIdeal.nD Cert.RetSampleRefIdeal.τ).loc Cert.RetSampleRefIdeal.main_arg0)
      ∧ r.2.mem ((c.tc : Thread Cert.RetSampleRefIdeal.nD Cert.RetSampleRefIdeal.τ).loc Cert.RetSampleRefIdeal.main_arg1) = m ((c.tc : Thread Cert.RetSampleRefIdeal.nD Cert.RetSampleRefIdeal.τ).loc Cert.RetSampleRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1)
      ∧ r.2.mem ((c.tc : Thread Cert.RetInRefIdeal.nD Cert.RetInRefIdeal.τ).loc Cert.RetInRefIdeal.main_arg2) = m ((c.tc : Thread Cert.RetInRefIdeal.nD Cert.RetInRefIdeal.τ).loc Cert.RetInRefIdeal.main_arg2))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0)

def quiescent_SharedK [hSharedK : Cert.SharedK.Facts] : Prop :=
  ∀ (m : (ℓ : Loc Cert.SharedK.nD Cert.SharedK.τ Cert.SharedK.sig) → Buf (Elt Bits) ℓ) (g : Dev Cert.SharedK.nD → PrngReg), Pre_SharedK m →
    θ_run (Cert.SharedK.defs (F := Bits)) (onTc (τ := Cert.SharedK.τ) (Cert.SharedK.main (F := Bits))) ⟨m, fun _ => 0, g⟩ (fun r => (∀ c : Dev Cert.SharedK.nD,
      r.2.mem ((c.tc : Thread Cert.SharedK.nD Cert.SharedK.τ).loc Cert.SharedK.main_arg0) = m ((c.tc : Thread Cert.SharedK.nD Cert.SharedK.τ).loc Cert.SharedK.main_arg0)
      ∧ r.2.mem ((c.tc : Thread Cert.SharedK.nD Cert.SharedK.τ).loc Cert.SharedK.main_arg1) = m ((c.tc : Thread Cert.SharedK.nD Cert.SharedK.τ).loc Cert.SharedK.main_arg1)
      ∧ r.2.mem ((c.tc : Thread Cert.SharedK.nD Cert.SharedK.τ).loc Cert.SharedK.main_arg2) = m ((c.tc : Thread Cert.SharedK.nD Cert.SharedK.τ).loc Cert.SharedK.main_arg2))
      ∧ r.2.sem = fun _ => 0)

def quiescent_SharedKIdeal [hSharedKIdeal : Cert.SharedKIdeal.Facts] : Prop :=
  ∀ (m : (ℓ : Loc Cert.SharedKIdeal.nD Cert.SharedKIdeal.τ Cert.SharedKIdeal.sig) → Buf (Elt Ideal) ℓ) (g : Dev Cert.SharedKIdeal.nD → PrngReg), Pre_SharedKIdeal m →
    θ_run (Cert.SharedKIdeal.defs (F := Ideal)) (onTc (τ := Cert.SharedKIdeal.τ) (Cert.SharedKIdeal.main (F := Ideal))) ⟨m, fun _ => 0, g⟩ (fun r => (∀ c : Dev Cert.SharedKIdeal.nD,
      r.2.mem ((c.tc : Thread Cert.SharedKIdeal.nD Cert.SharedKIdeal.τ).loc Cert.SharedKIdeal.main_arg0) = m ((c.tc : Thread Cert.SharedKIdeal.nD Cert.SharedKIdeal.τ).loc Cert.SharedKIdeal.main_arg0)
      ∧ r.2.mem ((c.tc : Thread Cert.SharedKIdeal.nD Cert.SharedKIdeal.τ).loc Cert.SharedKIdeal.main_arg1) = m ((c.tc : Thread Cert.SharedKIdeal.nD Cert.SharedKIdeal.τ).loc Cert.SharedKIdeal.main_arg1)
      ∧ r.2.mem ((c.tc : Thread Cert.SharedKIdeal.nD Cert.SharedKIdeal.τ).loc Cert.SharedKIdeal.main_arg2) = m ((c.tc : Thread Cert.SharedKIdeal.nD Cert.SharedKIdeal.τ).loc Cert.SharedKIdeal.main_arg2))
      ∧ r.2.sem = fun _ => 0)

def quiescent_SharedKRefIdeal [hSharedKRefIdeal : Cert.SharedKRefIdeal.Facts] : Prop :=
  ∀ (m : (ℓ : Loc Cert.SharedKRefIdeal.nD Cert.SharedKRefIdeal.τ Cert.SharedKRefIdeal.sig) → Buf (Elt Ideal) ℓ) (g : Dev Cert.SharedKRefIdeal.nD → PrngReg), Pre_SharedKRefIdeal m →
    θ_run (Cert.SharedKRefIdeal.defs (F := Ideal)) (onTc (τ := Cert.SharedKRefIdeal.τ) (Cert.SharedKRefIdeal.main (F := Ideal))) ⟨m, fun _ => 0, g⟩ (fun r => (∀ c : Dev Cert.SharedKRefIdeal.nD,
      r.2.mem ((c.tc : Thread Cert.SharedKRefIdeal.nD Cert.SharedKRefIdeal.τ).loc Cert.SharedKRefIdeal.main_arg0) = m ((c.tc : Thread Cert.SharedKRefIdeal.nD Cert.SharedKRefIdeal.τ).loc Cert.SharedKRefIdeal.main_arg0)
      ∧ r.2.mem ((c.tc : Thread Cert.SharedKRefIdeal.nD Cert.SharedKRefIdeal.τ).loc Cert.SharedKRefIdeal.main_arg1) = m ((c.tc : Thread Cert.SharedKRefIdeal.nD Cert.SharedKRefIdeal.τ).loc Cert.SharedKRefIdeal.main_arg1)
      ∧ r.2.mem ((c.tc : Thread Cert.SharedKRefIdeal.nD Cert.SharedKRefIdeal.τ).loc Cert.SharedKRefIdeal.main_arg2) = m ((c.tc : Thread Cert.SharedKRefIdeal.nD Cert.SharedKRefIdeal.τ).loc Cert.SharedKRefIdeal.main_arg2))
      ∧ r.2.sem = fun _ => 0)

def quiescent_SharedV [hSharedV : Cert.SharedV.Facts] : Prop :=
  ∀ (m : (ℓ : Loc Cert.SharedV.nD Cert.SharedV.τ Cert.SharedV.sig) → Buf (Elt Bits) ℓ) (g : Dev Cert.SharedV.nD → PrngReg), Pre_SharedV m →
    θ_run (Cert.SharedV.defs (F := Bits)) (onTc (τ := Cert.SharedV.τ) (Cert.SharedV.main (F := Bits))) ⟨m, fun _ => 0, g⟩ (fun r => (∀ c : Dev Cert.SharedV.nD,
      r.2.mem ((c.tc : Thread Cert.SharedV.nD Cert.SharedV.τ).loc Cert.SharedV.main_arg0) = m ((c.tc : Thread Cert.SharedV.nD Cert.SharedV.τ).loc Cert.SharedV.main_arg0)
      ∧ r.2.mem ((c.tc : Thread Cert.SharedV.nD Cert.SharedV.τ).loc Cert.SharedV.main_arg1) = m ((c.tc : Thread Cert.SharedV.nD Cert.SharedV.τ).loc Cert.SharedV.main_arg1)
      ∧ r.2.mem ((c.tc : Thread Cert.SharedV.nD Cert.SharedV.τ).loc Cert.SharedV.main_arg2) = m ((c.tc : Thread Cert.SharedV.nD Cert.SharedV.τ).loc Cert.SharedV.main_arg2))
      ∧ r.2.sem = fun _ => 0)

def quiescent_SharedVIdeal [hSharedVIdeal : Cert.SharedVIdeal.Facts] : Prop :=
  ∀ (m : (ℓ : Loc Cert.SharedVIdeal.nD Cert.SharedVIdeal.τ Cert.SharedVIdeal.sig) → Buf (Elt Ideal) ℓ) (g : Dev Cert.SharedVIdeal.nD → PrngReg), Pre_SharedVIdeal m →
    θ_run (Cert.SharedVIdeal.defs (F := Ideal)) (onTc (τ := Cert.SharedVIdeal.τ) (Cert.SharedVIdeal.main (F := Ideal))) ⟨m, fun _ => 0, g⟩ (fun r => (∀ c : Dev Cert.SharedVIdeal.nD,
      r.2.mem ((c.tc : Thread Cert.SharedVIdeal.nD Cert.SharedVIdeal.τ).loc Cert.SharedVIdeal.main_arg0) = m ((c.tc : Thread Cert.SharedVIdeal.nD Cert.SharedVIdeal.τ).loc Cert.SharedVIdeal.main_arg0)
      ∧ r.2.mem ((c.tc : Thread Cert.SharedVIdeal.nD Cert.SharedVIdeal.τ).loc Cert.SharedVIdeal.main_arg1) = m ((c.tc : Thread Cert.SharedVIdeal.nD Cert.SharedVIdeal.τ).loc Cert.SharedVIdeal.main_arg1)
      ∧ r.2.mem ((c.tc : Thread Cert.SharedVIdeal.nD Cert.SharedVIdeal.τ).loc Cert.SharedVIdeal.main_arg2) = m ((c.tc : Thread Cert.SharedVIdeal.nD Cert.SharedVIdeal.τ).loc Cert.SharedVIdeal.main_arg2))
      ∧ r.2.sem = fun _ => 0)

def quiescent_SharedVRefIdeal [hSharedVRefIdeal : Cert.SharedVRefIdeal.Facts] : Prop :=
  ∀ (m : (ℓ : Loc Cert.SharedVRefIdeal.nD Cert.SharedVRefIdeal.τ Cert.SharedVRefIdeal.sig) → Buf (Elt Ideal) ℓ) (g : Dev Cert.SharedVRefIdeal.nD → PrngReg), Pre_SharedVRefIdeal m →
    θ_run (Cert.SharedVRefIdeal.defs (F := Ideal)) (onTc (τ := Cert.SharedVRefIdeal.τ) (Cert.SharedVRefIdeal.main (F := Ideal))) ⟨m, fun _ => 0, g⟩ (fun r => (∀ c : Dev Cert.SharedVRefIdeal.nD,
      r.2.mem ((c.tc : Thread Cert.SharedVRefIdeal.nD Cert.SharedVRefIdeal.τ).loc Cert.SharedVRefIdeal.main_arg0) = m ((c.tc : Thread Cert.SharedVRefIdeal.nD Cert.SharedVRefIdeal.τ).loc Cert.SharedVRefIdeal.main_arg0)
      ∧ r.2.mem ((c.tc : Thread Cert.SharedVRefIdeal.nD Cert.SharedVRefIdeal.τ).loc Cert.SharedVRefIdeal.main_arg1) = m ((c.tc : Thread Cert.SharedVRefIdeal.nD Cert.SharedVRefIdeal.τ).loc Cert.SharedVRefIdeal.main_arg1)
      ∧ r.2.mem ((c.tc : Thread Cert.SharedVRefIdeal.nD Cert.SharedVRefIdeal.τ).loc Cert.SharedVRefIdeal.main_arg2) = m ((c.tc : Thread Cert.SharedVRefIdeal.nD Cert.SharedVRefIdeal.τ).loc Cert.SharedVRefIdeal.main_arg2))
      ∧ r.2.sem = fun _ => 0)

def quiescent_DiffQ [hDiffQ : Cert.DiffQ.Facts] : Prop :=
  ∀ (m : (ℓ : Loc Cert.DiffQ.nD Cert.DiffQ.τ Cert.DiffQ.sig) → Buf (Elt Bits) ℓ) (g : Dev Cert.DiffQ.nD → PrngReg), Pre_DiffQ m →
    θ_run (Cert.DiffQ.defs (F := Bits)) (onTc (τ := Cert.DiffQ.τ) (Cert.DiffQ.main (F := Bits))) ⟨m, fun _ => 0, g⟩ (fun r => (∀ c : Dev Cert.DiffQ.nD,
      r.2.mem ((c.tc : Thread Cert.DiffQ.nD Cert.DiffQ.τ).loc Cert.DiffQ.main_arg0) = m ((c.tc : Thread Cert.DiffQ.nD Cert.DiffQ.τ).loc Cert.DiffQ.main_arg0)
      ∧ r.2.mem ((c.tc : Thread Cert.DiffQ.nD Cert.DiffQ.τ).loc Cert.DiffQ.main_arg1) = m ((c.tc : Thread Cert.DiffQ.nD Cert.DiffQ.τ).loc Cert.DiffQ.main_arg1)
      ∧ r.2.mem ((c.tc : Thread Cert.DiffQ.nD Cert.DiffQ.τ).loc Cert.DiffQ.main_arg2) = m ((c.tc : Thread Cert.DiffQ.nD Cert.DiffQ.τ).loc Cert.DiffQ.main_arg2))
      ∧ r.2.sem = fun _ => 0)

def quiescent_DiffQIdeal [hDiffQIdeal : Cert.DiffQIdeal.Facts] : Prop :=
  ∀ (m : (ℓ : Loc Cert.DiffQIdeal.nD Cert.DiffQIdeal.τ Cert.DiffQIdeal.sig) → Buf (Elt Ideal) ℓ) (g : Dev Cert.DiffQIdeal.nD → PrngReg), Pre_DiffQIdeal m →
    θ_run (Cert.DiffQIdeal.defs (F := Ideal)) (onTc (τ := Cert.DiffQIdeal.τ) (Cert.DiffQIdeal.main (F := Ideal))) ⟨m, fun _ => 0, g⟩ (fun r => (∀ c : Dev Cert.DiffQIdeal.nD,
      r.2.mem ((c.tc : Thread Cert.DiffQIdeal.nD Cert.DiffQIdeal.τ).loc Cert.DiffQIdeal.main_arg0) = m ((c.tc : Thread Cert.DiffQIdeal.nD Cert.DiffQIdeal.τ).loc Cert.DiffQIdeal.main_arg0)
      ∧ r.2.mem ((c.tc : Thread Cert.DiffQIdeal.nD Cert.DiffQIdeal.τ).loc Cert.DiffQIdeal.main_arg1) = m ((c.tc : Thread Cert.DiffQIdeal.nD Cert.DiffQIdeal.τ).loc Cert.DiffQIdeal.main_arg1)
      ∧ r.2.mem ((c.tc : Thread Cert.DiffQIdeal.nD Cert.DiffQIdeal.τ).loc Cert.DiffQIdeal.main_arg2) = m ((c.tc : Thread Cert.DiffQIdeal.nD Cert.DiffQIdeal.τ).loc Cert.DiffQIdeal.main_arg2))
      ∧ r.2.sem = fun _ => 0)

def quiescent_DiffQRefIdeal [hDiffQRefIdeal : Cert.DiffQRefIdeal.Facts] : Prop :=
  ∀ (m : (ℓ : Loc Cert.DiffQRefIdeal.nD Cert.DiffQRefIdeal.τ Cert.DiffQRefIdeal.sig) → Buf (Elt Ideal) ℓ) (g : Dev Cert.DiffQRefIdeal.nD → PrngReg), Pre_DiffQRefIdeal m →
    θ_run (Cert.DiffQRefIdeal.defs (F := Ideal)) (onTc (τ := Cert.DiffQRefIdeal.τ) (Cert.DiffQRefIdeal.main (F := Ideal))) ⟨m, fun _ => 0, g⟩ (fun r => (∀ c : Dev Cert.DiffQRefIdeal.nD,
      r.2.mem ((c.tc : Thread Cert.DiffQRefIdeal.nD Cert.DiffQRefIdeal.τ).loc Cert.DiffQRefIdeal.main_arg0) = m ((c.tc : Thread Cert.DiffQRefIdeal.nD Cert.DiffQRefIdeal.τ).loc Cert.DiffQRefIdeal.main_arg0)
      ∧ r.2.mem ((c.tc : Thread Cert.DiffQRefIdeal.nD Cert.DiffQRefIdeal.τ).loc Cert.DiffQRefIdeal.main_arg1) = m ((c.tc : Thread Cert.DiffQRefIdeal.nD Cert.DiffQRefIdeal.τ).loc Cert.DiffQRefIdeal.main_arg1)
      ∧ r.2.mem ((c.tc : Thread Cert.DiffQRefIdeal.nD Cert.DiffQRefIdeal.τ).loc Cert.DiffQRefIdeal.main_arg2) = m ((c.tc : Thread Cert.DiffQRefIdeal.nD Cert.DiffQRefIdeal.τ).loc Cert.DiffQRefIdeal.main_arg2))
      ∧ r.2.sem = fun _ => 0)

def quiescent_DiffOut [hDiffOut : Cert.DiffOut.Facts] : Prop :=
  ∀ (m : (ℓ : Loc Cert.DiffOut.nD Cert.DiffOut.τ Cert.DiffOut.sig) → Buf (Elt Bits) ℓ) (g : Dev Cert.DiffOut.nD → PrngReg), Pre_DiffOut m →
    θ_run (Cert.DiffOut.defs (F := Bits)) (onTc (τ := Cert.DiffOut.τ) (Cert.DiffOut.main (F := Bits))) ⟨m, fun _ => 0, g⟩ (fun r => (∀ c : Dev Cert.DiffOut.nD,
      r.2.mem ((c.tc : Thread Cert.DiffOut.nD Cert.DiffOut.τ).loc Cert.DiffOut.main_arg0) = m ((c.tc : Thread Cert.DiffOut.nD Cert.DiffOut.τ).loc Cert.DiffOut.main_arg0)
      ∧ r.2.mem ((c.tc : Thread Cert.DiffOut.nD Cert.DiffOut.τ).loc Cert.DiffOut.main_arg1) = m ((c.tc : Thread Cert.DiffOut.nD Cert.DiffOut.τ).loc Cert.DiffOut.main_arg1)
      ∧ r.2.mem ((c.tc : Thread Cert.DiffOut.nD Cert.DiffOut.τ).loc Cert.DiffOut.main_arg2) = m ((c.tc : Thread Cert.DiffOut.nD Cert.DiffOut.τ).loc Cert.DiffOut.main_arg2)
      ∧ r.2.mem ((c.tc : Thread Cert.DiffOut.nD Cert.DiffOut.τ).loc Cert.DiffOut.main_arg3) = m ((c.tc : Thread Cert.DiffOut.nD Cert.DiffOut.τ).loc Cert.DiffOut.main_arg3))
      ∧ r.2.sem = fun _ => 0)

def quiescent_DiffOutIdeal [hDiffOutIdeal : Cert.DiffOutIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg), Pre_DiffOutIdeal m →
    θ_run (Cert.DiffOutIdeal.defs (F := Ideal)) (onTc (τ := Cert.DiffOutIdeal.τ) (Cert.DiffOutIdeal.main (F := Ideal))) ⟨m, fun _ => 0, g⟩ (fun r => (∀ c : Dev Cert.DiffOutIdeal.nD,
      r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
      ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1)
      ∧ r.2.mem ((c.tc : Thread Cert.DiffOutIdeal.nD Cert.DiffOutIdeal.τ).loc Cert.DiffOutIdeal.main_arg2) = m ((c.tc : Thread Cert.DiffOutIdeal.nD Cert.DiffOutIdeal.τ).loc Cert.DiffOutIdeal.main_arg2)
      ∧ r.2.mem ((c.tc : Thread Cert.DiffOutIdeal.nD Cert.DiffOutIdeal.τ).loc Cert.DiffOutIdeal.main_arg3) = m ((c.tc : Thread Cert.DiffOutIdeal.nD Cert.DiffOutIdeal.τ).loc Cert.DiffOutIdeal.main_arg3))
      ∧ r.2.sem = fun _ => 0)

def quiescent_DiffOutRefIdeal [hDiffOutRefIdeal : Cert.DiffOutRefIdeal.Facts] : Prop :=
  ∀ (m : (ℓ : Loc Cert.DiffOutRefIdeal.nD Cert.DiffOutRefIdeal.τ Cert.DiffOutRefIdeal.sig) → Buf (Elt Ideal) ℓ) (g : Dev Cert.DiffOutRefIdeal.nD → PrngReg), Pre_DiffOutRefIdeal m →
    θ_run (Cert.DiffOutRefIdeal.defs (F := Ideal)) (onTc (τ := Cert.DiffOutRefIdeal.τ) (Cert.DiffOutRefIdeal.main (F := Ideal))) ⟨m, fun _ => 0, g⟩ (fun r => (∀ c : Dev Cert.DiffOutRefIdeal.nD,
      r.2.mem ((c.tc : Thread Cert.DiffOutRefIdeal.nD Cert.DiffOutRefIdeal.τ).loc Cert.DiffOutRefIdeal.main_arg0) = m ((c.tc : Thread Cert.DiffOutRefIdeal.nD Cert.DiffOutRefIdeal.τ).loc Cert.DiffOutRefIdeal.main_arg0)
      ∧ r.2.mem ((c.tc : Thread Cert.DiffOutRefIdeal.nD Cert.DiffOutRefIdeal.τ).loc Cert.DiffOutRefIdeal.main_arg1) = m ((c.tc : Thread Cert.DiffOutRefIdeal.nD Cert.DiffOutRefIdeal.τ).loc Cert.DiffOutRefIdeal.main_arg1)
      ∧ r.2.mem ((c.tc : Thread Cert.DiffOutRefIdeal.nD Cert.DiffOutRefIdeal.τ).loc Cert.DiffOutRefIdeal.main_arg2) = m ((c.tc : Thread Cert.DiffOutRefIdeal.nD Cert.DiffOutRefIdeal.τ).loc Cert.DiffOutRefIdeal.main_arg2)
      ∧ r.2.mem ((c.tc : Thread Cert.DiffOutRefIdeal.nD Cert.DiffOutRefIdeal.τ).loc Cert.DiffOutRefIdeal.main_arg3) = m ((c.tc : Thread Cert.DiffOutRefIdeal.nD Cert.DiffOutRefIdeal.τ).loc Cert.DiffOutRefIdeal.main_arg3))
      ∧ r.2.sem = fun _ => 0)

def quiescent_RetPrompt [hRetPrompt : Cert.RetPrompt.Facts] : Prop :=
  ∀ (m : (ℓ : Loc Cert.RetPrompt.nD Cert.RetPrompt.τ Cert.RetPrompt.sig) → Buf (Elt Bits) ℓ) (g : Dev Cert.RetPrompt.nD → PrngReg), Pre_RetPrompt m →
    θ_run (Cert.RetPrompt.defs (F := Bits)) (onTc (τ := Cert.RetPrompt.τ) (Cert.RetPrompt.main (F := Bits))) ⟨m, fun _ => 0, g⟩ (fun r => (∀ c : Dev Cert.RetPrompt.nD,
      r.2.mem ((c.tc : Thread Cert.RetPrompt.nD Cert.RetPrompt.τ).loc Cert.RetPrompt.main_arg0) = m ((c.tc : Thread Cert.RetPrompt.nD Cert.RetPrompt.τ).loc Cert.RetPrompt.main_arg0))
      ∧ r.2.sem = fun _ => 0)

def quiescent_RetPromptIdeal [hRetPromptIdeal : Cert.RetPromptIdeal.Facts] : Prop :=
  ∀ (m : (ℓ : Loc Cert.RetPromptIdeal.nD Cert.RetPromptIdeal.τ Cert.RetPromptIdeal.sig) → Buf (Elt Ideal) ℓ) (g : Dev Cert.RetPromptIdeal.nD → PrngReg), Pre_RetPromptIdeal m →
    θ_run (Cert.RetPromptIdeal.defs (F := Ideal)) (onTc (τ := Cert.RetPromptIdeal.τ) (Cert.RetPromptIdeal.main (F := Ideal))) ⟨m, fun _ => 0, g⟩ (fun r => (∀ c : Dev Cert.RetPromptIdeal.nD,
      r.2.mem ((c.tc : Thread Cert.RetPromptIdeal.nD Cert.RetPromptIdeal.τ).loc Cert.RetPromptIdeal.main_arg0) = m ((c.tc : Thread Cert.RetPromptIdeal.nD Cert.RetPromptIdeal.τ).loc Cert.RetPromptIdeal.main_arg0))
      ∧ r.2.sem = fun _ => 0)

def quiescent_RetPromptIdeal_pre_finite_proj [hRetPromptIdeal : Cert.RetPromptIdeal.Facts] [hPre_finite_proj : Cert.Pre_finite_proj.Facts] : Prop :=
  ∀ (m : (ℓ : Loc Cert.RetPromptIdeal.nD Cert.RetPromptIdeal.τ Cert.RetPromptIdeal.sig) → Buf (Elt Ideal) ℓ) (g : Dev Cert.RetPromptIdeal.nD → PrngReg), Pre_RetPromptIdeal_finite_proj m →
    θ_run (Cert.RetPromptIdeal.defs (F := Ideal)) (onTc (τ := Cert.RetPromptIdeal.τ) (Cert.RetPromptIdeal.main (F := Ideal))) ⟨m, fun _ => 0, g⟩ (fun r => (∀ c : Dev Cert.RetPromptIdeal.nD,
      r.2.mem ((c.tc : Thread Cert.RetPromptIdeal.nD Cert.RetPromptIdeal.τ).loc Cert.RetPromptIdeal.main_arg0) = m ((c.tc : Thread Cert.RetPromptIdeal.nD Cert.RetPromptIdeal.τ).loc Cert.RetPromptIdeal.main_arg0))
      ∧ r.2.sem = fun _ => 0)

def quiescent_RetPromptRefIdeal [hRetPromptRefIdeal : Cert.RetPromptRefIdeal.Facts] : Prop :=
  ∀ (m : (ℓ : Loc Cert.RetPromptRefIdeal.nD Cert.RetPromptRefIdeal.τ Cert.RetPromptRefIdeal.sig) → Buf (Elt Ideal) ℓ) (g : Dev Cert.RetPromptRefIdeal.nD → PrngReg), Pre_RetPromptRefIdeal m →
    θ_run (Cert.RetPromptRefIdeal.defs (F := Ideal)) (onTc (τ := Cert.RetPromptRefIdeal.τ) (Cert.RetPromptRefIdeal.main (F := Ideal))) ⟨m, fun _ => 0, g⟩ (fun r => (∀ c : Dev Cert.RetPromptRefIdeal.nD,
      r.2.mem ((c.tc : Thread Cert.RetPromptRefIdeal.nD Cert.RetPromptRefIdeal.τ).loc Cert.RetPromptRefIdeal.main_arg0) = m ((c.tc : Thread Cert.RetPromptRefIdeal.nD Cert.RetPromptRefIdeal.τ).loc Cert.RetPromptRefIdeal.main_arg0))
      ∧ r.2.sem = fun _ => 0)

def quiescent_RetPromptRefIdeal_pre_finite_proj [hRetPromptRefIdeal : Cert.RetPromptRefIdeal.Facts] [hPre_finite_proj : Cert.Pre_finite_proj.Facts] : Prop :=
  ∀ (m : (ℓ : Loc Cert.RetPromptRefIdeal.nD Cert.RetPromptRefIdeal.τ Cert.RetPromptRefIdeal.sig) → Buf (Elt Ideal) ℓ) (g : Dev Cert.RetPromptRefIdeal.nD → PrngReg), Pre_RetPromptRefIdeal_finite_proj m →
    θ_run (Cert.RetPromptRefIdeal.defs (F := Ideal)) (onTc (τ := Cert.RetPromptRefIdeal.τ) (Cert.RetPromptRefIdeal.main (F := Ideal))) ⟨m, fun _ => 0, g⟩ (fun r => (∀ c : Dev Cert.RetPromptRefIdeal.nD,
      r.2.mem ((c.tc : Thread Cert.RetPromptRefIdeal.nD Cert.RetPromptRefIdeal.τ).loc Cert.RetPromptRefIdeal.main_arg0) = m ((c.tc : Thread Cert.RetPromptRefIdeal.nD Cert.RetPromptRefIdeal.τ).loc Cert.RetPromptRefIdeal.main_arg0))
      ∧ r.2.sem = fun _ => 0)

def quiescent_DiffAttn [hDiffAttn : Cert.DiffAttn.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4))
      ∧ r.2.sem = fun _ => 0)

def quiescent_DiffAttnIdeal [hDiffAttnIdeal : Cert.DiffAttnIdeal.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4))
      ∧ r.2.sem = fun _ => 0)

def quiescent_DiffAttnIdeal_pre_finite [hDiffAttnIdeal : Cert.DiffAttnIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal_finite m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4))
      ∧ r.2.sem = fun _ => 0)

def quiescent_DiffAttnRefIdeal [hDiffAttnRefIdeal : Cert.DiffAttnRefIdeal.Facts] : Prop :=
  ∀ (m : (ℓ : Loc Cert.DiffAttnRefIdeal.nD Cert.DiffAttnRefIdeal.τ Cert.DiffAttnRefIdeal.sig) → Buf (Elt Ideal) ℓ) (g : Dev Cert.DiffAttnRefIdeal.nD → PrngReg), Pre_DiffAttnRefIdeal m →
    θ_run (Cert.DiffAttnRefIdeal.defs (F := Ideal)) (onTc (τ := Cert.DiffAttnRefIdeal.τ) (Cert.DiffAttnRefIdeal.main (F := Ideal))) ⟨m, fun _ => 0, g⟩ (fun r => (∀ c : Dev Cert.DiffAttnRefIdeal.nD,
      r.2.mem ((c.tc : Thread Cert.DiffAttnRefIdeal.nD Cert.DiffAttnRefIdeal.τ).loc Cert.DiffAttnRefIdeal.main_arg0) = m ((c.tc : Thread Cert.DiffAttnRefIdeal.nD Cert.DiffAttnRefIdeal.τ).loc Cert.DiffAttnRefIdeal.main_arg0)
      ∧ r.2.mem ((c.tc : Thread Cert.DiffAttnRefIdeal.nD Cert.DiffAttnRefIdeal.τ).loc Cert.DiffAttnRefIdeal.main_arg1) = m ((c.tc : Thread Cert.DiffAttnRefIdeal.nD Cert.DiffAttnRefIdeal.τ).loc Cert.DiffAttnRefIdeal.main_arg1)
      ∧ r.2.mem ((c.tc : Thread Cert.DiffAttnRefIdeal.nD Cert.DiffAttnRefIdeal.τ).loc Cert.DiffAttnRefIdeal.main_arg2) = m ((c.tc : Thread Cert.DiffAttnRefIdeal.nD Cert.DiffAttnRefIdeal.τ).loc Cert.DiffAttnRefIdeal.main_arg2)
      ∧ r.2.mem ((c.tc : Thread Cert.DiffAttnRefIdeal.nD Cert.DiffAttnRefIdeal.τ).loc Cert.DiffAttnRefIdeal.main_arg3) = m ((c.tc : Thread Cert.DiffAttnRefIdeal.nD Cert.DiffAttnRefIdeal.τ).loc Cert.DiffAttnRefIdeal.main_arg3)
      ∧ r.2.mem ((c.tc : Thread Cert.DiffAttnRefIdeal.nD Cert.DiffAttnRefIdeal.τ).loc Cert.DiffAttnRefIdeal.main_arg4) = m ((c.tc : Thread Cert.DiffAttnRefIdeal.nD Cert.DiffAttnRefIdeal.τ).loc Cert.DiffAttnRefIdeal.main_arg4))
      ∧ r.2.sem = fun _ => 0)

def quiescent_DiffAttnRefIdeal_pre_finite [hDiffAttnRefIdeal : Cert.DiffAttnRefIdeal.Facts] [hPre_finite : Cert.Pre_finite.Facts] : Prop :=
  ∀ (m : (ℓ : Loc Cert.DiffAttnRefIdeal.nD Cert.DiffAttnRefIdeal.τ Cert.DiffAttnRefIdeal.sig) → Buf (Elt Ideal) ℓ) (g : Dev Cert.DiffAttnRefIdeal.nD → PrngReg), Pre_DiffAttnRefIdeal_finite m →
    θ_run (Cert.DiffAttnRefIdeal.defs (F := Ideal)) (onTc (τ := Cert.DiffAttnRefIdeal.τ) (Cert.DiffAttnRefIdeal.main (F := Ideal))) ⟨m, fun _ => 0, g⟩ (fun r => (∀ c : Dev Cert.DiffAttnRefIdeal.nD,
      r.2.mem ((c.tc : Thread Cert.DiffAttnRefIdeal.nD Cert.DiffAttnRefIdeal.τ).loc Cert.DiffAttnRefIdeal.main_arg0) = m ((c.tc : Thread Cert.DiffAttnRefIdeal.nD Cert.DiffAttnRefIdeal.τ).loc Cert.DiffAttnRefIdeal.main_arg0)
      ∧ r.2.mem ((c.tc : Thread Cert.DiffAttnRefIdeal.nD Cert.DiffAttnRefIdeal.τ).loc Cert.DiffAttnRefIdeal.main_arg1) = m ((c.tc : Thread Cert.DiffAttnRefIdeal.nD Cert.DiffAttnRefIdeal.τ).loc Cert.DiffAttnRefIdeal.main_arg1)
      ∧ r.2.mem ((c.tc : Thread Cert.DiffAttnRefIdeal.nD Cert.DiffAttnRefIdeal.τ).loc Cert.DiffAttnRefIdeal.main_arg2) = m ((c.tc : Thread Cert.DiffAttnRefIdeal.nD Cert.DiffAttnRefIdeal.τ).loc Cert.DiffAttnRefIdeal.main_arg2)
      ∧ r.2.mem ((c.tc : Thread Cert.DiffAttnRefIdeal.nD Cert.DiffAttnRefIdeal.τ).loc Cert.DiffAttnRefIdeal.main_arg3) = m ((c.tc : Thread Cert.DiffAttnRefIdeal.nD Cert.DiffAttnRefIdeal.τ).loc Cert.DiffAttnRefIdeal.main_arg3)
      ∧ r.2.mem ((c.tc : Thread Cert.DiffAttnRefIdeal.nD Cert.DiffAttnRefIdeal.τ).loc Cert.DiffAttnRefIdeal.main_arg4) = m ((c.tc : Thread Cert.DiffAttnRefIdeal.nD Cert.DiffAttnRefIdeal.τ).loc Cert.DiffAttnRefIdeal.main_arg4))
      ∧ r.2.sem = fun _ => 0)

def preserves_RetSample_RetSampleIdeal : Prop :=
  True

def algebraic_RetSampleIdeal_RetSampleRefIdeal [hRetSampleIdeal : Cert.RetSampleIdeal.Facts] [hRetSampleRefIdeal : Cert.RetSampleRefIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleRefIdeal.nD Cert.RetSampleRefIdeal.τ Cert.RetSampleRefIdeal.sig) → Buf (Elt Ideal) ℓ) (g' : Dev Cert.RetSampleRefIdeal.nD → PrngReg), Pre_RetSampleIdeal m →
    (∀ c : Dev Cert.RetSampleIdeal.nD,
      m' ((c.tc : Thread Cert.RetSampleRefIdeal.nD Cert.RetSampleRefIdeal.τ).loc Cert.RetSampleRefIdeal.main_arg0) = m ((c.tc : Thread Cert.RetSampleIdeal.nD Cert.RetSampleIdeal.τ).loc Cert.RetSampleIdeal.main_arg0)
      ∧ m' ((c.tc : Thread Cert.RetSampleRefIdeal.nD Cert.RetSampleRefIdeal.τ).loc Cert.RetSampleRefIdeal.main_arg1) = m ((c.tc : Thread Cert.RetSampleIdeal.nD Cert.RetSampleIdeal.τ).loc Cert.RetSampleIdeal.main_arg1)) →
    ∃ (v0 : (c : Dev Cert.RetSampleIdeal.nD) → Buf (Elt Ideal) ((c.tc : Thread Cert.RetSampleIdeal.nD Cert.RetSampleIdeal.τ).loc Cert.RetSampleIdeal.main_v43_0)) (v1 : (c : Dev Cert.RetSampleIdeal.nD) → Buf (Elt Ideal) ((c.tc : Thread Cert.RetSampleIdeal.nD Cert.RetSampleIdeal.τ).loc Cert.RetSampleIdeal.main_v43_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v43_0) = v0 c
          ∧ r.2.mem ((c.tc : Thread Cert.RetSampleIdeal.nD Cert.RetSampleIdeal.τ).loc Cert.RetSampleIdeal.main_v43_1) = v1 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ θ_run (Cert.RetSampleRefIdeal.defs (F := Ideal)) (onTc (τ := Cert.RetSampleRefIdeal.τ) (Cert.RetSampleRefIdeal.main (F := Ideal))) ⟨m', fun _ => 0, g'⟩ (fun r => ∀ c : Dev Cert.RetSampleRefIdeal.nD,
          r.2.mem ((c.tc : Thread Cert.RetSampleRefIdeal.nD Cert.RetSampleRefIdeal.τ).loc Cert.RetSampleRefIdeal.main_v89) = v0 c
          ∧ r.2.mem ((c.tc : Thread Cert.RetSampleRefIdeal.nD Cert.RetSampleRefIdeal.τ).loc Cert.RetSampleRefIdeal.main_v74) = v1 c
          ∧ r.2.mem ((c.tc : Thread Cert.RetSampleRefIdeal.nD Cert.RetSampleRefIdeal.τ).loc Cert.RetSampleRefIdeal.main_arg0) = m' ((c.tc : Thread Cert.RetSampleRefIdeal.nD Cert.RetSampleRefIdeal.τ).loc Cert.RetSampleRefIdeal.main_arg0)
          ∧ r.2.mem ((c.tc : Thread Cert.RetSampleRefIdeal.nD Cert.RetSampleRefIdeal.τ).loc Cert.RetSampleRefIdeal.main_arg1) = m' ((c.tc : Thread Cert.RetSampleRefIdeal.nD Cert.RetSampleRefIdeal.τ).loc Cert.RetSampleRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)
      ∧ m' ((c.tc : Thread Cert.RetInRefIdeal.nD Cert.RetInRefIdeal.τ).loc Cert.RetInRefIdeal.main_arg2) = m ((c.tc : Thread Cert.RetInIdeal.nD Cert.RetInIdeal.τ).loc Cert.RetInIdeal.main_arg2)) →
    ∃ (v0 : (c : Dev Cert.RetInIdeal.nD) → Buf (Elt Ideal) ((c.tc : Thread Cert.RetInIdeal.nD Cert.RetInIdeal.τ).loc Cert.RetInIdeal.main_v2)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v2) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v14) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1)
          ∧ r.2.mem ((c.tc : Thread Cert.RetInRefIdeal.nD Cert.RetInRefIdeal.τ).loc Cert.RetInRefIdeal.main_arg2) = m' ((c.tc : Thread Cert.RetInRefIdeal.nD Cert.RetInRefIdeal.τ).loc Cert.RetInRefIdeal.main_arg2))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v15) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3))

def preserves_SharedK_SharedKIdeal : Prop :=
  True

def algebraic_SharedKIdeal_SharedKRefIdeal [hSharedKIdeal : Cert.SharedKIdeal.Facts] [hSharedKRefIdeal : Cert.SharedKRefIdeal.Facts] : Prop :=
  ∀ (m : (ℓ : Loc Cert.SharedKIdeal.nD Cert.SharedKIdeal.τ Cert.SharedKIdeal.sig) → Buf (Elt Ideal) ℓ) (g : Dev Cert.SharedKIdeal.nD → PrngReg)
    (m' : (ℓ : Loc Cert.SharedKRefIdeal.nD Cert.SharedKRefIdeal.τ Cert.SharedKRefIdeal.sig) → Buf (Elt Ideal) ℓ) (g' : Dev Cert.SharedKRefIdeal.nD → PrngReg), Pre_SharedKIdeal m →
    (∀ c : Dev Cert.SharedKIdeal.nD,
      m' ((c.tc : Thread Cert.SharedKRefIdeal.nD Cert.SharedKRefIdeal.τ).loc Cert.SharedKRefIdeal.main_arg0) = m ((c.tc : Thread Cert.SharedKIdeal.nD Cert.SharedKIdeal.τ).loc Cert.SharedKIdeal.main_arg0)
      ∧ m' ((c.tc : Thread Cert.SharedKRefIdeal.nD Cert.SharedKRefIdeal.τ).loc Cert.SharedKRefIdeal.main_arg1) = m ((c.tc : Thread Cert.SharedKIdeal.nD Cert.SharedKIdeal.τ).loc Cert.SharedKIdeal.main_arg1)
      ∧ m' ((c.tc : Thread Cert.SharedKRefIdeal.nD Cert.SharedKRefIdeal.τ).loc Cert.SharedKRefIdeal.main_arg2) = m ((c.tc : Thread Cert.SharedKIdeal.nD Cert.SharedKIdeal.τ).loc Cert.SharedKIdeal.main_arg2)) →
    ∃ (v0 : (c : Dev Cert.SharedKIdeal.nD) → Buf (Elt Ideal) ((c.tc : Thread Cert.SharedKIdeal.nD Cert.SharedKIdeal.τ).loc Cert.SharedKIdeal.main_v3_0)) (v1 : (c : Dev Cert.SharedKIdeal.nD) → Buf (Elt Ideal) ((c.tc : Thread Cert.SharedKIdeal.nD Cert.SharedKIdeal.τ).loc Cert.SharedKIdeal.main_v3_1)),
      θ_run (Cert.SharedKIdeal.defs (F := Ideal)) (onTc (τ := Cert.SharedKIdeal.τ) (Cert.SharedKIdeal.main (F := Ideal))) ⟨m, fun _ => 0, g⟩ (fun r => ∀ c : Dev Cert.SharedKIdeal.nD,
          r.2.mem ((c.tc : Thread Cert.SharedKIdeal.nD Cert.SharedKIdeal.τ).loc Cert.SharedKIdeal.main_v3_0) = v0 c
          ∧ r.2.mem ((c.tc : Thread Cert.SharedKIdeal.nD Cert.SharedKIdeal.τ).loc Cert.SharedKIdeal.main_v3_1) = v1 c
          ∧ r.2.mem ((c.tc : Thread Cert.SharedKIdeal.nD Cert.SharedKIdeal.τ).loc Cert.SharedKIdeal.main_arg0) = m ((c.tc : Thread Cert.SharedKIdeal.nD Cert.SharedKIdeal.τ).loc Cert.SharedKIdeal.main_arg0)
          ∧ r.2.mem ((c.tc : Thread Cert.SharedKIdeal.nD Cert.SharedKIdeal.τ).loc Cert.SharedKIdeal.main_arg1) = m ((c.tc : Thread Cert.SharedKIdeal.nD Cert.SharedKIdeal.τ).loc Cert.SharedKIdeal.main_arg1)
          ∧ r.2.mem ((c.tc : Thread Cert.SharedKIdeal.nD Cert.SharedKIdeal.τ).loc Cert.SharedKIdeal.main_arg2) = m ((c.tc : Thread Cert.SharedKIdeal.nD Cert.SharedKIdeal.τ).loc Cert.SharedKIdeal.main_arg2))
      ∧ θ_run (Cert.SharedKRefIdeal.defs (F := Ideal)) (onTc (τ := Cert.SharedKRefIdeal.τ) (Cert.SharedKRefIdeal.main (F := Ideal))) ⟨m', fun _ => 0, g'⟩ (fun r => ∀ c : Dev Cert.SharedKRefIdeal.nD,
          r.2.mem ((c.tc : Thread Cert.SharedKRefIdeal.nD Cert.SharedKRefIdeal.τ).loc Cert.SharedKRefIdeal.main_v14) = v0 c
          ∧ r.2.mem ((c.tc : Thread Cert.SharedKRefIdeal.nD Cert.SharedKRefIdeal.τ).loc Cert.SharedKRefIdeal.main_v16) = v1 c
          ∧ r.2.mem ((c.tc : Thread Cert.SharedKRefIdeal.nD Cert.SharedKRefIdeal.τ).loc Cert.SharedKRefIdeal.main_arg0) = m' ((c.tc : Thread Cert.SharedKRefIdeal.nD Cert.SharedKRefIdeal.τ).loc Cert.SharedKRefIdeal.main_arg0)
          ∧ r.2.mem ((c.tc : Thread Cert.SharedKRefIdeal.nD Cert.SharedKRefIdeal.τ).loc Cert.SharedKRefIdeal.main_arg1) = m' ((c.tc : Thread Cert.SharedKRefIdeal.nD Cert.SharedKRefIdeal.τ).loc Cert.SharedKRefIdeal.main_arg1)
          ∧ r.2.mem ((c.tc : Thread Cert.SharedKRefIdeal.nD Cert.SharedKRefIdeal.τ).loc Cert.SharedKRefIdeal.main_arg2) = m' ((c.tc : Thread Cert.SharedKRefIdeal.nD Cert.SharedKRefIdeal.τ).loc Cert.SharedKRefIdeal.main_arg2))

def preserves_SharedV_SharedVIdeal : Prop :=
  True

def algebraic_SharedVIdeal_SharedVRefIdeal [hSharedVIdeal : Cert.SharedVIdeal.Facts] [hSharedVRefIdeal : Cert.SharedVRefIdeal.Facts] : Prop :=
  ∀ (m : (ℓ : Loc Cert.SharedVIdeal.nD Cert.SharedVIdeal.τ Cert.SharedVIdeal.sig) → Buf (Elt Ideal) ℓ) (g : Dev Cert.SharedVIdeal.nD → PrngReg)
    (m' : (ℓ : Loc Cert.SharedVRefIdeal.nD Cert.SharedVRefIdeal.τ Cert.SharedVRefIdeal.sig) → Buf (Elt Ideal) ℓ) (g' : Dev Cert.SharedVRefIdeal.nD → PrngReg), Pre_SharedVIdeal m →
    (∀ c : Dev Cert.SharedVIdeal.nD,
      m' ((c.tc : Thread Cert.SharedVRefIdeal.nD Cert.SharedVRefIdeal.τ).loc Cert.SharedVRefIdeal.main_arg0) = m ((c.tc : Thread Cert.SharedVIdeal.nD Cert.SharedVIdeal.τ).loc Cert.SharedVIdeal.main_arg0)
      ∧ m' ((c.tc : Thread Cert.SharedVRefIdeal.nD Cert.SharedVRefIdeal.τ).loc Cert.SharedVRefIdeal.main_arg1) = m ((c.tc : Thread Cert.SharedVIdeal.nD Cert.SharedVIdeal.τ).loc Cert.SharedVIdeal.main_arg1)
      ∧ m' ((c.tc : Thread Cert.SharedVRefIdeal.nD Cert.SharedVRefIdeal.τ).loc Cert.SharedVRefIdeal.main_arg2) = m ((c.tc : Thread Cert.SharedVIdeal.nD Cert.SharedVIdeal.τ).loc Cert.SharedVIdeal.main_arg2)) →
    ∃ (v0 : (c : Dev Cert.SharedVIdeal.nD) → Buf (Elt Ideal) ((c.tc : Thread Cert.SharedVIdeal.nD Cert.SharedVIdeal.τ).loc Cert.SharedVIdeal.main_v3_0)) (v1 : (c : Dev Cert.SharedVIdeal.nD) → Buf (Elt Ideal) ((c.tc : Thread Cert.SharedVIdeal.nD Cert.SharedVIdeal.τ).loc Cert.SharedVIdeal.main_v3_1)),
      θ_run (Cert.SharedVIdeal.defs (F := Ideal)) (onTc (τ := Cert.SharedVIdeal.τ) (Cert.SharedVIdeal.main (F := Ideal))) ⟨m, fun _ => 0, g⟩ (fun r => ∀ c : Dev Cert.SharedVIdeal.nD,
          r.2.mem ((c.tc : Thread Cert.SharedVIdeal.nD Cert.SharedVIdeal.τ).loc Cert.SharedVIdeal.main_v3_0) = v0 c
          ∧ r.2.mem ((c.tc : Thread Cert.SharedVIdeal.nD Cert.SharedVIdeal.τ).loc Cert.SharedVIdeal.main_v3_1) = v1 c
          ∧ r.2.mem ((c.tc : Thread Cert.SharedVIdeal.nD Cert.SharedVIdeal.τ).loc Cert.SharedVIdeal.main_arg0) = m ((c.tc : Thread Cert.SharedVIdeal.nD Cert.SharedVIdeal.τ).loc Cert.SharedVIdeal.main_arg0)
          ∧ r.2.mem ((c.tc : Thread Cert.SharedVIdeal.nD Cert.SharedVIdeal.τ).loc Cert.SharedVIdeal.main_arg1) = m ((c.tc : Thread Cert.SharedVIdeal.nD Cert.SharedVIdeal.τ).loc Cert.SharedVIdeal.main_arg1)
          ∧ r.2.mem ((c.tc : Thread Cert.SharedVIdeal.nD Cert.SharedVIdeal.τ).loc Cert.SharedVIdeal.main_arg2) = m ((c.tc : Thread Cert.SharedVIdeal.nD Cert.SharedVIdeal.τ).loc Cert.SharedVIdeal.main_arg2))
      ∧ θ_run (Cert.SharedVRefIdeal.defs (F := Ideal)) (onTc (τ := Cert.SharedVRefIdeal.τ) (Cert.SharedVRefIdeal.main (F := Ideal))) ⟨m', fun _ => 0, g'⟩ (fun r => ∀ c : Dev Cert.SharedVRefIdeal.nD,
          r.2.mem ((c.tc : Thread Cert.SharedVRefIdeal.nD Cert.SharedVRefIdeal.τ).loc Cert.SharedVRefIdeal.main_v15) = v0 c
          ∧ r.2.mem ((c.tc : Thread Cert.SharedVRefIdeal.nD Cert.SharedVRefIdeal.τ).loc Cert.SharedVRefIdeal.main_v16) = v1 c
          ∧ r.2.mem ((c.tc : Thread Cert.SharedVRefIdeal.nD Cert.SharedVRefIdeal.τ).loc Cert.SharedVRefIdeal.main_arg0) = m' ((c.tc : Thread Cert.SharedVRefIdeal.nD Cert.SharedVRefIdeal.τ).loc Cert.SharedVRefIdeal.main_arg0)
          ∧ r.2.mem ((c.tc : Thread Cert.SharedVRefIdeal.nD Cert.SharedVRefIdeal.τ).loc Cert.SharedVRefIdeal.main_arg1) = m' ((c.tc : Thread Cert.SharedVRefIdeal.nD Cert.SharedVRefIdeal.τ).loc Cert.SharedVRefIdeal.main_arg1)
          ∧ r.2.mem ((c.tc : Thread Cert.SharedVRefIdeal.nD Cert.SharedVRefIdeal.τ).loc Cert.SharedVRefIdeal.main_arg2) = m' ((c.tc : Thread Cert.SharedVRefIdeal.nD Cert.SharedVRefIdeal.τ).loc Cert.SharedVRefIdeal.main_arg2))

def preserves_DiffQ_DiffQIdeal : Prop :=
  True

def algebraic_DiffQIdeal_DiffQRefIdeal [hDiffQIdeal : Cert.DiffQIdeal.Facts] [hDiffQRefIdeal : Cert.DiffQRefIdeal.Facts] : Prop :=
  ∀ (m : (ℓ : Loc Cert.DiffQIdeal.nD Cert.DiffQIdeal.τ Cert.DiffQIdeal.sig) → Buf (Elt Ideal) ℓ) (g : Dev Cert.DiffQIdeal.nD → PrngReg)
    (m' : (ℓ : Loc Cert.DiffQRefIdeal.nD Cert.DiffQRefIdeal.τ Cert.DiffQRefIdeal.sig) → Buf (Elt Ideal) ℓ) (g' : Dev Cert.DiffQRefIdeal.nD → PrngReg), Pre_DiffQIdeal m →
    (∀ c : Dev Cert.DiffQIdeal.nD,
      m' ((c.tc : Thread Cert.DiffQRefIdeal.nD Cert.DiffQRefIdeal.τ).loc Cert.DiffQRefIdeal.main_arg0) = m ((c.tc : Thread Cert.DiffQIdeal.nD Cert.DiffQIdeal.τ).loc Cert.DiffQIdeal.main_arg0)
      ∧ m' ((c.tc : Thread Cert.DiffQRefIdeal.nD Cert.DiffQRefIdeal.τ).loc Cert.DiffQRefIdeal.main_arg1) = m ((c.tc : Thread Cert.DiffQIdeal.nD Cert.DiffQIdeal.τ).loc Cert.DiffQIdeal.main_arg1)
      ∧ m' ((c.tc : Thread Cert.DiffQRefIdeal.nD Cert.DiffQRefIdeal.τ).loc Cert.DiffQRefIdeal.main_arg2) = m ((c.tc : Thread Cert.DiffQIdeal.nD Cert.DiffQIdeal.τ).loc Cert.DiffQIdeal.main_arg2)) →
    ∃ (v0 : (c : Dev Cert.DiffQIdeal.nD) → Buf (Elt Ideal) ((c.tc : Thread Cert.DiffQIdeal.nD Cert.DiffQIdeal.τ).loc Cert.DiffQIdeal.main_v2)),
      θ_run (Cert.DiffQIdeal.defs (F := Ideal)) (onTc (τ := Cert.DiffQIdeal.τ) (Cert.DiffQIdeal.main (F := Ideal))) ⟨m, fun _ => 0, g⟩ (fun r => ∀ c : Dev Cert.DiffQIdeal.nD,
          r.2.mem ((c.tc : Thread Cert.DiffQIdeal.nD Cert.DiffQIdeal.τ).loc Cert.DiffQIdeal.main_v2) = v0 c
          ∧ r.2.mem ((c.tc : Thread Cert.DiffQIdeal.nD Cert.DiffQIdeal.τ).loc Cert.DiffQIdeal.main_arg0) = m ((c.tc : Thread Cert.DiffQIdeal.nD Cert.DiffQIdeal.τ).loc Cert.DiffQIdeal.main_arg0)
          ∧ r.2.mem ((c.tc : Thread Cert.DiffQIdeal.nD Cert.DiffQIdeal.τ).loc Cert.DiffQIdeal.main_arg1) = m ((c.tc : Thread Cert.DiffQIdeal.nD Cert.DiffQIdeal.τ).loc Cert.DiffQIdeal.main_arg1)
          ∧ r.2.mem ((c.tc : Thread Cert.DiffQIdeal.nD Cert.DiffQIdeal.τ).loc Cert.DiffQIdeal.main_arg2) = m ((c.tc : Thread Cert.DiffQIdeal.nD Cert.DiffQIdeal.τ).loc Cert.DiffQIdeal.main_arg2))
      ∧ θ_run (Cert.DiffQRefIdeal.defs (F := Ideal)) (onTc (τ := Cert.DiffQRefIdeal.τ) (Cert.DiffQRefIdeal.main (F := Ideal))) ⟨m', fun _ => 0, g'⟩ (fun r => ∀ c : Dev Cert.DiffQRefIdeal.nD,
          r.2.mem ((c.tc : Thread Cert.DiffQRefIdeal.nD Cert.DiffQRefIdeal.τ).loc Cert.DiffQRefIdeal.main_v16) = v0 c
          ∧ r.2.mem ((c.tc : Thread Cert.DiffQRefIdeal.nD Cert.DiffQRefIdeal.τ).loc Cert.DiffQRefIdeal.main_arg0) = m' ((c.tc : Thread Cert.DiffQRefIdeal.nD Cert.DiffQRefIdeal.τ).loc Cert.DiffQRefIdeal.main_arg0)
          ∧ r.2.mem ((c.tc : Thread Cert.DiffQRefIdeal.nD Cert.DiffQRefIdeal.τ).loc Cert.DiffQRefIdeal.main_arg1) = m' ((c.tc : Thread Cert.DiffQRefIdeal.nD Cert.DiffQRefIdeal.τ).loc Cert.DiffQRefIdeal.main_arg1)
          ∧ r.2.mem ((c.tc : Thread Cert.DiffQRefIdeal.nD Cert.DiffQRefIdeal.τ).loc Cert.DiffQRefIdeal.main_arg2) = m' ((c.tc : Thread Cert.DiffQRefIdeal.nD Cert.DiffQRefIdeal.τ).loc Cert.DiffQRefIdeal.main_arg2))

def preserves_DiffOut_DiffOutIdeal : Prop :=
  True

def algebraic_DiffOutIdeal_DiffOutRefIdeal [hDiffOutIdeal : Cert.DiffOutIdeal.Facts] [hDiffOutRefIdeal : Cert.DiffOutRefIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg)
    (m' : (ℓ : Loc Cert.DiffOutRefIdeal.nD Cert.DiffOutRefIdeal.τ Cert.DiffOutRefIdeal.sig) → Buf (Elt Ideal) ℓ) (g' : Dev Cert.DiffOutRefIdeal.nD → PrngReg), Pre_DiffOutIdeal m →
    (∀ c : Dev Cert.DiffOutIdeal.nD,
      m' ((c.tc : Thread Cert.DiffOutRefIdeal.nD Cert.DiffOutRefIdeal.τ).loc Cert.DiffOutRefIdeal.main_arg0) = m ((c.tc : Thread Cert.DiffOutIdeal.nD Cert.DiffOutIdeal.τ).loc Cert.DiffOutIdeal.main_arg0)
      ∧ m' ((c.tc : Thread Cert.DiffOutRefIdeal.nD Cert.DiffOutRefIdeal.τ).loc Cert.DiffOutRefIdeal.main_arg1) = m ((c.tc : Thread Cert.DiffOutIdeal.nD Cert.DiffOutIdeal.τ).loc Cert.DiffOutIdeal.main_arg1)
      ∧ m' ((c.tc : Thread Cert.DiffOutRefIdeal.nD Cert.DiffOutRefIdeal.τ).loc Cert.DiffOutRefIdeal.main_arg2) = m ((c.tc : Thread Cert.DiffOutIdeal.nD Cert.DiffOutIdeal.τ).loc Cert.DiffOutIdeal.main_arg2)
      ∧ m' ((c.tc : Thread Cert.DiffOutRefIdeal.nD Cert.DiffOutRefIdeal.τ).loc Cert.DiffOutRefIdeal.main_arg3) = m ((c.tc : Thread Cert.DiffOutIdeal.nD Cert.DiffOutIdeal.τ).loc Cert.DiffOutIdeal.main_arg3)) →
    ∃ (v0 : (c : Dev Cert.DiffOutIdeal.nD) → Buf (Elt Ideal) ((c.tc : Thread Cert.DiffOutIdeal.nD Cert.DiffOutIdeal.τ).loc Cert.DiffOutIdeal.main_v2)),
      θ_run (Cert.DiffOutIdeal.defs (F := Ideal)) (onTc (τ := Cert.DiffOutIdeal.τ) (Cert.DiffOutIdeal.main (F := Ideal))) ⟨m, fun _ => 0, g⟩ (fun r => ∀ c : Dev Cert.DiffOutIdeal.nD,
          r.2.mem ((c.tc : Thread Cert.DiffOutIdeal.nD Cert.DiffOutIdeal.τ).loc Cert.DiffOutIdeal.main_v2) = v0 c
          ∧ r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
          ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1)
          ∧ r.2.mem ((c.tc : Thread Cert.DiffOutIdeal.nD Cert.DiffOutIdeal.τ).loc Cert.DiffOutIdeal.main_arg2) = m ((c.tc : Thread Cert.DiffOutIdeal.nD Cert.DiffOutIdeal.τ).loc Cert.DiffOutIdeal.main_arg2)
          ∧ r.2.mem ((c.tc : Thread Cert.DiffOutIdeal.nD Cert.DiffOutIdeal.τ).loc Cert.DiffOutIdeal.main_arg3) = m ((c.tc : Thread Cert.DiffOutIdeal.nD Cert.DiffOutIdeal.τ).loc Cert.DiffOutIdeal.main_arg3))
      ∧ θ_run (Cert.DiffOutRefIdeal.defs (F := Ideal)) (onTc (τ := Cert.DiffOutRefIdeal.τ) (Cert.DiffOutRefIdeal.main (F := Ideal))) ⟨m', fun _ => 0, g'⟩ (fun r => ∀ c : Dev Cert.DiffOutRefIdeal.nD,
          r.2.mem ((c.tc : Thread Cert.DiffOutRefIdeal.nD Cert.DiffOutRefIdeal.τ).loc Cert.DiffOutRefIdeal.main_v15) = v0 c
          ∧ r.2.mem ((c.tc : Thread Cert.DiffOutRefIdeal.nD Cert.DiffOutRefIdeal.τ).loc Cert.DiffOutRefIdeal.main_arg0) = m' ((c.tc : Thread Cert.DiffOutRefIdeal.nD Cert.DiffOutRefIdeal.τ).loc Cert.DiffOutRefIdeal.main_arg0)
          ∧ r.2.mem ((c.tc : Thread Cert.DiffOutRefIdeal.nD Cert.DiffOutRefIdeal.τ).loc Cert.DiffOutRefIdeal.main_arg1) = m' ((c.tc : Thread Cert.DiffOutRefIdeal.nD Cert.DiffOutRefIdeal.τ).loc Cert.DiffOutRefIdeal.main_arg1)
          ∧ r.2.mem ((c.tc : Thread Cert.DiffOutRefIdeal.nD Cert.DiffOutRefIdeal.τ).loc Cert.DiffOutRefIdeal.main_arg2) = m' ((c.tc : Thread Cert.DiffOutRefIdeal.nD Cert.DiffOutRefIdeal.τ).loc Cert.DiffOutRefIdeal.main_arg2)
          ∧ r.2.mem ((c.tc : Thread Cert.DiffOutRefIdeal.nD Cert.DiffOutRefIdeal.τ).loc Cert.DiffOutRefIdeal.main_arg3) = m' ((c.tc : Thread Cert.DiffOutRefIdeal.nD Cert.DiffOutRefIdeal.τ).loc Cert.DiffOutRefIdeal.main_arg3))

def preserves_RetPrompt_RetPromptIdeal : Prop :=
  True

def algebraic_RetPromptIdeal_RetPromptRefIdeal_pre_finite_proj [hRetPromptIdeal : Cert.RetPromptIdeal.Facts] [hRetPromptRefIdeal : Cert.RetPromptRefIdeal.Facts] [hPre_finite_proj : Cert.Pre_finite_proj.Facts] : Prop :=
  ∀ (m : (ℓ : Loc Cert.RetPromptIdeal.nD Cert.RetPromptIdeal.τ Cert.RetPromptIdeal.sig) → Buf (Elt Ideal) ℓ) (g : Dev Cert.RetPromptIdeal.nD → PrngReg)
    (m' : (ℓ : Loc Cert.RetPromptRefIdeal.nD Cert.RetPromptRefIdeal.τ Cert.RetPromptRefIdeal.sig) → Buf (Elt Ideal) ℓ) (g' : Dev Cert.RetPromptRefIdeal.nD → PrngReg), Pre_RetPromptIdeal_finite_proj m →
    (∀ c : Dev Cert.RetPromptIdeal.nD,
      m' ((c.tc : Thread Cert.RetPromptRefIdeal.nD Cert.RetPromptRefIdeal.τ).loc Cert.RetPromptRefIdeal.main_arg0) = m ((c.tc : Thread Cert.RetPromptIdeal.nD Cert.RetPromptIdeal.τ).loc Cert.RetPromptIdeal.main_arg0)) →
    ∃ (v0 : (c : Dev Cert.RetPromptIdeal.nD) → Buf (Elt Ideal) ((c.tc : Thread Cert.RetPromptIdeal.nD Cert.RetPromptIdeal.τ).loc Cert.RetPromptIdeal.main_v43_0)) (v1 : (c : Dev Cert.RetPromptIdeal.nD) → Buf (Elt Ideal) ((c.tc : Thread Cert.RetPromptIdeal.nD Cert.RetPromptIdeal.τ).loc Cert.RetPromptIdeal.main_v43_1)),
      θ_run (Cert.RetPromptIdeal.defs (F := Ideal)) (onTc (τ := Cert.RetPromptIdeal.τ) (Cert.RetPromptIdeal.main (F := Ideal))) ⟨m, fun _ => 0, g⟩ (fun r => ∀ c : Dev Cert.RetPromptIdeal.nD,
          r.2.mem ((c.tc : Thread Cert.RetPromptIdeal.nD Cert.RetPromptIdeal.τ).loc Cert.RetPromptIdeal.main_v43_0) = v0 c
          ∧ r.2.mem ((c.tc : Thread Cert.RetPromptIdeal.nD Cert.RetPromptIdeal.τ).loc Cert.RetPromptIdeal.main_v43_1) = v1 c
          ∧ r.2.mem ((c.tc : Thread Cert.RetPromptIdeal.nD Cert.RetPromptIdeal.τ).loc Cert.RetPromptIdeal.main_arg0) = m ((c.tc : Thread Cert.RetPromptIdeal.nD Cert.RetPromptIdeal.τ).loc Cert.RetPromptIdeal.main_arg0))
      ∧ θ_run (Cert.RetPromptRefIdeal.defs (F := Ideal)) (onTc (τ := Cert.RetPromptRefIdeal.τ) (Cert.RetPromptRefIdeal.main (F := Ideal))) ⟨m', fun _ => 0, g'⟩ (fun r => ∀ c : Dev Cert.RetPromptRefIdeal.nD,
          r.2.mem ((c.tc : Thread Cert.RetPromptRefIdeal.nD Cert.RetPromptRefIdeal.τ).loc Cert.RetPromptRefIdeal.main_v83) = v0 c
          ∧ r.2.mem ((c.tc : Thread Cert.RetPromptRefIdeal.nD Cert.RetPromptRefIdeal.τ).loc Cert.RetPromptRefIdeal.main_v63_8) = v1 c
          ∧ r.2.mem ((c.tc : Thread Cert.RetPromptRefIdeal.nD Cert.RetPromptRefIdeal.τ).loc Cert.RetPromptRefIdeal.main_arg0) = m' ((c.tc : Thread Cert.RetPromptRefIdeal.nD Cert.RetPromptRefIdeal.τ).loc Cert.RetPromptRefIdeal.main_arg0))

def preserves_DiffAttn_DiffAttnIdeal : Prop :=
  True

def algebraic_DiffAttnIdeal_DiffAttnRefIdeal_pre_finite [hDiffAttnIdeal : Cert.DiffAttnIdeal.Facts] [hDiffAttnRefIdeal : Cert.DiffAttnRefIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg)
    (m' : (ℓ : Loc Cert.DiffAttnRefIdeal.nD Cert.DiffAttnRefIdeal.τ Cert.DiffAttnRefIdeal.sig) → Buf (Elt Ideal) ℓ) (g' : Dev Cert.DiffAttnRefIdeal.nD → PrngReg), Pre_DiffAttnIdeal_finite m →
    (∀ c : Dev Cert.DiffAttnIdeal.nD,
      m' ((c.tc : Thread Cert.DiffAttnRefIdeal.nD Cert.DiffAttnRefIdeal.τ).loc Cert.DiffAttnRefIdeal.main_arg0) = m ((c.tc : Thread Cert.DiffAttnIdeal.nD Cert.DiffAttnIdeal.τ).loc Cert.DiffAttnIdeal.main_arg0)
      ∧ m' ((c.tc : Thread Cert.DiffAttnRefIdeal.nD Cert.DiffAttnRefIdeal.τ).loc Cert.DiffAttnRefIdeal.main_arg1) = m ((c.tc : Thread Cert.DiffAttnIdeal.nD Cert.DiffAttnIdeal.τ).loc Cert.DiffAttnIdeal.main_arg1)
      ∧ m' ((c.tc : Thread Cert.DiffAttnRefIdeal.nD Cert.DiffAttnRefIdeal.τ).loc Cert.DiffAttnRefIdeal.main_arg2) = m ((c.tc : Thread Cert.DiffAttnIdeal.nD Cert.DiffAttnIdeal.τ).loc Cert.DiffAttnIdeal.main_arg2)
      ∧ m' ((c.tc : Thread Cert.DiffAttnRefIdeal.nD Cert.DiffAttnRefIdeal.τ).loc Cert.DiffAttnRefIdeal.main_arg3) = m ((c.tc : Thread Cert.DiffAttnIdeal.nD Cert.DiffAttnIdeal.τ).loc Cert.DiffAttnIdeal.main_arg3)
      ∧ m' ((c.tc : Thread Cert.DiffAttnRefIdeal.nD Cert.DiffAttnRefIdeal.τ).loc Cert.DiffAttnRefIdeal.main_arg4) = m ((c.tc : Thread Cert.DiffAttnIdeal.nD Cert.DiffAttnIdeal.τ).loc Cert.DiffAttnIdeal.main_arg4)) →
    ∃ (v0 : (c : Dev Cert.DiffAttnIdeal.nD) → Buf (Elt Ideal) ((c.tc : Thread Cert.DiffAttnIdeal.nD Cert.DiffAttnIdeal.τ).loc Cert.DiffAttnIdeal.main_v59)),
      θ_run (Cert.DiffAttnIdeal.defs (F := Ideal)) (onTc (τ := Cert.DiffAttnIdeal.τ) (Cert.DiffAttnIdeal.main (F := Ideal))) ⟨m, fun _ => 0, g⟩ (fun r => ∀ c : Dev Cert.DiffAttnIdeal.nD,
          r.2.mem ((c.tc : Thread Cert.DiffAttnIdeal.nD Cert.DiffAttnIdeal.τ).loc Cert.DiffAttnIdeal.main_v59) = v0 c
          ∧ r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
          ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
          ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
          ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
          ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4))
      ∧ θ_run (Cert.DiffAttnRefIdeal.defs (F := Ideal)) (onTc (τ := Cert.DiffAttnRefIdeal.τ) (Cert.DiffAttnRefIdeal.main (F := Ideal))) ⟨m', fun _ => 0, g'⟩ (fun r => ∀ c : Dev Cert.DiffAttnRefIdeal.nD,
          r.2.mem ((c.tc : Thread Cert.DiffAttnRefIdeal.nD Cert.DiffAttnRefIdeal.τ).loc Cert.DiffAttnRefIdeal.main_v99) = v0 c
          ∧ r.2.mem ((c.tc : Thread Cert.DiffAttnRefIdeal.nD Cert.DiffAttnRefIdeal.τ).loc Cert.DiffAttnRefIdeal.main_arg0) = m' ((c.tc : Thread Cert.DiffAttnRefIdeal.nD Cert.DiffAttnRefIdeal.τ).loc Cert.DiffAttnRefIdeal.main_arg0)
          ∧ r.2.mem ((c.tc : Thread Cert.DiffAttnRefIdeal.nD Cert.DiffAttnRefIdeal.τ).loc Cert.DiffAttnRefIdeal.main_arg1) = m' ((c.tc : Thread Cert.DiffAttnRefIdeal.nD Cert.DiffAttnRefIdeal.τ).loc Cert.DiffAttnRefIdeal.main_arg1)
          ∧ r.2.mem ((c.tc : Thread Cert.DiffAttnRefIdeal.nD Cert.DiffAttnRefIdeal.τ).loc Cert.DiffAttnRefIdeal.main_arg2) = m' ((c.tc : Thread Cert.DiffAttnRefIdeal.nD Cert.DiffAttnRefIdeal.τ).loc Cert.DiffAttnRefIdeal.main_arg2)
          ∧ r.2.mem ((c.tc : Thread Cert.DiffAttnRefIdeal.nD Cert.DiffAttnRefIdeal.τ).loc Cert.DiffAttnRefIdeal.main_arg3) = m' ((c.tc : Thread Cert.DiffAttnRefIdeal.nD Cert.DiffAttnRefIdeal.τ).loc Cert.DiffAttnRefIdeal.main_arg3)
          ∧ r.2.mem ((c.tc : Thread Cert.DiffAttnRefIdeal.nD Cert.DiffAttnRefIdeal.τ).loc Cert.DiffAttnRefIdeal.main_arg4) = m' ((c.tc : Thread Cert.DiffAttnRefIdeal.nD Cert.DiffAttnRefIdeal.τ).loc Cert.DiffAttnRefIdeal.main_arg4))

def Claim : Prop :=
  ∃ (hRetSample : Cert.RetSample.Facts) (hRetSampleIdeal : Cert.RetSampleIdeal.Facts) (hRetSampleRefIdeal : Cert.RetSampleRefIdeal.Facts) (hMlp : Cert.Mlp.Facts) (hMlpIdeal : Cert.MlpIdeal.Facts) (hMlpRefIdeal : Cert.MlpRefIdeal.Facts) (hRetIn : Cert.RetIn.Facts) (hRetInIdeal : Cert.RetInIdeal.Facts) (hRetInRefIdeal : Cert.RetInRefIdeal.Facts) (hRetOut : Cert.RetOut.Facts) (hRetOutIdeal : Cert.RetOutIdeal.Facts) (hRetOutRefIdeal : Cert.RetOutRefIdeal.Facts) (hSharedK : Cert.SharedK.Facts) (hSharedKIdeal : Cert.SharedKIdeal.Facts) (hSharedKRefIdeal : Cert.SharedKRefIdeal.Facts) (hSharedV : Cert.SharedV.Facts) (hSharedVIdeal : Cert.SharedVIdeal.Facts) (hSharedVRefIdeal : Cert.SharedVRefIdeal.Facts) (hDiffQ : Cert.DiffQ.Facts) (hDiffQIdeal : Cert.DiffQIdeal.Facts) (hDiffQRefIdeal : Cert.DiffQRefIdeal.Facts) (hDiffOut : Cert.DiffOut.Facts) (hDiffOutIdeal : Cert.DiffOutIdeal.Facts) (hDiffOutRefIdeal : Cert.DiffOutRefIdeal.Facts) (hRetPrompt : Cert.RetPrompt.Facts) (hRetPromptIdeal : Cert.RetPromptIdeal.Facts) (hRetPromptRefIdeal : Cert.RetPromptRefIdeal.Facts) (hDiffAttn : Cert.DiffAttn.Facts) (hDiffAttnIdeal : Cert.DiffAttnIdeal.Facts) (hDiffAttnRefIdeal : Cert.DiffAttnRefIdeal.Facts) (hPre_finite_proj : Cert.Pre_finite_proj.Facts) (hPre_finite : Cert.Pre_finite.Facts),
    quiescent_RetSample (hRetSample := hRetSample)
    ∧ quiescent_RetSampleIdeal (hRetSampleIdeal := hRetSampleIdeal)
    ∧ quiescent_RetSampleRefIdeal (hRetSampleRefIdeal := hRetSampleRefIdeal)
    ∧ quiescent_Mlp (hMlp := hMlp)
    ∧ quiescent_MlpIdeal (hMlpIdeal := hMlpIdeal)
    ∧ quiescent_MlpRefIdeal (hMlpRefIdeal := hMlpRefIdeal)
    ∧ quiescent_RetIn (hRetIn := hRetIn)
    ∧ quiescent_RetInIdeal (hRetInIdeal := hRetInIdeal)
    ∧ quiescent_RetInRefIdeal (hRetInRefIdeal := hRetInRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_SharedK (hSharedK := hSharedK)
    ∧ quiescent_SharedKIdeal (hSharedKIdeal := hSharedKIdeal)
    ∧ quiescent_SharedKRefIdeal (hSharedKRefIdeal := hSharedKRefIdeal)
    ∧ quiescent_SharedV (hSharedV := hSharedV)
    ∧ quiescent_SharedVIdeal (hSharedVIdeal := hSharedVIdeal)
    ∧ quiescent_SharedVRefIdeal (hSharedVRefIdeal := hSharedVRefIdeal)
    ∧ quiescent_DiffQ (hDiffQ := hDiffQ)
    ∧ quiescent_DiffQIdeal (hDiffQIdeal := hDiffQIdeal)
    ∧ quiescent_DiffQRefIdeal (hDiffQRefIdeal := hDiffQRefIdeal)
    ∧ quiescent_DiffOut (hDiffOut := hDiffOut)
    ∧ quiescent_DiffOutIdeal (hDiffOutIdeal := hDiffOutIdeal)
    ∧ quiescent_DiffOutRefIdeal (hDiffOutRefIdeal := hDiffOutRefIdeal)
    ∧ quiescent_RetPrompt (hRetPrompt := hRetPrompt)
    ∧ quiescent_RetPromptIdeal (hRetPromptIdeal := hRetPromptIdeal)
    ∧ quiescent_RetPromptIdeal_pre_finite_proj (hRetPromptIdeal := hRetPromptIdeal) (hPre_finite_proj := hPre_finite_proj)
    ∧ quiescent_RetPromptRefIdeal (hRetPromptRefIdeal := hRetPromptRefIdeal)
    ∧ quiescent_RetPromptRefIdeal_pre_finite_proj (hRetPromptRefIdeal := hRetPromptRefIdeal) (hPre_finite_proj := hPre_finite_proj)
    ∧ quiescent_DiffAttn (hDiffAttn := hDiffAttn)
    ∧ quiescent_DiffAttnIdeal (hDiffAttnIdeal := hDiffAttnIdeal)
    ∧ quiescent_DiffAttnIdeal_pre_finite (hDiffAttnIdeal := hDiffAttnIdeal) (hPre_finite := hPre_finite)
    ∧ quiescent_DiffAttnRefIdeal (hDiffAttnRefIdeal := hDiffAttnRefIdeal)
    ∧ quiescent_DiffAttnRefIdeal_pre_finite (hDiffAttnRefIdeal := hDiffAttnRefIdeal) (hPre_finite := hPre_finite)
    ∧ preserves_RetSample_RetSampleIdeal
    ∧ algebraic_RetSampleIdeal_RetSampleRefIdeal (hRetSampleIdeal := hRetSampleIdeal) (hRetSampleRefIdeal := hRetSampleRefIdeal)
    ∧ preserves_Mlp_MlpIdeal
    ∧ algebraic_MlpIdeal_MlpRefIdeal (hMlpIdeal := hMlpIdeal) (hMlpRefIdeal := hMlpRefIdeal)
    ∧ preserves_RetIn_RetInIdeal
    ∧ algebraic_RetInIdeal_RetInRefIdeal (hRetInIdeal := hRetInIdeal) (hRetInRefIdeal := hRetInRefIdeal)
    ∧ preserves_RetOut_RetOutIdeal
    ∧ algebraic_RetOutIdeal_RetOutRefIdeal (hRetOutIdeal := hRetOutIdeal) (hRetOutRefIdeal := hRetOutRefIdeal)
    ∧ preserves_SharedK_SharedKIdeal
    ∧ algebraic_SharedKIdeal_SharedKRefIdeal (hSharedKIdeal := hSharedKIdeal) (hSharedKRefIdeal := hSharedKRefIdeal)
    ∧ preserves_SharedV_SharedVIdeal
    ∧ algebraic_SharedVIdeal_SharedVRefIdeal (hSharedVIdeal := hSharedVIdeal) (hSharedVRefIdeal := hSharedVRefIdeal)
    ∧ preserves_DiffQ_DiffQIdeal
    ∧ algebraic_DiffQIdeal_DiffQRefIdeal (hDiffQIdeal := hDiffQIdeal) (hDiffQRefIdeal := hDiffQRefIdeal)
    ∧ preserves_DiffOut_DiffOutIdeal
    ∧ algebraic_DiffOutIdeal_DiffOutRefIdeal (hDiffOutIdeal := hDiffOutIdeal) (hDiffOutRefIdeal := hDiffOutRefIdeal)
    ∧ preserves_RetPrompt_RetPromptIdeal
    ∧ algebraic_RetPromptIdeal_RetPromptRefIdeal_pre_finite_proj (hRetPromptIdeal := hRetPromptIdeal) (hRetPromptRefIdeal := hRetPromptRefIdeal) (hPre_finite_proj := hPre_finite_proj)
    ∧ preserves_DiffAttn_DiffAttnIdeal
    ∧ algebraic_DiffAttnIdeal_DiffAttnRefIdeal_pre_finite (hDiffAttnIdeal := hDiffAttnIdeal) (hDiffAttnRefIdeal := hDiffAttnRefIdeal) (hPre_finite := hPre_finite)
-- ==== Pre_finite.lean ====
abbrev S16384x2048 : Shape := ⟨2, ![16384, 2048]⟩
abbrev S4x128 : Shape := ⟨2, ![4, 128]⟩
abbrev S256 : Shape := ⟨1, ![256]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v4 : IVec S_ 1) (main_v9 : IVec S_ 1) (main_v14 : IVec S_ 1) (main_v15 : FVec F S4x128 .f32) (main_v16 : FVec F S4x128 .f32) : IVec S_ 1 :=
  let main_v17 : IVec S4x128 1 := cmpf .olt main_v15 main_v16
  let main_c_5 : IVec S_ 1 := constantI S_ 1 1#1
  let main_v18 : IVec S_ 1 := (fun x v => Host.reduce IntOp.andi x v reducesTo_S4x128_S_d0_1 h_S_) main_v17 main_c_5
  let main_v19 : IVec S_ 1 := andi main_v4 main_v9
  let main_v20 : IVec S_ 1 := andi main_v19 main_v14
  let main_v21 : IVec S_ 1 := andi main_v20 main_v18
  main_v21

def fn {F : FTy → Type} [FloatOps F] (main_arg0 : FVec F S16384x2048 .bf16) (main_arg1 : FVec F S16384x2048 .bf16) (main_arg2 : FVec F S16384x2048 .bf16) (main_arg3 : FVec F S4x128 .f32) (main_arg4 : FVec F S256 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : FVec F S16384x2048 .f32 := (extf .f32 · bitsLt_bf16_f32) main_arg2
  let main_v11 : FVec F S16384x2048 .f32 := Host.absf main_v10
  let main_cst_2 : FVec F S_ .f32 := constant S_ .f32 0x7F800000#32
  let main_v12 : FVec F S16384x2048 .f32 := broadcastInDim S16384x2048 ![] bcast_S_S16384x2048 main_cst_2
  let main_v13 : IVec S16384x2048 1 := cmpf .olt main_v11 main_v12
  let main_c_3 : IVec S_ 1 := constantI S_ 1 1#1
  let main_v14 : IVec S_ 1 := (fun x v => Host.reduce IntOp.andi x v reducesTo_S16384x2048_S_d0_1 h_S_) main_v13 main_c_3
  let main_v15 : FVec F S4x128 .f32 := Host.absf main_arg3
  let main_cst_4 : FVec F S_ .f32 := constant S_ .f32 0x7F800000#32
  let main_v16 : FVec F S4x128 .f32 := broadcastInDim S4x128 ![] bcast_S_S4x128 main_cst_4
  fn_part1 (F := F) main_v4 main_v9 main_v14 main_v15 main_v16
-- ==== Pre_finite_proj.lean ====
abbrev S16384x12288 : Shape := ⟨2, ![16384, 12288]⟩
abbrev S16384x8192 : Shape := ⟨2, ![16384, 8192]⟩
abbrev S_ : Shape := ⟨0, ![]⟩

class Facts : Prop where
  slices_S16384x12288_S16384x8192_0_0 : S16384x12288.Slices ![0, 0] S16384x8192
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel

variable [Facts]

def fn {F : FTy → Type} [FloatOps F] (main_arg0 : FVec F S16384x12288 .bf16) : IVec S_ 1 :=
  let main_v0 : FVec F S16384x8192 .bf16 := (extractStridedSlice S16384x8192 ![0, 0] · slices_S16384x12288_S16384x8192_0_0) main_arg0
  let main_v1 : FVec F S16384x8192 .f32 := (extf .f32 · bitsLt_bf16_f32) main_v0
  let main_v2 : FVec F S16384x8192 .f32 := Host.absf main_v1
  let main_cst : FVec F S_ .f32 := constant S_ .f32 0x7F800000#32
  let main_v3 : FVec F S16384x8192 .f32 := broadcastInDim S16384x8192 ![] bcast_S_S16384x8192 main_cst
  let main_v4 : IVec S16384x8192 1 := cmpf .olt main_v2 main_v3
  let main_c : IVec S_ 1 := constantI S_ 1 1#1
  let main_v5 : IVec S_ 1 := (fun x v => Host.reduce IntOp.andi x v reducesTo_S16384x8192_S_d0_1 h_S_) main_v4 main_c
  main_v5
-- ==== RetSample.lean ====
abbrev S1024x12288 : Shape := ⟨2, ![1024, 12288]⟩
abbrev S32x8x256x512 : Shape := ⟨4, ![32, 8, 256, 512]⟩
abbrev S8 : Shape := ⟨1, ![8]⟩
abbrev S_ : Shape := ⟨0, ![]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S8x1x1 : Shape := ⟨3, ![8, 1, 1]⟩
abbrev S1x32x32 : Shape := ⟨3, ![1, 32, 32]⟩
abbrev S8x32x32 : Shape := ⟨3, ![8, 32, 32]⟩
abbrev S8x1 : Shape := ⟨2, ![8, 1]⟩
abbrev S8x32 : Shape := ⟨2, ![8, 32]⟩
abbrev S8x32x1 : Shape := ⟨3, ![8, 32, 1]⟩
abbrev S1024x4096 : Shape := ⟨2, ![1024, 4096]⟩
abbrev S32x256 : Shape := ⟨2, ![32, 256]⟩
abbrev S32x512 : Shape := ⟨2, ![32, 512]⟩
abbrev S1x32x1 : Shape := ⟨3, ![1, 32, 1]⟩
abbrev S1x1x256x512 : Shape := ⟨4, ![1, 1, 256, 512]⟩
abbrev S256x512 : Shape := ⟨2, ![256, 512]⟩
abbrev S1x1 : Shape := ⟨2, ![1, 1]⟩

abbrev nBuf : Space → Nat
  | .hbm => 57
  | .vmem => 21
  | .smem => 0
  | _ => 0

abbrev bufTy : (tb : Table) → Fin (tcTables nBuf tb) → BufTy
  | .hbm, ⟨0, _⟩ => ⟨S1024x12288, .bf16⟩
  | .hbm, ⟨1, _⟩ => ⟨S32x8x256x512, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S32, .f32⟩
  | .hbm, ⟨13, _⟩ => ⟨S32x1, .f32⟩
  | .hbm, ⟨14, _⟩ => ⟨S1x32, .f32⟩
  | .hbm, ⟨15, _⟩ => ⟨S32x32, .f32⟩
  | .hbm, ⟨16, _⟩ => ⟨S32x32, .f32⟩
  | .hbm, ⟨17, _⟩ => ⟨S32x32, .f32⟩
  | .hbm, ⟨18, _⟩ => ⟨S_, .f32⟩
  | .hbm, ⟨19, _⟩ => ⟨S32x32, .f32⟩
  | .hbm, ⟨20, _⟩ => ⟨S32x32, .i1⟩
  | .hbm, ⟨21, _⟩ => ⟨S8x1x1, .f32⟩
  | .hbm, ⟨22, _⟩ => ⟨S_, .f32⟩
  | .hbm, ⟨23, _⟩ => ⟨S32x32, .f32⟩
  | .hbm, ⟨24, _⟩ => ⟨S32x32, .f32⟩
  | .hbm, ⟨25, _⟩ => ⟨S1x32x32, .f32⟩
  | .hbm, ⟨26, _⟩ => ⟨S8x32x32, .f32⟩
  | .hbm, ⟨27, _⟩ => ⟨S8x32x32, .f32⟩
  | .hbm, ⟨28, _⟩ => ⟨S8x32x32, .f32⟩
  | .hbm, ⟨29, _⟩ => ⟨S8x32x32, .f32⟩
  | .hbm, ⟨30, _⟩ => ⟨S_, .f32⟩
  | .hbm, ⟨31, _⟩ => ⟨S_, .f32⟩
  | .hbm, ⟨32, _⟩ => ⟨S8x32x32, .i1⟩
  | .hbm, ⟨33, _⟩ => ⟨S8x32x32, .f32⟩
  | .hbm, ⟨34, _⟩ => ⟨S8x32x32, .f32⟩
  | .hbm, ⟨35, _⟩ => ⟨S8x1, .f32⟩
  | .hbm, ⟨36, _⟩ => ⟨S1x32, .f32⟩
  | .hbm, ⟨37, _⟩ => ⟨S_, .f32⟩
  | .hbm, ⟨38, _⟩ => ⟨S1x32, .f32⟩
  | .hbm, ⟨39, _⟩ => ⟨S1x32, .f32⟩
  | .hbm, ⟨40, _⟩ => ⟨S8x32, .f32⟩
  | .hbm, ⟨41, _⟩ => ⟨S8x32, .f32⟩
  | .hbm, ⟨42, _⟩ => ⟨S8x32, .f32⟩
  | .hbm, ⟨43, _⟩ => ⟨S8x32, .f32⟩
  | .hbm, ⟨44, _⟩ => ⟨S8x32x1, .f32⟩
  | .hbm, ⟨45, _⟩ => ⟨S8x1, .f32⟩
  | .hbm, ⟨46, _⟩ => ⟨S1x32, .f32⟩
  | .hbm, ⟨47, _⟩ => ⟨S_, .f32⟩
  | .hbm, ⟨48, _⟩ => ⟨S1x32, .f32⟩
  | .hbm, ⟨49, _⟩ => ⟨S1x32, .f32⟩
  | .hbm, ⟨50, _⟩ => ⟨S8x32, .f32⟩
  | .hbm, ⟨51, _⟩ => ⟨S8x32, .f32⟩
  | .hbm, ⟨52, _⟩ => ⟨S8x32, .f32⟩
  | .hbm, ⟨53, _⟩ => ⟨S8x32, .f32⟩
  | .hbm, ⟨54, _⟩ => ⟨S8x32x1, .f32⟩
  | .hbm, ⟨55, _⟩ => ⟨S1024x4096, .bf16⟩
  | .hbm, ⟨56, _⟩ => ⟨S32x8x256x512, .f32⟩
  | .local _ .vmem, ⟨0, _⟩ => ⟨S32x256, .bf16⟩
  | .local _ .vmem, ⟨1, _⟩ => ⟨S32x256, .bf16⟩
  | .local _ .vmem, ⟨2, _⟩ => ⟨S32x256, .bf16⟩
  | .local _ .vmem, ⟨3, _⟩ => ⟨S32x256, .bf16⟩
  | .local _ .vmem, ⟨4, _⟩ => ⟨S32x512, .bf16⟩
  | .local _ .vmem, ⟨5, _⟩ => ⟨S32x512, .bf16⟩
  | .local _ .vmem, ⟨6, _⟩ => ⟨S32x512, .bf16⟩
  | .local _ .vmem, ⟨7, _⟩ => ⟨S32x512, .bf16⟩
  | .local _ .vmem, ⟨8, _⟩ => ⟨S1x32x32, .f32⟩
  | .local _ .vmem, ⟨9, _⟩ => ⟨S1x32x32, .f32⟩
  | .local _ .vmem, ⟨10, _⟩ => ⟨S1x32x1, .f32⟩
  | .local _ .vmem, ⟨11, _⟩ => ⟨S1x32x1, .f32⟩
  | .local _ .vmem, ⟨12, _⟩ => ⟨S1x32x1, .f32⟩
  | .local _ .vmem, ⟨13, _⟩ => ⟨S1x32x1, .f32⟩
  | .local _ .vmem, ⟨14, _⟩ => ⟨S1x1x256x512, .f32⟩
  | .local _ .vmem, ⟨15, _⟩ => ⟨S1x1x256x512, .f32⟩
  | .local _ .vmem, ⟨16, _⟩ => ⟨S32x512, .bf16⟩
  | .local _ .vmem, ⟨17, _⟩ => ⟨S32x512, .bf16⟩
  | .local _ .vmem, ⟨18, _⟩ => ⟨S1x1x256x512, .f32⟩
  | .local _ .vmem, ⟨19, _⟩ => ⟨S1x1x256x512, .f32⟩
  | .local _ .vmem, ⟨20, _⟩ => ⟨S256x512, .f32⟩
  | _, _ => ⟨S1024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg2 : BitVec 32 := BitVec.ofNat 32 (i 2).val
  let c0_i32_30 : BitVec 32 := 0#32
  let v56 : BitVec 1 := Scalar.cmpi .eq arg2 c0_i32_30
  let v57 : BitVec 32 := Scalar.extui v56
  let c0_i32_31 : BitVec 32 := 0#32
  let v58 : BitVec 1 := Scalar.cmpi .ne v57 c0_i32_31
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== RetSampleRefIdeal.lean ====
abbrev S1024x12288 : Shape := ⟨2, ![1024, 12288]⟩
abbrev S32x8x256x512 : Shape := ⟨4, ![32, 8, 256, 512]⟩
abbrev S32x32x12288 : Shape := ⟨3, ![32, 32, 12288]⟩
abbrev S32x32x2048 : Shape := ⟨3, ![32, 32, 2048]⟩
abbrev S32x32x4096 : Shape := ⟨3, ![32, 32, 4096]⟩
abbrev S32x32x8x256 : Shape := ⟨4, ![32, 32, 8, 256]⟩
abbrev S_ : Shape := ⟨0, ![]⟩
abbrev S32x32x8x512 : Shape := ⟨4, ![32, 32, 8, 512]⟩
abbrev S8 : Shape := ⟨1, ![8]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S8x1x1 : Shape := ⟨3, ![8, 1, 1]⟩
abbrev S1x32x32 : Shape := ⟨3, ![1, 32, 32]⟩
abbrev S8x32x32 : Shape := ⟨3, ![8, 32, 32]⟩
abbrev S1x8 : Shape := ⟨2, ![1, 8]⟩
abbrev S32x8 : Shape := ⟨2, ![32, 8]⟩
abbrev S32x8x32x32 : Shape := ⟨4, ![32, 8, 32, 32]⟩
abbrev S1x8x32x32 : Shape := ⟨4, ![1, 8, 32, 32]⟩
abbrev S32x8x512x32 : Shape := ⟨4, ![32, 8, 512, 32]⟩
abbrev S1x32x8x1 : Shape := ⟨4, ![1, 32, 8, 1]⟩
abbrev S1x8x1x1 : Shape := ⟨4, ![1, 8, 1, 1]⟩
abbrev S32x32x8 : Shape := ⟨3, ![32, 32, 8]⟩
abbrev S32x32x8x1 : Shape := ⟨4, ![32, 32, 8, 1]⟩
abbrev S1024x4096 : Shape := ⟨2, ![1024, 4096]⟩

abbrev nBuf : Space → Nat
  | .hbm => 115
  | .vmem => 0
  | .smem => 0
  | _ => 0

abbrev bufTy : (tb : Table) → Fin (tcTables nBuf tb) → BufTy
  | .hbm, ⟨0, _⟩ => ⟨S1024x12288, .bf16⟩
  | .hbm, ⟨1, _⟩ => ⟨S32x8x256x512, .f32⟩
  | .hbm, ⟨2, _⟩ => ⟨S1024x12288, .f32⟩
  | .hbm, ⟨3, _⟩ => ⟨S32x32x12288, .f32⟩
  | .hbm, ⟨4, _⟩ => ⟨S32x32x2048, .f32⟩
  | .hbm, ⟨5, _⟩ => ⟨S32x32x2048, .f32⟩
  | .hbm, ⟨6, _⟩ => ⟨S32x32x4096, .f32⟩
  | .hbm, ⟨7, _⟩ => ⟨S32x32x4096, .f32⟩
  | .hbm, ⟨8, _⟩ => ⟨S32x32x8x256, .f32⟩
  | .hbm, ⟨9, _⟩ => ⟨S32x32x8x256, .f32⟩
  | .hbm, ⟨10, _⟩ => ⟨S_, .f32⟩
  | .hbm, ⟨11, _⟩ => ⟨S32x32x8x256, .f32⟩
  | .hbm, ⟨12, _⟩ => ⟨S32x32x8x256, .f32⟩
  | .hbm, ⟨13, _⟩ => ⟨S32x32x8x512, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S32, .f32⟩
  | .hbm, ⟨25, _⟩ => ⟨S32x1, .f32⟩
  | .hbm, ⟨26, _⟩ => ⟨S1x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S_, .f32⟩
  | .hbm, ⟨31, _⟩ => ⟨S32x32, .f32⟩
  | .hbm, ⟨32, _⟩ => ⟨S32x32, .i1⟩
  | .hbm, ⟨33, _⟩ => ⟨S8x1x1, .f32⟩
  | .hbm, ⟨34, _⟩ => ⟨S_, .f32⟩
  | .hbm, ⟨35, _⟩ => ⟨S32x32, .f32⟩
  | .hbm, ⟨36, _⟩ => ⟨S32x32, .f32⟩
  | .hbm, ⟨37, _⟩ => ⟨S1x32x32, .f32⟩
  | .hbm, ⟨38, _⟩ => ⟨S8x32x32, .f32⟩
  | .hbm, ⟨39, _⟩ => ⟨S8x32x32, .f32⟩
  | .hbm, ⟨40, _⟩ => ⟨S8x32x32, .f32⟩
  | .hbm, ⟨41, _⟩ => ⟨S8x32x32, .f32⟩
  | .hbm, ⟨42, _⟩ => ⟨S_, .f32⟩
  | .hbm, ⟨43, _⟩ => ⟨S_, .f32⟩
  | .hbm, ⟨44, _⟩ => ⟨S8x32x32, .i1⟩
  | .hbm, ⟨45, _⟩ => ⟨S8x32x32, .f32⟩
  | .hbm, ⟨46, _⟩ => ⟨S8x32x32, .f32⟩
  | .hbm, ⟨47, _⟩ => ⟨S1x8, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S32x8, .f32⟩
  | .hbm, ⟨53, _⟩ => ⟨S32x8, .f32⟩
  | .hbm, ⟨54, _⟩ => ⟨S32x8, .f32⟩
  | .hbm, ⟨55, _⟩ => ⟨S32x8, .f32⟩
  | .hbm, ⟨56, _⟩ => ⟨S1x8, .f32⟩
  | .hbm, ⟨57, _⟩ => ⟨S32x1, .f32⟩
  | .hbm, ⟨58, _⟩ => ⟨S_, .f32⟩
  | .hbm, ⟨59, _⟩ => ⟨S32x1, .f32⟩
  | .hbm, ⟨60, _⟩ => ⟨S32x1, .f32⟩
  | .hbm, ⟨61, _⟩ => ⟨S32x8, .f32⟩
  | .hbm, ⟨62, _⟩ => ⟨S32x8, .f32⟩
  | .hbm, ⟨63, _⟩ => ⟨S32x8, .f32⟩
  | .hbm, ⟨64, _⟩ => ⟨S32x8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S8, .f32⟩
  | .hbm, ⟨69, _⟩ => ⟨S32x8x32x32, .f32⟩
  | .hbm, ⟨70, _⟩ => ⟨S1x8x32x32, .f32⟩
  | .hbm, ⟨71, _⟩ => ⟨S32x8x32x32, .f32⟩
  | .hbm, ⟨72, _⟩ => ⟨S32x8x32x32, .f32⟩
  | .hbm, ⟨73, _⟩ => ⟨S32x8x512x32, .f32⟩
  | .hbm, ⟨74, _⟩ => ⟨S32x32x8x512, .f32⟩
  | .hbm, ⟨75, _⟩ => ⟨S1x32x8x1, .f32⟩
  | .hbm, ⟨76, _⟩ => ⟨S32x32x8x256, .f32⟩
  | .hbm, ⟨77, _⟩ => ⟨S32x32x8x256, .f32⟩
  | .hbm, ⟨78, _⟩ => ⟨S32x8x512x32, .f32⟩
  | .hbm, ⟨79, _⟩ => ⟨S32x32x8x512, .f32⟩
  | .hbm, ⟨80, _⟩ => ⟨S32x32x8x512, .f32⟩
  | .hbm, ⟨81, _⟩ => ⟨S1x8x1x1, .f32⟩
  | .hbm, ⟨82, _⟩ => ⟨S32x8x256x512, .f32⟩
  | .hbm, ⟨83, _⟩ => ⟨S32x8x256x512, .f32⟩
  | .hbm, ⟨84, _⟩ => ⟨S1x32x8x1, .f32⟩
  | .hbm, ⟨85, _⟩ => ⟨S32x32x8x256, .f32⟩
  | .hbm, ⟨86, _⟩ => ⟨S32x32x8x256, .f32⟩
  | .hbm, ⟨87, _⟩ => ⟨S32x8x256x512, .f32⟩
  | .hbm, ⟨88, _⟩ => ⟨S32x8x256x512, .f32⟩
  | .hbm, ⟨89, _⟩ => ⟨S32x32x8x512, .f32⟩
  | .hbm, ⟨90, _⟩ => ⟨S_, .f32⟩
  | .hbm, ⟨91, _⟩ => ⟨S32x32x8, .f32⟩
  | .hbm, ⟨92, _⟩ => ⟨S32x32x8x1, .f32⟩
  | .hbm, ⟨93, _⟩ => ⟨S_, .f32⟩
  | .hbm, ⟨94, _⟩ => ⟨S32x32x8x1, .f32⟩
  | .hbm, ⟨95, _⟩ => ⟨S32x32x8x1, .f32⟩
  | .hbm, ⟨96, _⟩ => ⟨S_, .f32⟩
  | .hbm, ⟨97, _⟩ => ⟨S32x32x8x1, .f32⟩
  | .hbm, ⟨98, _⟩ => ⟨S32x32x8x1, .f32⟩
  | .hbm, ⟨99, _⟩ => ⟨S32x32x8x1, .f32⟩
  | .hbm, ⟨100, _⟩ => ⟨S32x32x8x512, .f32⟩
  | .hbm, ⟨101, _⟩ => ⟨S32x32x8x512, .f32⟩
  | .hbm, ⟨102, _⟩ => ⟨S32x32x4096, .f32⟩
  | .hbm, ⟨103, _⟩ => ⟨S32x32x4096, .f32⟩
  | .hbm, ⟨104, _⟩ => ⟨S32x32x4096, .f32⟩
  | .hbm, ⟨105, _⟩ => ⟨S_, .f32⟩
  | .hbm, ⟨106, _⟩ => ⟨S32x32x4096, .f32⟩
  | .hbm, ⟨107, _⟩ => ⟨S32x32x4096, .f32⟩
  | .hbm, ⟨108, _⟩ => ⟨S_, .f32⟩
  | .hbm, ⟨109, _⟩ => ⟨S32x32x4096, .f32⟩
  | .hbm, ⟨110, _⟩ => ⟨S32x32x4096, .f32⟩
  | .hbm, ⟨111, _⟩ => ⟨S32x32x4096, .f32⟩
  | .hbm, ⟨112, _⟩ => ⟨S32x32x4096, .f32⟩
  | .hbm, ⟨113, _⟩ => ⟨S1024x4096, .f32⟩
  | .hbm, ⟨114, _⟩ => ⟨S1024x4096, .bf16⟩
  | _, _ => ⟨S1024x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_8 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Mlp.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== RetIn.lean ====
abbrev S16384x2048 : Shape := ⟨2, ![16384, 2048]⟩
abbrev S2048 : Shape := ⟨1, ![2048]⟩
abbrev S2048x12288 : Shape := ⟨2, ![2048, 12288]⟩
abbrev S1x2048 : Shape := ⟨2, ![1, 2048]⟩
abbrev S16384x12288 : Shape := ⟨2, ![16384, 12288]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S2048x12288, .bf16⟩
  | .hbm, ⟨4, _⟩ => ⟨S1x2048, .f32⟩
  | .hbm, ⟨5, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RetInRefIdeal.lean ====
abbrev S16384x2048 : Shape := ⟨2, ![16384, 2048]⟩
abbrev S2048 : Shape := ⟨1, ![2048]⟩
abbrev S2048x12288 : Shape := ⟨2, ![2048, 12288]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12288 : Shape := ⟨2, ![16384, 12288]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12288, .f32⟩
  | .hbm, ⟨20, _⟩ => ⟨S16384x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RetOut.lean ====
abbrev S16384x4096 : Shape := ⟨2, ![16384, 4096]⟩
abbrev S4096x2048 : Shape := ⟨2, ![4096, 2048]⟩
abbrev S2048 : Shape := ⟨1, ![2048]⟩
abbrev S16384x2048 : Shape := ⟨2, ![16384, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S2048, .f32⟩
  | .hbm, ⟨3, _⟩ => ⟨S16384x2048, .f32⟩
  | .hbm, ⟨4, _⟩ => ⟨S4096x2048, .bf16⟩
  | .hbm, ⟨5, _⟩ => ⟨S1x2048, .f32⟩
  | .hbm, ⟨6, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RetOutRefIdeal.lean ====
abbrev S16384x4096 : Shape := ⟨2, ![16384, 4096]⟩
abbrev S4096x2048 : Shape := ⟨2, ![4096, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S2048, .f32⟩
  | .hbm, ⟨3, _⟩ => ⟨S16384x2048, .f32⟩
  | .hbm, ⟨4, _⟩ => ⟨S16384x4096, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SharedK.lean ====
abbrev S16384x2048 : Shape := ⟨2, ![16384, 2048]⟩
abbrev S2048 : Shape := ⟨1, ![2048]⟩
abbrev S2048x4096 : Shape := ⟨2, ![2048, 4096]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SharedKRefIdeal.lean ====
abbrev S16384x2048 : Shape := ⟨2, ![16384, 2048]⟩
abbrev S2048 : Shape := ⟨1, ![2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4096, .f32⟩
  | .hbm, ⟨20, _⟩ => ⟨S16384x2048, .f32⟩
  | .hbm, ⟨21, _⟩ => ⟨S16384x2048, .f32⟩
  | .hbm, ⟨22, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== SharedV.lean ====
abbrev S16384x2048 : Shape := ⟨2, ![16384, 2048]⟩
abbrev S2048 : Shape := ⟨1, ![2048]⟩
abbrev S2048x4096 : Shape := ⟨2, ![2048, 4096]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SharedVRefIdeal.lean ====
abbrev S16384x2048 : Shape := ⟨2, ![16384, 2048]⟩
abbrev S2048 : Shape := ⟨1, ![2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4096, .f32⟩
  | .hbm, ⟨20, _⟩ => ⟨S16384x2048, .f32⟩
  | .hbm, ⟨21, _⟩ => ⟨S16384x2048, .f32⟩
  | .hbm, ⟨22, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== DiffQ.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DiffQRefIdeal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DiffOut.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DiffOutRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== RetPrompt.lean ====
abbrev S16384x12288 : Shape := ⟨2, ![16384, 12288]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S16384x4096 : Shape := ⟨2, ![16384, 4096]⟩
abbrev S4x8x256x512 : Shape := ⟨4, ![4, 8, 256, 512]⟩
abbrev S256x512 : Shape := ⟨2, ![256, 512]⟩
abbrev S1x256x1 : Shape := ⟨3, ![1, 256, 1]⟩
abbrev S1x1x256x512 : Shape := ⟨4, ![1, 1, 256, 512]⟩
abbrev S1x1 : Shape := ⟨2, ![1, 1]⟩

abbrev nBuf : Space → Nat
  | .hbm => 56
  | .vmem => 19
  | .smem => 0
  | _ => 0

abbrev bufTy : (tb : Table) → Fin (tcTables nBuf tb) → BufTy
  | .hbm, ⟨0, _⟩ => ⟨S16384x12288, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S256, .f32⟩
  | .hbm, ⟨12, _⟩ => ⟨S256x1, .f32⟩
  | .hbm, ⟨13, _⟩ => ⟨S1x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .i1⟩
  | .hbm, ⟨20, _⟩ => ⟨S8x1x1, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S1x256x256, .f32⟩
  | .hbm, ⟨25, _⟩ => ⟨S8x256x256, .f32⟩
  | .hbm, ⟨26, _⟩ => ⟨S8x256x256, .f32⟩
  | .hbm, ⟨27, _⟩ => ⟨S8x256x256, .f32⟩
  | .hbm, ⟨28, _⟩ => ⟨S8x256x256, .f32⟩
  | .hbm, ⟨29, _⟩ => ⟨S_, .f32⟩
  | .hbm, ⟨30, _⟩ => ⟨S_, .f32⟩
  | .hbm, ⟨31, _⟩ => ⟨S8x256x256, .i1⟩
  | .hbm, ⟨32, _⟩ => ⟨S8x256x256, .f32⟩
  | .hbm, ⟨33, _⟩ => ⟨S8x256x256, .f32⟩
  | .hbm, ⟨34, _⟩ => ⟨S8x1, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S8x256, .f32⟩
  | .hbm, ⟨40, _⟩ => ⟨S8x256, .f32⟩
  | .hbm, ⟨41, _⟩ => ⟨S8x256, .f32⟩
  | .hbm, ⟨42, _⟩ => ⟨S8x256, .f32⟩
  | .hbm, ⟨43, _⟩ => ⟨S8x256x1, .f32⟩
  | .hbm, ⟨44, _⟩ => ⟨S8x1, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S8x256, .f32⟩
  | .hbm, ⟨50, _⟩ => ⟨S8x256, .f32⟩
  | .hbm, ⟨51, _⟩ => ⟨S8x256, .f32⟩
  | .hbm, ⟨52, _⟩ => ⟨S8x256, .f32⟩
  | .hbm, ⟨53, _⟩ => ⟨S8x256x1, .f32⟩
  | .hbm, ⟨54, _⟩ => ⟨S16384x4096, .bf16⟩
  | .hbm, ⟨55, _⟩ => ⟨S4x8x256x512, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x256x256, .f32⟩
  | .local _ .vmem, ⟨9, _⟩ => ⟨S1x256x256, .f32⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S256x512, .bf16⟩
  | .local _ .vmem, ⟨15, _⟩ => ⟨S256x512, .bf16⟩
  | .local _ .vmem, ⟨16, _⟩ => ⟨S1x1x256x512, .f32⟩
  | .local _ .vmem, ⟨17, _⟩ => ⟨S1x1x256x512, .f32⟩
  | .local _ .vmem, ⟨18, _⟩ => ⟨S256x512, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v56 : BitVec 1 := Scalar.cmpi .eq arg2 c15_i32
  let v57 : BitVec 32 := Scalar.extui v56
  let c0_i32_30 : BitVec 32 := 0#32
  let v58 : BitVec 1 := Scalar.cmpi .ne v57 c0_i32_30
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== RetPromptRefIdeal.lean ====
abbrev S16384x12288 : Shape := ⟨2, ![16384, 12288]⟩
abbrev S4x4096x12288 : Shape := ⟨3, ![4, 4096, 12288]⟩
abbrev S4x4096x2048 : Shape := ⟨3, ![4, 4096, 2048]⟩
abbrev S4x4096x4096 : Shape := ⟨3, ![4, 4096, 4096]⟩
abbrev S4x4096x8x256 : Shape := ⟨4, ![4, 4096, 8, 256]⟩
abbrev S_ : Shape := ⟨0, ![]⟩
abbrev S4x4096x8x512 : Shape := ⟨4, ![4, 4096, 8, 512]⟩
abbrev S4x8x256x512 : Shape := ⟨4, ![4, 8, 256, 512]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S1x8 : Shape := ⟨2, ![1, 8]⟩
abbrev S64x8 : Shape := ⟨2, ![64, 8]⟩
abbrev S4x64x64x8x256 : Shape := ⟨5, ![4, 64, 64, 8, 256]⟩
abbrev S64x4x64x8x256 : Shape := ⟨5, ![64, 4, 64, 8, 256]⟩
abbrev S4x64x64x8x512 : Shape := ⟨5, ![4, 64, 64, 8, 512]⟩
abbrev S64x4x64x8x512 : Shape := ⟨5, ![64, 4, 64, 8, 512]⟩
abbrev S1x4x64x8x256 : Shape := ⟨5, ![1, 4, 64, 8, 256]⟩
abbrev S4x64x8x256 : Shape := ⟨4, ![4, 64, 8, 256]⟩
abbrev S1x4x64x8x512 : Shape := ⟨5, ![1, 4, 64, 8, 512]⟩
abbrev S4x64x8x512 : Shape := ⟨4, ![4, 64, 8, 512]⟩
abbrev S4x8x64x64 : Shape := ⟨4, ![4, 8, 64, 64]⟩
abbrev S1x8x64x64 : Shape := ⟨4, ![1, 8, 64, 64]⟩
abbrev S4x8x512x64 : Shape := ⟨4, ![4, 8, 512, 64]⟩
abbrev S1x64x8x1 : Shape := ⟨4, ![1, 64, 8, 1]⟩
abbrev S1x8x1x1 : Shape := ⟨4, ![1, 8, 1, 1]⟩
abbrev S4x4096x8 : Shape := ⟨3, ![4, 4096, 8]⟩
abbrev S4x4096x8x1 : Shape := ⟨4, ![4, 4096, 8, 1]⟩
abbrev S16384x4096 : Shape := ⟨2, ![16384, 4096]⟩

abbrev nBuf : Space → Nat
  | .hbm => 168
  | .vmem => 0
  | .smem => 0
  | _ => 0

abbrev hbmTy0_0 (i : Nat) : BufTy := match i % 128 with
  | 0 => ⟨S16384x12288, .bf16⟩
  | 1 => ⟨S16384x12288, .f32⟩
  | 2 => ⟨S4x4096x12288, .f32⟩
  | 3 => ⟨S4x4096x2048, .f32⟩
  | 4 => ⟨S4x4096x2048, .f32⟩
  | 5 => ⟨S4x4096x4096, .f32⟩
  | 6 => ⟨S4x4096x4096, .f32⟩
  | 7 => ⟨S4x4096x8x256, .f32⟩
  | 8 => ⟨S4x4096x8x256, .f32⟩
  | 9 => ⟨S_, .f32⟩
  | 10 => ⟨S4x4096x8x256, .f32⟩
  | 11 => ⟨S4x4096x8x256, .f32⟩
  | 12 => ⟨S4x4096x8x512, .f32⟩
  | 13 => ⟨S_, .f32⟩
  | 14 => ⟨S4x8x256x512, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8, .f32⟩
  | 23 => ⟨S8, .f32⟩
  | 24 => ⟨S8, .f32⟩
  | 25 => ⟨S64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .i1⟩
  | 34 => ⟨S8x1x1, .f32⟩
  | 35 => ⟨S_, .f32⟩
  | 36 => ⟨S64x64, .f32⟩
  | 37 => ⟨S64x64, .f32⟩
  | 38 => ⟨S1x64x64, .f32⟩
  | 39 => ⟨S8x64x64, .f32⟩
  | 40 => ⟨S8x64x64, .f32⟩
  | 41 => ⟨S8x64x64, .f32⟩
  | 42 => ⟨S8x64x64, .f32⟩
  | 43 => ⟨S_, .f32⟩
  | 44 => ⟨S_, .f32⟩
  | 45 => ⟨S8x64x64, .i1⟩
  | 46 => ⟨S8x64x64, .f32⟩
  | 47 => ⟨S8x64x64, .f32⟩
  | 48 => ⟨S1x8, .f32⟩
  | 49 => ⟨S64x1, .f32⟩
  | 50 => ⟨S_, .f32⟩
  | 51 => ⟨S64x1, .f32⟩
  | 52 => ⟨S64x1, .f32⟩
  | 53 => ⟨S64x8, .f32⟩
  | 54 => ⟨S64x8, .f32⟩
  | 55 => ⟨S64x8, .f32⟩
  | 56 => ⟨S64x8, .f32⟩
  | 57 => ⟨S1x8, .f32⟩
  | 58 => ⟨S64x1, .f32⟩
  | 59 => ⟨S_, .f32⟩
  | 60 => ⟨S64x1, .f32⟩
  | 61 => ⟨S64x1, .f32⟩
  | 62 => ⟨S64x8, .f32⟩
  | 63 => ⟨S64x8, .f32⟩
  | 64 => ⟨S64x8, .f32⟩
  | 65 => ⟨S64x8, .f32⟩
  | 66 => ⟨S_, .f32⟩
  | 67 => ⟨S8, .f32⟩
  | 68 => ⟨S8, .f32⟩
  | 69 => ⟨S8, .f32⟩
  | 70 => ⟨S4x64x64x8x256, .f32⟩
  | 71 => ⟨S64x4x64x8x256, .f32⟩
  | 72 => ⟨S4x64x64x8x256, .f32⟩
  | 73 => ⟨S64x4x64x8x256, .f32⟩
  | 74 => ⟨S4x64x64x8x512, .f32⟩
  | 75 => ⟨S64x4x64x8x512, .f32⟩
  | 76 => ⟨S_, .f32⟩
  | 77 => ⟨S64x4x64x8x512, .f32⟩
  | 78 => ⟨S_, .i32⟩
  | 79 => ⟨S64x4x64x8x256, .f32⟩
  | 80 => ⟨S64x4x64x8x256, .f32⟩
  | 81 => ⟨S64x4x64x8x512, .f32⟩
  | 82 => ⟨S8x64x64, .f32⟩
  | 83 => ⟨S64x8, .f32⟩
  | 84 => ⟨S8, .f32⟩
  | 85 => ⟨S64x8, .f32⟩
  | 86 => ⟨S_, .i32⟩
  | 87 => ⟨S4x8x256x512, .f32⟩
  | 88 => ⟨S64x4x64x8x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x4x64x8x256, .f32⟩
  | 96 => ⟨S4x64x8x256, .f32⟩
  | 97 => ⟨S_, .i32⟩
  | 98 => ⟨S_, .i32⟩
  | 99 => ⟨S_, .i32⟩
  | 100 => ⟨S_, .i32⟩
  | 101 => ⟨S1x4x64x8x256, .f32⟩
  | 102 => ⟨S4x64x8x256, .f32⟩
  | 103 => ⟨S_, .i32⟩
  | 104 => ⟨S_, .i32⟩
  | 105 => ⟨S_, .i32⟩
  | 106 => ⟨S_, .i32⟩
  | 107 => ⟨S1x4x64x8x512, .f32⟩
  | 108 => ⟨S4x64x8x512, .f32⟩
  | 109 => ⟨S4x8x64x64, .f32⟩
  | 110 => ⟨S1x8x64x64, .f32⟩
  | 111 => ⟨S4x8x64x64, .f32⟩
  | 112 => ⟨S4x8x64x64, .f32⟩
  | 113 => ⟨S4x8x512x64, .f32⟩
  | 114 => ⟨S4x64x8x512, .f32⟩
  | 115 => ⟨S1x64x8x1, .f32⟩
  | 116 => ⟨S4x64x8x256, .f32⟩
  | 117 => ⟨S4x64x8x256, .f32⟩
  | 118 => ⟨S4x8x512x64, .f32⟩
  | 119 => ⟨S4x64x8x512, .f32⟩
  | 120 => ⟨S4x64x8x512, .f32⟩
  | 121 => ⟨S1x8x1x1, .f32⟩
  | 122 => ⟨S4x8x256x512, .f32⟩
  | 123 => ⟨S4x8x256x512, .f32⟩
  | 124 => ⟨S1x64x8x1, .f32⟩
  | 125 => ⟨S4x64x8x256, .f32⟩
  | 126 => ⟨S4x64x8x256, .f32⟩
  | 127 => ⟨S4x8x256x512, .f32⟩
  | _ => ⟨S16384x12288, .bf16⟩

abbrev hbmTy0_1 (i : Nat) : BufTy := match i % 128 with
  | 0 => ⟨S4x8x256x512, .f32⟩
  | 1 => ⟨S1x4x64x8x512, .f32⟩
  | 2 => ⟨S_, .i32⟩
  | 3 => ⟨S_, .i32⟩
  | 4 => ⟨S_, .i32⟩
  | 5 => ⟨S_, .i32⟩
  | 6 => ⟨S64x4x64x8x512, .f32⟩
  | 7 => ⟨S_, .i32⟩
  | 8 => ⟨S_, .i32⟩
  | 9 => ⟨S4x64x64x8x512, .f32⟩
  | 10 => ⟨S4x4096x8x512, .f32⟩
  | 11 => ⟨S4x4096x8x512, .f32⟩
  | 12 => ⟨S_, .f32⟩
  | 13 => ⟨S4x4096x8, .f32⟩
  | 14 => ⟨S4x4096x8x1, .f32⟩
  | 15 => ⟨S_, .f32⟩
  | 16 => ⟨S4x4096x8x1, .f32⟩
  | 17 => ⟨S4x4096x8x1, .f32⟩
  | 18 => ⟨S_, .f32⟩
  | 19 => ⟨S4x4096x8x1, .f32⟩
  | 20 => ⟨S4x4096x8x1, .f32⟩
  | 21 => ⟨S4x4096x8x1, .f32⟩
  | 22 => ⟨S4x4096x8x512, .f32⟩
  | 23 => ⟨S4x4096x8x512, .f32⟩
  | 24 => ⟨S4x4096x4096, .f32⟩
  | 25 => ⟨S16384x4096, .bf16⟩
  | 26 => ⟨S16384x4096, .f32⟩
  | 27 => ⟨S4x4096x4096, .f32⟩
  | 28 => ⟨S4x4096x4096, .f32⟩
  | 29 => ⟨S4x4096x4096, .f32⟩
  | 30 => ⟨S_, .f32⟩
  | 31 => ⟨S4x4096x4096, .f32⟩
  | 32 => ⟨S4x4096x4096, .f32⟩
  | 33 => ⟨S_, .f32⟩
  | 34 => ⟨S4x4096x4096, .f32⟩
  | 35 => ⟨S4x4096x4096, .f32⟩
  | 36 => ⟨S4x4096x4096, .f32⟩
  | 37 => ⟨S4x4096x4096, .f32⟩
  | 38 => ⟨S16384x4096, .f32⟩
  | 39 => ⟨S16384x4096, .bf16⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_4 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_c : Ref sig .tc := ⟨.hbm, 78, rfl⟩
abbrev main_v63_0 : Ref sig .tc := ⟨.hbm, 79, rfl⟩
abbrev main_v63_1 : Ref sig .tc := ⟨.hbm, 80, rfl⟩
abbrev main_v63_2 : Ref sig .tc := ⟨.hbm, 81, rfl⟩
abbrev main_v63_3 : Ref sig .tc := ⟨.hbm, 82, rfl⟩
abbrev main_v63_4 : Ref sig .tc := ⟨.hbm, 83, rfl⟩
abbrev main_v63_5 : Ref sig .tc := ⟨.hbm, 84, rfl⟩
abbrev main_v63_6 : Ref sig .tc := ⟨.hbm, 85, rfl⟩
abbrev main_v63_7 : Ref sig .tc := ⟨.hbm, 86, rfl⟩
abbrev main_v63_8 : Ref sig .tc := ⟨.hbm, 87, rfl⟩
abbrev main_v63_9 : Ref sig .tc := ⟨.hbm, 88, rfl⟩
abbrev main_while0c_c_22 : Ref sig .tc := ⟨.hbm, 89, rfl⟩
abbrev main_while0c_v84 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v84 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v85 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_v100 : Ref sig .tc := ⟨.hbm, 122, rfl⟩
abbrev main_while0b_v101 : Ref sig .tc := ⟨.hbm, 123, rfl⟩
abbrev main_while0b_v102 : Ref sig .tc := ⟨.hbm, 124, rfl⟩
abbrev main_while0b_v103 : Ref sig .tc := ⟨.hbm, 125, rfl⟩
abbrev main_while0b_v104 : Ref sig .tc := ⟨.hbm, 126, rfl⟩
abbrev main_while0b_v105 : Ref sig .tc := ⟨.hbm, 127, rfl⟩
abbrev main_while0b_v106 : Ref sig .tc := ⟨.hbm, 128, rfl⟩
abbrev main_while0b_call4_v0 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_v107 : Ref sig .tc := ⟨.hbm, 134, rfl⟩
abbrev main_while0b_c_22 : Ref sig .tc := ⟨.hbm, 135, rfl⟩
abbrev main_while0b_v108 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_10 : Ref sig .tc := ⟨.hbm, 140, rfl⟩
abbrev main_v67 : Ref sig .tc := ⟨.hbm, 141, rfl⟩
abbrev main_v68 : Ref sig .tc := ⟨.hbm, 142, rfl⟩
abbrev main_cst_11 : Ref sig .tc := ⟨.hbm, 143, rfl⟩
abbrev main_v69 : Ref sig .tc := ⟨.hbm, 144, rfl⟩
abbrev main_v70 : Ref sig .tc := ⟨.hbm, 145, rfl⟩
abbrev main_cst_12 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_call5_v0 : Ref sig .tc := ⟨.hbm, 156, rfl⟩
abbrev main_call5_v1 : Ref sig .tc := ⟨.hbm, 157, rfl⟩
abbrev main_call5_cst : Ref sig .tc := ⟨.hbm, 158, rfl⟩
abbrev main_call5_v2 : Ref sig .tc := ⟨.hbm, 159, rfl⟩
abbrev main_call5_v3 : Ref sig .tc := ⟨.hbm, 160, rfl⟩
abbrev main_call5_cst_0 : Ref sig .tc := ⟨.hbm, 161, rfl⟩
abbrev main_call5_v4 : Ref sig .tc := ⟨.hbm, 162, rfl⟩
abbrev main_call5_v5 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩

abbrev nD : Nat := 1
abbrev τ : Topo := Topo.v7x

variable {F : FTy → Type} [FloatOps F]

abbrev main_while0_count : Scf.Loop 32 := ⟨0#32, 64#32, 1#32⟩
-- ==== DiffAttn.lean ====
abbrev S16384x2048 : Shape := ⟨2, ![16384, 2048]⟩
abbrev S4x128 : Shape := ⟨2, ![4, 128]⟩
abbrev S256 : Shape := ⟨1, ![256]⟩
abbrev S_ : Shape := ⟨0, ![]⟩
abbrev S8 : Shape := ⟨1, ![8]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S2048x16384 : Shape := ⟨2, ![2048, 16384]⟩
abbrev S4x8x512x8x256 : Shape := ⟨5, ![4, 8, 512, 8, 256]⟩
abbrev S4x8x8x256x512 : Shape := ⟨5, ![4, 8, 8, 256, 512]⟩
abbrev S256x1 : Shape := ⟨2, ![256, 1]⟩
abbrev S256x512 : Shape := ⟨2, ![256, 512]⟩
abbrev S4096x256 : Shape := ⟨2, ![4096, 256]⟩
abbrev S1x1x8x256x512 : Shape := ⟨5, ![1, 1, 8, 256, 512]⟩
abbrev S512x256 : Shape := ⟨2, ![512, 256]⟩
abbrev S2x1x512 : Shape := ⟨3, ![2, 1, 512]⟩
abbrev S2x256x512 : Shape := ⟨3, ![2, 256, 512]⟩
abbrev S1 : Shape := ⟨1, ![1]⟩
abbrev S1x1x1x256x512 : Shape := ⟨5, ![1, 1, 1, 256, 512]⟩
abbrev S512x128 : Shape := ⟨2, ![512, 128]⟩
abbrev S128x512 : Shape := ⟨2, ![128, 512]⟩
abbrev S1x1x512 : Shape := ⟨3, ![1, 1, 512]⟩
abbrev S1x256x512 : Shape := ⟨3, ![1, 256, 512]⟩
abbrev S1x128 : Shape := ⟨2, ![1, 128]⟩
abbrev S1x1 : Shape := ⟨2, ![1, 1]⟩

abbrev nBuf : Space → Nat
  | .hbm => 98
  | .vmem => 17
  | .smem => 1
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S4x128, .f32⟩
  | .hbm, ⟨4, _⟩ => ⟨S256, .f32⟩
  | .hbm, ⟨5, _⟩ => ⟨S16384x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .bf16⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S512, .i32⟩
  | .hbm, ⟨36, _⟩ => ⟨S1x512, .i32⟩
  | .hbm, ⟨37, _⟩ => ⟨S512x1, .i32⟩
  | .hbm, ⟨38, _⟩ => ⟨S512x512, .i32⟩
  | .hbm, ⟨39, _⟩ => ⟨S512x512, .i32⟩
  | .hbm, ⟨40, _⟩ => ⟨S512x512, .i32⟩
  | .hbm, ⟨41, _⟩ => ⟨S512x1, .i32⟩
  | .hbm, ⟨42, _⟩ => ⟨S1x512, .i32⟩
  | .hbm, ⟨43, _⟩ => ⟨S_, .i32⟩
  | .hbm, ⟨44, _⟩ => ⟨S_, .i32⟩
  | .hbm, ⟨45, _⟩ => ⟨S1x512, .i32⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i1⟩
  | .hbm, ⟨51, _⟩ => ⟨S1x512, .i32⟩
  | .hbm, ⟨52, _⟩ => ⟨S1x512, .i32⟩
  | .hbm, ⟨53, _⟩ => ⟨S_, .i32⟩
  | .hbm, ⟨54, _⟩ => ⟨S1x512, .i32⟩
  | .hbm, ⟨55, _⟩ => ⟨S1x512, .i1⟩
  | .hbm, ⟨56, _⟩ => ⟨S1x512, .i1⟩
  | .hbm, ⟨57, _⟩ => ⟨S_, .i32⟩
  | .hbm, ⟨58, _⟩ => ⟨S1x512, .i32⟩
  | .hbm, ⟨59, _⟩ => ⟨S1x512, .i32⟩
  | .hbm, ⟨60, _⟩ => ⟨S1x512, .i32⟩
  | .hbm, ⟨61, _⟩ => ⟨S_, .i32⟩
  | .hbm, ⟨62, _⟩ => ⟨S1x512, .i32⟩
  | .hbm, ⟨63, _⟩ => ⟨S1x512, .i32⟩
  | .hbm, ⟨64, _⟩ => ⟨S_, .i32⟩
  | .hbm, ⟨65, _⟩ => ⟨S1x512, .i32⟩
  | .hbm, ⟨66, _⟩ => ⟨S1x512, .i32⟩
  | .hbm, ⟨67, _⟩ => ⟨S512x512, .i32⟩
  | .hbm, ⟨68, _⟩ => ⟨S512x512, .i32⟩
  | .hbm, ⟨69, _⟩ => ⟨S512x512, .i1⟩
  | .hbm, ⟨70, _⟩ => ⟨S8x1x1, .f32⟩
  | .hbm, ⟨71, _⟩ => ⟨S8x1x1, .f32⟩
  | .hbm, ⟨72, _⟩ => ⟨S512x512, .f32⟩
  | .hbm, ⟨73, _⟩ => ⟨S1x512x512, .f32⟩
  | .hbm, ⟨74, _⟩ => ⟨S8x512x512, .f32⟩
  | .hbm, ⟨75, _⟩ => ⟨S8x512x512, .f32⟩
  | .hbm, ⟨76, _⟩ => ⟨S8x512x512, .f32⟩
  | .hbm, ⟨77, _⟩ => ⟨S8x1x1, .f32⟩
  | .hbm, ⟨78, _⟩ => ⟨S8x1x1, .f32⟩
  | .hbm, ⟨79, _⟩ => ⟨S512x512, .i32⟩
  | .hbm, ⟨80, _⟩ => ⟨S512x512, .f32⟩
  | .hbm, ⟨81, _⟩ => ⟨S1x512x512, .f32⟩
  | .hbm, ⟨82, _⟩ => ⟨S8x512x512, .f32⟩
  | .hbm, ⟨83, _⟩ => ⟨S8x512x512, .f32⟩
  | .hbm, ⟨84, _⟩ => ⟨S8x512x512, .f32⟩
  | .hbm, ⟨85, _⟩ => ⟨S_, .f32⟩
  | .hbm, ⟨86, _⟩ => ⟨S_, .f32⟩
  | .hbm, ⟨87, _⟩ => ⟨S8x512x512, .i1⟩
  | .hbm, ⟨88, _⟩ => ⟨S8x512x512, .f32⟩
  | .hbm, ⟨89, _⟩ => ⟨S8x512x512, .f32⟩
  | .hbm, ⟨90, _⟩ => ⟨S2048x16384, .bf16⟩
  | .hbm, ⟨91, _⟩ => ⟨S4x8x512x8x256, .bf16⟩
  | .hbm, ⟨92, _⟩ => ⟨S4x8x8x256x512, .bf16⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S256x1, .f32⟩
  | .hbm, ⟨97, _⟩ => ⟨S16384x2048, .bf16⟩
  | .local _ .vmem, ⟨0, _⟩ => ⟨S4x128, .f32⟩
  | .local _ .vmem, ⟨1, _⟩ => ⟨S256x512, .bf16⟩
  | .local _ .vmem, ⟨2, _⟩ => ⟨S256x512, .bf16⟩
  | .local _ .vmem, ⟨3, _⟩ => ⟨S4096x256, .bf16⟩
  | .local _ .vmem, ⟨4, _⟩ => ⟨S4096x256, .bf16⟩
  | .local _ .vmem, ⟨5, _⟩ => ⟨S1x1x8x256x512, .bf16⟩
  | .local _ .vmem, ⟨6, _⟩ => ⟨S1x1x8x256x512, .bf16⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S256x1, .f32⟩
  | .local _ .vmem, ⟨12, _⟩ => ⟨S512x256, .bf16⟩
  | .local _ .vmem, ⟨13, _⟩ => ⟨S512x256, .bf16⟩
  | .local _ .vmem, ⟨14, _⟩ => ⟨S2x1x512, .f32⟩
  | .local _ .vmem, ⟨15, _⟩ => ⟨S2x1x512, .f32⟩
  | .local _ .vmem, ⟨16, _⟩ => ⟨S2x256x512, .f32⟩
  | .local _ .smem, ⟨0, _⟩ => ⟨S8, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v29 : Ref sig .tc := ⟨.hbm, 60, rfl⟩
abbrev main_c_8 : Ref sig .tc := ⟨.hbm, 61, rfl⟩
abbrev main_v30 : Ref sig .tc := ⟨.hbm, 62, rfl⟩
abbrev main_v31 : Ref sig .tc := ⟨.hbm, 63, rfl⟩
abbrev main_c_9 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 1 → Nat :=
  let arg1 : BitVec 32 := BitVec.ofNat 32 (i 1).val
  let v0 : Index := Scalar.indexCast arg1
  ![v0.toNat]
@[reducible] def k0_t1_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k0_mult1 (i : grid0.Coords) (k0_t1 : Fin (k0_t1_loop i).trips) : BitVec 32 :=
  let c0_i32_10 : BitVec 32 := 0#32
  let c1_i32_11 : BitVec 32 := 1#32
  let arg15 : BitVec 32 := Scf.iv c0_i32_10 c1_i32_11 k0_t1
  let c512_i32_101 : BitVec 32 := 512#32
  let v169 : BitVec 32 := Scalar.muli arg15 c512_i32_101
  v169
def k0_off2 (i : grid0.Coords) (k0_t1 : Fin (k0_t1_loop i).trips) : Fin 2 → Nat :=
  let c0_i32_10 : BitVec 32 := 0#32
  let c1_i32_11 : BitVec 32 := 1#32
  let arg15 : BitVec 32 := Scf.iv c0_i32_10 c1_i32_11 k0_t1
  let c512_i32_101 : BitVec 32 := 512#32
  let v169 : BitVec 32 := Scalar.muli arg15 c512_i32_101
  let v170 : BitVec 32 := v169
  let v171 : Index := Scalar.indexCast v170
  let c0_102 : Index := 0#32
  ![v171.toNat, 0]
def k0_off3 (i : grid0.Coords) (k0_t1 : Fin (k0_t1_loop i).trips) : Fin 5 → Nat :=
  let c0_103 : Index := 0#32
  let c0_104 : Index := 0#32
  let c0_i32_10 : BitVec 32 := 0#32
  let c1_i32_11 : BitVec 32 := 1#32
  let arg15 : BitVec 32 := Scf.iv c0_i32_10 c1_i32_11 k0_t1
  let v173 : Index := Scalar.indexCast arg15
  let c0_105 : Index := 0#32
  let c0_106 : Index := 0#32
  ![0, 0, v173.toNat, 0, 0]
@[reducible] def k0_t2_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg15 : BitVec 32 := Scf.iv v18 c1_i32_12 k0_t2
  let c512_i32_101 : BitVec 32 := 512#32
  let v169 : BitVec 32 := Scalar.muli arg15 c512_i32_101
  v169
def k0_off4 (i : grid0.Coords) (k0_t2 : Fin (k0_t2_loop i).trips) : Fin 2 → Nat :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg15 : BitVec 32 := Scf.iv v18 c1_i32_12 k0_t2
  let c512_i32_101 : BitVec 32 := 512#32
  let v169 : BitVec 32 := Scalar.muli arg15 c512_i32_101
  let v170 : BitVec 32 := v169
  let v171 : Index := Scalar.indexCast v170
  let c0_102 : Index := 0#32
  ![v171.toNat, 0]
def k0_off5 (i : grid0.Coords) (k0_t2 : Fin (k0_t2_loop i).trips) : Fin 5 → Nat :=
  let c0_103 : Index := 0#32
  let c0_104 : Index := 0#32
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg15 : BitVec 32 := Scf.iv v18 c1_i32_12 k0_t2
  let v173 : Index := Scalar.indexCast arg15
  let c0_105 : Index := 0#32
  let c0_106 : Index := 0#32
  ![0, 0, v173.toNat, 0, 0]
def k0_mult3 (i : grid0.Coords) : BitVec 32 :=
  let arg2 : BitVec 32 := BitVec.ofNat 32 (i 2).val
  let c512_i32 : BitVec 32 := 512#32
  let v19 : BitVec 32 := Scalar.muli arg2 c512_i32
  v19
def k0_off6 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v21 : Index := Scalar.indexCast v20
  let c0_13 : Index := 0#32
  ![v21.toNat, 0]
def k0_off7 (i : grid0.Coords) : Fin 5 → Nat :=
  let c0_14 : Index := 0#32
  let c0_15 : Index := 0#32
  let arg2 : BitVec 32 := BitVec.ofNat 32 (i 2).val
  let v23 : Index := Scalar.indexCast arg2
  let c0_16 : Index := 0#32
  let c0_17 : Index := 0#32
  ![0, 0, v23.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffAttnRefIdeal.lean ====
abbrev S16384x2048 : Shape := ⟨2, ![16384, 2048]⟩
abbrev S4x128 : Shape := ⟨2, ![4, 128]⟩
abbrev S256 : Shape := ⟨1, ![256]⟩
abbrev S4x4096x8x2x128 : Shape := ⟨5, ![4, 4096, 8, 2, 128]⟩
abbrev S4x4096x8x256 : Shape := ⟨4, ![4, 4096, 8, 256]⟩
abbrev S1x128 : Shape := ⟨2, ![1, 128]⟩
abbrev S128 : Shape := ⟨1, ![128]⟩
abbrev S_ : Shape := ⟨0, ![]⟩
abbrev S4096 : Shape := ⟨1, ![4096]⟩
abbrev S8 : Shape := ⟨1, ![8]⟩
abbrev S4x8x2x4096x4096 : Shape := ⟨5, ![4, 8, 2, 4096, 4096]⟩
abbrev S4096x1 : Shape := ⟨2, ![4096, 1]⟩
abbrev S1x4096 : Shape := ⟨2, ![1, 4096]⟩
abbrev S4096x4096 : Shape := ⟨2, ![4096, 4096]⟩
abbrev S8x1x1x1 : Shape := ⟨4, ![8, 1, 1, 1]⟩
abbrev S1x1x4096x4096 : Shape := ⟨4, ![1, 1, 4096, 4096]⟩
abbrev S8x1x4096x4096 : Shape := ⟨4, ![8, 1, 4096, 4096]⟩
abbrev S1x8x1x4096x4096 : Shape := ⟨5, ![1, 8, 1, 4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x256x4096 : Shape := ⟨4, ![4, 8, 256, 4096]⟩
abbrev S4x4096x8 : Shape := ⟨3, ![4, 4096, 8]⟩
abbrev S4x4096x8x1 : Shape := ⟨4, ![4, 4096, 8, 1]⟩
abbrev S1x1x1x256 : Shape := ⟨4, ![1, 1, 1, 256]⟩

abbrev nBuf : Space → Nat
  | .hbm => 143
  | .vmem => 0
  | .smem => 0
  | _ => 0

abbrev hbmTy0_0 (i : Nat) : BufTy := match i % 128 with
  | 0 => ⟨S16384x2048, .bf16⟩
  | 1 => ⟨S16384x2048, .bf16⟩
  | 2 => ⟨S16384x2048, .bf16⟩
  | 3 => ⟨S4x128, .f32⟩
  | 4 => ⟨S256, .f32⟩
  | 5 => ⟨S16384x2048, .f32⟩
  | 6 => ⟨S4x4096x8x2x128, .f32⟩
  | 7 => ⟨S16384x2048, .f32⟩
  | 8 => ⟨S4x4096x8x2x128, .f32⟩
  | 9 => ⟨S16384x2048, .f32⟩
  | 10 => ⟨S4x4096x8x256, .f32⟩
  | 11 => ⟨S1x128, .f32⟩
  | 12 => ⟨S128, .f32⟩
  | 13 => ⟨S1x128, .f32⟩
  | 14 => ⟨S128, .f32⟩
  | 15 => ⟨S128, .f32⟩
  | 16 => ⟨S_, .f32⟩
  | 17 => ⟨S_, .f32⟩
  | 18 => ⟨S_, .f32⟩
  | 19 => ⟨S1x128, .f32⟩
  | 20 => ⟨S128, .f32⟩
  | 21 => ⟨S1x128, .f32⟩
  | 22 => ⟨S128, .f32⟩
  | 23 => ⟨S128, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S4096, .i32⟩
  | 31 => ⟨S4096, .i32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8, .f32⟩
  | 46 => ⟨S4x8x2x4096x4096, .f32⟩
  | 47 => ⟨S_, .f32⟩
  | 48 => ⟨S4x8x2x4096x4096, .f32⟩
  | 49 => ⟨S4x8x2x4096x4096, .f32⟩
  | 50 => ⟨S4096x1, .i32⟩
  | 51 => ⟨S1x4096, .i32⟩
  | 52 => ⟨S4096x4096, .i32⟩
  | 53 => ⟨S4096x4096, .i32⟩
  | 54 => ⟨S4096x4096, .i32⟩
  | 55 => ⟨S4096x4096, .i32⟩
  | 56 => ⟨S4096x4096, .f32⟩
  | 57 => ⟨S1x4096, .i32⟩
  | 58 => ⟨S4096x1, .i32⟩
  | 59 => ⟨S_, .i32⟩
  | 60 => ⟨S_, .i32⟩
  | 61 => ⟨S4096x1, .i32⟩
  | 62 => ⟨S4096x1, .i32⟩
  | 63 => ⟨S4096x1, .i32⟩
  | 64 => ⟨S_, .i32⟩
  | 65 => ⟨S4096x1, .i32⟩
  | 66 => ⟨S4096x1, .i1⟩
  | 67 => ⟨S4096x1, .i32⟩
  | 68 => ⟨S4096x1, .i32⟩
  | 69 => ⟨S_, .i32⟩
  | 70 => ⟨S4096x1, .i32⟩
  | 71 => ⟨S4096x1, .i1⟩
  | 72 => ⟨S4096x1, .i1⟩
  | 73 => ⟨S_, .i32⟩
  | 74 => ⟨S4096x1, .i32⟩
  | 75 => ⟨S4096x1, .i32⟩
  | 76 => ⟨S4096x1, .i32⟩
  | 77 => ⟨S_, .i32⟩
  | 78 => ⟨S4096x1, .i32⟩
  | 79 => ⟨S4096x1, .i32⟩
  | 80 => ⟨S_, .i32⟩
  | 81 => ⟨S4096x1, .i32⟩
  | 82 => ⟨S4096x1, .i32⟩
  | 83 => ⟨S4096x4096, .i32⟩
  | 84 => ⟨S4096x4096, .i32⟩
  | 85 => ⟨S4096x4096, .i1⟩
  | 86 => ⟨S8x1x1x1, .f32⟩
  | 87 => ⟨S1x1x4096x4096, .f32⟩
  | 88 => ⟨S8x1x4096x4096, .f32⟩
  | 89 => ⟨S8x1x4096x4096, .f32⟩
  | 90 => ⟨S8x1x4096x4096, .f32⟩
  | 91 => ⟨S1x8x1x4096x4096, .f32⟩
  | 92 => ⟨S4x8x2x4096x4096, .f32⟩
  | 93 => ⟨S4x8x2x4096x4096, .f32⟩
  | 94 => ⟨S_, .f32⟩
  | 95 => ⟨S_, .f32⟩
  | 96 => ⟨S4x8x2x4096x4096, .i1⟩
  | 97 => ⟨S4x8x2x4096x4096, .f32⟩
  | 98 => ⟨S4x8x2x4096x4096, .f32⟩
  | 99 => ⟨S_, .f32⟩
  | 100 => ⟨S4x8x2x4096, .f32⟩
  | 101 => ⟨S_, .f32⟩
  | 102 => ⟨S4x8x2x4096, .f32⟩
  | 103 => ⟨S4x8x2x4096, .f32⟩
  | 104 => ⟨S4x8x2x4096x1, .f32⟩
  | 105 => ⟨S4x8x2x4096x4096, .f32⟩
  | 106 => ⟨S4x8x2x4096x4096, .f32⟩
  | 107 => ⟨S4x8x2x4096x4096, .f32⟩
  | 108 => ⟨S_, .f32⟩
  | 109 => ⟨S4x8x2x4096, .f32⟩
  | 110 => ⟨S4x8x2x4096x1, .f32⟩
  | 111 => ⟨S4x8x2x4096x4096, .f32⟩
  | 112 => ⟨S4x8x2x4096x4096, .f32⟩
  | 113 => ⟨S4x8x1x4096x4096, .f32⟩
  | 114 => ⟨S4x8x4096x4096, .f32⟩
  | 115 => ⟨S4x8x1x4096x4096, .f32⟩
  | 116 => ⟨S4x8x4096x4096, .f32⟩
  | 117 => ⟨S4x8x4096x4096, .f32⟩
  | 118 => ⟨S4x8x4096x4096, .f32⟩
  | 119 => ⟨S4x8x4096x4096, .f32⟩
  | 120 => ⟨S4x8x256x4096, .f32⟩
  | 121 => ⟨S4x4096x8x256, .f32⟩
  | 122 => ⟨S4x4096x8x256, .f32⟩
  | 123 => ⟨S_, .f32⟩
  | 124 => ⟨S4x4096x8, .f32⟩
  | 125 => ⟨S4x4096x8x1, .f32⟩
  | 126 => ⟨S_, .f32⟩
  | 127 => ⟨S4x4096x8x1, .f32⟩
  | _ => ⟨S16384x2048, .bf16⟩

abbrev hbmTy0_1 (i : Nat) : BufTy := match i % 128 with
  | 0 => ⟨S4x4096x8x1, .f32⟩
  | 1 => ⟨S_, .f32⟩
  | 2 => ⟨S4x4096x8x1, .f32⟩
  | 3 => ⟨S4x4096x8x1, .f32⟩
  | 4 => ⟨S4x4096x8x1, .f32⟩
  | 5 => ⟨S4x4096x8x256, .f32⟩
  | 6 => ⟨S4x4096x8x256, .f32⟩
  | 7 => ⟨S1x1x1x256, .f32⟩
  | 8 => ⟨S4x4096x8x256, .f32⟩
  | 9 => ⟨S4x4096x8x256, .f32⟩
  | 10 => ⟨S_, .f32⟩
  | 11 => ⟨S4x4096x8x256, .f32⟩
  | 12 => ⟨S4x4096x8x256, .f32⟩
  | 13 => ⟨S16384x2048, .f32⟩
  | 14 => ⟨S16384x2048, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_c : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_0 : Ref sig .tc := ⟨.hbm, 73, rfl⟩
abbrev main_call0_v12 : Ref sig .tc := ⟨.hbm, 74, rfl⟩
abbrev main_call0_v13 : Ref sig .tc := ⟨.hbm, 75, rfl⟩
abbrev main_v46 : Ref sig .tc := ⟨.hbm, 76, rfl⟩
abbrev main_c_7 : Ref sig .tc := ⟨.hbm, 77, rfl⟩
abbrev main_v47 : Ref sig .tc := ⟨.hbm, 78, rfl⟩
abbrev main_v48 : Ref sig .tc := ⟨.hbm, 79, rfl⟩
abbrev main_c_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v62 : Ref sig .tc := ⟨.hbm, 98, rfl⟩
abbrev main_cst_10 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_12 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_cst_14 : Ref sig .tc := ⟨.hbm, 126, rfl⟩
abbrev main_v86 : Ref sig .tc := ⟨.hbm, 127, rfl⟩
abbrev main_v87 : Ref sig .tc := ⟨.hbm, 128, rfl⟩
abbrev main_cst_15 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_16 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]
-- ==== Proof.RetSample.Ref.lean ====
/- The retention reference of the sample batch, read at one index. -/
module

public import proofs.«01_k».proof.Proof.Gen.RetSampleRefIdeal.Read
public import Idealize.ShloMosaic.Lib.Pipeline.ValueKit
public import Idealize.ShloMosaic.Lib.Pointwise

@[expose] public section

set_option maxRecDepth 16384

noncomputable section

namespace Cert.RetSampleRefIdeal.Read

open Cert.RetSampleRefIdeal Cert.RetSampleRefIdeal.Gen Idealize.ShloMosaic Idealize.ShloMosaic.TcCoe Idealize.SL.Sem

/-- A query entry. -/
theorem q_at (X : FVec Ideal S1024x12288 .bf16) (b i : Fin 32) (h : Fin 8) (d : Fin 256) :
    val_main_v6 (F := Ideal) X (ix4 b i h d) = X (ix2 (⟨b.val * 32 + i.val, by omega⟩ : Fin 1024) (⟨h.val * 256 + d.val, by omega⟩ : Fin 12288)) := by
  pointwise [val_main_v6, val_main_v2, val_main_v1, val_main_v0]

/-- A scaled key entry. -/
theorem k_at (X : FVec Ideal S1024x12288 .bf16) (b i : Fin 32) (h : Fin 8) (d : Fin 256) :
    val_main_v9 (F := Ideal) X (ix4 b i h d) = X (ix2 (⟨b.val * 32 + i.val, by omega⟩ : Fin 1024) (⟨2048 + (h.val * 256 + d.val), by omega⟩ : Fin 12288))
      * Ideal.ofBits .f32 0x3D800000#32 := by
  pointwise [val_main_v9, val_main_v8, val_main_cst, val_main_v7, val_main_v3, val_main_v1, val_main_v0]

/-- A value entry. -/
theorem v_at (X : FVec Ideal S1024x12288 .bf16) (b i : Fin 32) (h : Fin 8) (e : Fin 512) :
    val_main_v10 (F := Ideal) X (ix4 b i h e) = X (ix2 (⟨b.val * 32 + i.val, by omega⟩ : Fin 1024) (⟨4096 + (h.val * 512 + e.val), by omega⟩ : Fin 12288)) := by
  pointwise [val_main_v10, val_main_v4, val_main_v1, val_main_v0]

/-- A gate entry. -/
theorem g_at (X : FVec Ideal S1024x12288 .bf16) (b i : Fin 32) (n : Fin 4096) :
    val_main_v5 (F := Ideal) X (ix3 b i n) = X (ix2 (⟨b.val * 32 + i.val, by omega⟩ : Fin 1024) (⟨8192 + n.val, by omega⟩ : Fin 12288)) := by
  pointwise [val_main_v5, val_main_v1, val_main_v0]

/-- A score, decayed. -/
theorem sc_at (X : FVec Ideal S1024x12288 .bf16) (b : Fin 32) (h : Fin 8) (i j : Fin 32) :
    val_main_v58 (F := Ideal) X (ix4 b h i j)
      = (∑ d : Fin 256, val_main_v6 (F := Ideal) X (ix4 b i h d) * val_main_v9 (F := Ideal) X (ix4 b j h d)) * val_main_v35 (F := Ideal) (ix3 h i j) := by
  pointwise [val_main_v58, val_main_v57, val_main_v56, val_main_v55]

/-- An output entry before the row norm. -/
theorem o_at (X : FVec Ideal S1024x12288 .bf16) (S : FVec Ideal S32x8x256x512 .f32) (b i : Fin 32) (h : Fin 8) (e : Fin 512) :
    val_main_v66 (F := Ideal) X S (ix4 b i h e)
      = (∑ j : Fin 32, val_main_v10 (F := Ideal) X (ix4 b j h e) * val_main_v58 (F := Ideal) X (ix4 b h i j))
        + ∑ d : Fin 256, S (ix4 b h d e) * (val_main_v6 (F := Ideal) X (ix4 b i h d) * val_main_v43 (F := Ideal) (ix2 i h)) := by
  pointwise [val_main_v66, val_main_v65, val_main_v64, val_main_v63, val_main_v62, val_main_v61, val_main_v60, val_main_v59]

/-- A state entry. -/
theorem s_at (X : FVec Ideal S1024x12288 .bf16) (S : FVec Ideal S32x8x256x512 .f32) (b : Fin 32) (h : Fin 8) (d : Fin 256) (e : Fin 512) :
    val_main_v74 (F := Ideal) X S (ix4 b h d e)
      = S (ix4 b h d e) * val_main_v54 (F := Ideal) (ix1 h)
        + ∑ j : Fin 32, val_main_v9 (F := Ideal) X (ix4 b j h d) * val_main_v51 (F := Ideal) (ix2 j h) * val_main_v10 (F := Ideal) X (ix4 b j h e) := by
  pointwise [val_main_v74, val_main_v73, val_main_v72, val_main_v71, val_main_v70, val_main_v69, val_main_v68, val_main_v67]

/-- A normalised output entry. -/
theorem n_at (X : FVec Ideal S1024x12288 .bf16) (S : FVec Ideal S32x8x256x512 .f32) (b i : Fin 32) (h : Fin 8) (e : Fin 512) :
    val_main_v84 (F := Ideal) X S (ix4 b i h e)
      = val_main_v66 (F := Ideal) X S (ix4 b i h e)
        * Ideal.rsqrt (Ideal.div (∑ e' : Fin 512, val_main_v66 (F := Ideal) X S (ix4 b i h e') * val_main_v66 (F := Ideal) X S (ix4 b i h e'))
          (Ideal.ofBits .f32 0x44000000#32) + Ideal.ofBits .f32 0x358637BD#32) := by
  pointwise [val_main_v84, val_main_v83, val_main_v82, val_main_v81, val_main_v80, val_main_v79, val_main_v78, val_main_v77, val_main_v76, val_main_v75,
    val_main_cst_8, val_main_cst_9, val_main_cst_10]

/-- A gated output entry. -/
theorem ref_at (X : FVec Ideal S1024x12288 .bf16) (S : FVec Ideal S32x8x256x512 .f32) (b i : Fin 32) (h : Fin 8) (e : Fin 512) :
    val_main_v89 (F := Ideal) X S (ix2 (⟨b.val * 32 + i.val, by omega⟩ : Fin 1024) (⟨h.val * 512 + e.val, by omega⟩ : Fin 4096))
      = val_main_v5 (F := Ideal) X (ix3 b i (⟨h.val * 512 + e.val, by omega⟩ : Fin 4096))
        * Ideal.logistic (val_main_v5 (F := Ideal) X (ix3 b i (⟨h.val * 512 + e.val, by omega⟩ : Fin 4096)))
        * val_main_v84 (F := Ideal) X S (ix4 b i h e) := by
  pointwise [val_main_v89, val_main_v88, val_main_v87, val_main_v86, val_main_v85, val_main_call1_v5, val_main_call1_v4, val_main_call1_v3, val_main_call1_v2,
    val_main_call1_v1, val_main_call1_v0, val_main_call1_cst, val_main_call1_cst_0]
  rfl

end Cert.RetSampleRefIdeal.Read

end
-- ==== Proof.RetSample.Kernel.lean ====
/- The retention kernel of the sample batch, read at one index. -/
module

public import proofs.«01_k».proof.Proof.Gen.RetSampleIdeal.Value
public import proofs.«01_k».proof.Proof.RetSample.Ref
public import Idealize.ShloMosaic.Lib.Pipeline.ValueKit
public import Idealize.ShloMosaic.Lib.Pointwise

@[expose] public section

set_option maxRecDepth 16384

noncomputable section

namespace Cert.RetSampleIdeal.Point

open Cert.RetSampleIdeal Cert.RetSampleIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point reads or writes. -/
theorem idx : ∀ t : Fin cfg0.N, win0_0.index t = ![t.val / 8, t.val % 8] ∧ win0_1.index t = ![t.val / 8, 8 + t.val % 8]
    ∧ win0_2.index t = ![t.val / 8, 8 + t.val % 8] ∧ win0_3.index t = ![t.val / 8, 16 + t.val % 8]
    ∧ win0_4.index t = ![t.val % 8, 0, 0] ∧ win0_5.index t = ![t.val % 8, 0, 0] ∧ win0_6.index t = ![t.val % 8, 0, 0]
    ∧ win0_7.index t = ![t.val / 8, t.val % 8, 0, 0] ∧ win0_8.index t = ![t.val / 8, t.val % 8]
    ∧ win0_9.index t = ![t.val / 8, t.val % 8, 0, 0] :=
  (by decide +kernel : ∀ t : Fin grid0.N, _)

/-- The table of decays between positions is the reference's. -/
theorem din_eq (c : Dev nD) : (V m c main_v24 : FVec Ideal S8x32x32 .f32) = Cert.RetSampleRefIdeal.Read.val_main_v35 (F := Ideal) := by
  entry_read
  rfl

/-- The table of decays from the start of the chunk is the reference's, with the axes the other way round. -/
theorem qd_eq (c : Dev nD) : (V m c main_v33 : FVec Ideal S8x32x1 .f32)
    = fun x => Cert.RetSampleRefIdeal.Read.val_main_v43 (F := Ideal) (ix2 (x 1) (x 0)) := by
  entry_read
  funext x
  obtain ⟨h, i, z, rfl⟩ : ∃ (h : Fin 8) (i : Fin 32) (z : Fin 1), x = ix3 h i z :=
    ⟨x 0, x 1, x 2, by funext a; match a with | ⟨0, _⟩ => rfl | ⟨1, _⟩ => rfl | ⟨2, _⟩ => rfl⟩
  pointwise [Cert.RetSampleRefIdeal.Read.val_main_v43, Cert.RetSampleRefIdeal.Read.val_main_v42, Cert.RetSampleRefIdeal.Read.val_main_v41, Cert.RetSampleRefIdeal.Read.val_main_v40, Cert.RetSampleRefIdeal.Read.val_main_v39, Cert.RetSampleRefIdeal.Read.val_main_v38, Cert.RetSampleRefIdeal.Read.val_main_v37, Cert.RetSampleRefIdeal.Read.val_main_v36]
  rfl

/-- The table of decays to the end of the chunk is the reference's, with the axes the other way round. -/
theorem kd_eq (c : Dev nD) : (V m c main_v42 : FVec Ideal S8x32x1 .f32)
    = fun x => Cert.RetSampleRefIdeal.Read.val_main_v51 (F := Ideal) (ix2 (x 1) (x 0)) := by
  entry_read
  funext x
  obtain ⟨h, i, z, rfl⟩ : ∃ (h : Fin 8) (i : Fin 32) (z : Fin 1), x = ix3 h i z :=
    ⟨x 0, x 1, x 2, by funext a; match a with | ⟨0, _⟩ => rfl | ⟨1, _⟩ => rfl | ⟨2, _⟩ => rfl⟩
  pointwise [Cert.RetSampleRefIdeal.Read.val_main_v51, Cert.RetSampleRefIdeal.Read.val_main_v50, Cert.RetSampleRefIdeal.Read.val_main_v49, Cert.RetSampleRefIdeal.Read.val_main_v48, Cert.RetSampleRefIdeal.Read.val_main_v47, Cert.RetSampleRefIdeal.Read.val_main_v46, Cert.RetSampleRefIdeal.Read.val_main_v45, Cert.RetSampleRefIdeal.Read.val_main_v44]
  rfl

/-- The f32 pattern of thirty-two. -/
theorem ofBits_32 : Ideal.ofBits .f32 0x42000000#32 = ((32 : ℝ) : EReal) := by
  simp [Ideal.ofBits, Ideal.ieee, -EReal.coe_mul]; norm_num

/-- The decay over the whole chunk is the last entry of the decays from its start. -/
theorem cd_eq (h : Fin 8) : Cert.RetSampleRefIdeal.Read.val_main_v43 (F := Ideal) (ix2 (31 : Fin 32) h) = Cert.RetSampleRefIdeal.Read.val_main_v54 (F := Ideal) (ix1 h) := by
  pointwise [Cert.RetSampleRefIdeal.Read.val_main_v43, Cert.RetSampleRefIdeal.Read.val_main_v42, Cert.RetSampleRefIdeal.Read.val_main_v41, Cert.RetSampleRefIdeal.Read.val_main_v40, Cert.RetSampleRefIdeal.Read.val_main_v39, Cert.RetSampleRefIdeal.Read.val_main_v38, Cert.RetSampleRefIdeal.Read.val_main_v37, Cert.RetSampleRefIdeal.Read.val_main_v36, Cert.RetSampleRefIdeal.Read.val_main_v54, Cert.RetSampleRefIdeal.Read.val_main_v53, Cert.RetSampleRefIdeal.Read.val_main_v52, Cert.RetSampleRefIdeal.Read.val_main_v19, Cert.RetSampleRefIdeal.Read.val_main_cst_5, Cert.RetSampleRefIdeal.Read.val_main_cst_7]
  rw [ofBits_32]
  refine congrArg (fun z : EReal => Ideal.exp (Cert.RetSampleRefIdeal.Read.val_main_v18 (F := Ideal) (ix1 h) * z)) ?_
  show (((31#32 : BitVec 32).toInt : ℝ) : EReal) + ((1 : ℝ) : EReal) = _
  rw [show (31#32 : BitVec 32).toInt = 31 from by decide, ← EReal.coe_add]
  exact congrArg _ (by norm_num)

/-- One output entry before the row norm. -/
theorem o_at (q k : FVec Ideal S32x256 .bf16) (v : FVec Ideal S32x512 .bf16) (s : FVec Ideal S256x512 .f32) (qd : FVec Ideal S1x32x1 .f32)
    (din : FVec Ideal S1x32x32 .f32) (i : Fin 32) (e : Fin 512) :
    k0_pay8 (F := Ideal) q k v s qd din (ix2 i e)
      = (∑ j : Fin 32, (∑ d : Fin 256, q (ix2 i d) * (k (ix2 j d) * Ideal.ofBits .f32 0x3D800000#32)) * din (ix3 0 i j) * v (ix2 j e))
        + ∑ d : Fin 256, q (ix2 i d) * qd (ix3 0 i 0) * s (ix2 d e) := by
  pointwise [k0_pay8, k0_pay7, k0_pay6]

/-- One entry of the new state. -/
theorem s_at (k : FVec Ideal S32x256 .bf16) (v : FVec Ideal S32x512 .bf16) (s : FVec Ideal S256x512 .f32) (qd kd : FVec Ideal S1x32x1 .f32)
    (d : Fin 256) (e : Fin 512) :
    k0_pay1 (F := Ideal) v (k0_pay9 (F := Ideal) s qd) (k0_pay10 (F := Ideal) k kd) (ix2 d e)
      = s (ix2 d e) * qd (ix3 0 31 0)
        + ∑ j : Fin 32, k (ix2 j d) * Ideal.ofBits .f32 0x3D800000#32 * kd (ix3 0 j 0) * v (ix2 j e) := by
  pointwise [k0_pay1, k0_pay9, k0_pay10, k0_pay7, k0_pay6]

/-- One gated output entry over the rows before the norm. -/
theorem gate_at (o : FVec Ideal S32x512 .f32) (g : FVec Ideal S32x512 .bf16) (i : Fin 32) (e : Fin 512) :
    k0_pay3 (F := Ideal) o g (ix2 i e)
      = g (ix2 i e) * Ideal.logistic (g (ix2 i e))
        * (o (ix2 i e) * Ideal.rsqrt (Ideal.div (∑ e' : Fin 512, o (ix2 i e') * o (ix2 i e'))
          (Ideal.ofBits .f32 0x44000000#32) + Ideal.ofBits .f32 0x358637BD#32)) := by
  pointwise [k0_pay3]

/-- The state block as a matrix. -/
theorem s0_at (s : FVec Ideal S1x1x256x512 .f32) (d : Fin 256) (e : Fin 512) : k0_pay5 (F := Ideal) s (ix2 d e) = s (ix4 0 0 d e) := by
  pointwise [k0_pay5]

/-- The state as it is written back. -/
theorem out_at (v : FVec Ideal S32x512 .bf16) (s : FVec Ideal S256x512 .f32) (k : FVec Ideal S32x256 .f32) (d : Fin 256) (e : Fin 512) :
    k0_pay4 (F := Ideal) v s k (ix4 0 0 d e) = k0_pay1 (F := Ideal) v s k (ix2 d e) := by
  pointwise [k0_pay4]

end Cert.RetSampleIdeal.Point

end
-- ==== Proof.RetSample.Blocks.lean ====
/- The retention kernel of the sample batch: its blocks against the arrays the reference reads. -/
module

public import proofs.«01_k».proof.Proof.RetSample.Kernel

@[expose] public section

set_option maxRecDepth 16384

noncomputable section

namespace Cert.RetSampleIdeal.Point

open Cert.RetSampleIdeal Cert.RetSampleIdeal.Gen Idealize.ShloMosaic Idealize.ShloMosaic.TcCoe Idealize.SL.Sem
open Idealize.ShloMosaic.Pipeline (Dat)

variable (m : (ℓ : Loc nD τ sig) → Buf (Elt Ideal) ℓ)

/-- The projections the kernel reads. -/
abbrev X (c : Dev nD) : FVec Ideal S1024x12288 .bf16 := m ((c : Thread nD τ).loc main_arg0)

/-- The initial state the kernel reads. -/
abbrev S₀ (c : Dev nD) : FVec Ideal S32x8x256x512 .f32 := m ((c : Thread nD τ).loc main_arg1)

section blocks

variable (c : Dev nD) (b : Fin 32) (h : Fin 8) (ht : 8 * b.val + h.val < cfg0.N)

/-- The blocks of the point of batch `b` and head `h`. -/
theorem idx_at : win0_0.index ⟨8 * b.val + h.val, ht⟩ = ![b.val, h.val] ∧ win0_1.index ⟨8 * b.val + h.val, ht⟩ = ![b.val, 8 + h.val]
    ∧ win0_2.index ⟨8 * b.val + h.val, ht⟩ = ![b.val, 8 + h.val] ∧ win0_3.index ⟨8 * b.val + h.val, ht⟩ = ![b.val, 16 + h.val]
    ∧ win0_4.index ⟨8 * b.val + h.val, ht⟩ = ![h.val, 0, 0] ∧ win0_5.index ⟨8 * b.val + h.val, ht⟩ = ![h.val, 0, 0]
    ∧ win0_6.index ⟨8 * b.val + h.val, ht⟩ = ![h.val, 0, 0]
    ∧ win0_7.index ⟨8 * b.val + h.val, ht⟩ = ![b.val, h.val, 0, 0] ∧ win0_8.index ⟨8 * b.val + h.val, ht⟩ = ![b.val, h.val]
    ∧ win0_9.index ⟨8 * b.val + h.val, ht⟩ = ![b.val, h.val, 0, 0] := by
  have i1 := idx ⟨8 * b.val + h.val, ht⟩
  have hd : (8 * b.val + h.val) / 8 = b.val := by omega
  have hm : (8 * b.val + h.val) % 8 = h.val := by omega
  simpa only [hd, hm] using i1

/-- A query entry of the point's block. -/
theorem q_blk (i : Fin 32) (d : Fin 256) : (show FVec Ideal S32x256 .bf16 from iblk m c 0 ⟨8 * b.val + h.val, ht⟩) (ix2 i d)
    = Cert.RetSampleRefIdeal.Read.val_main_v6 (F := Ideal) (X m c) (ix4 b i h d) := by
  have i1 := idx_at b h ht
  rw [Cert.RetSampleRefIdeal.Read.q_at]
  blk_point [iblk, V, i1]

/-- A key entry of the point's block, scaled. -/
theorem k_blk (i : Fin 32) (d : Fin 256) : (show FVec Ideal S32x256 .bf16 from iblk m c 1 ⟨8 * b.val + h.val, ht⟩) (ix2 i d) * Ideal.ofBits .f32 0x3D800000#32
    = Cert.RetSampleRefIdeal.Read.val_main_v9 (F := Ideal) (X m c) (ix4 b i h d) := by
  have i1 := idx_at b h ht
  rw [Cert.RetSampleRefIdeal.Read.k_at]
  blk_point [iblk, V, i1]

/-- A value entry of the point's block. -/
theorem v_blk (i : Fin 32) (e : Fin 512) : (show FVec Ideal S32x512 .bf16 from iblk m c 2 ⟨8 * b.val + h.val, ht⟩) (ix2 i e)
    = Cert.RetSampleRefIdeal.Read.val_main_v10 (F := Ideal) (X m c) (ix4 b i h e) := by
  have i1 := idx_at b h ht
  rw [Cert.RetSampleRefIdeal.Read.v_at]
  blk_point [iblk, V, i1]

/-- A gate entry of the point's block. -/
theorem g_blk (i : Fin 32) (e : Fin 512) : (show FVec Ideal S32x512 .bf16 from iblk m c 3 ⟨8 * b.val + h.val, ht⟩) (ix2 i e)
    = Cert.RetSampleRefIdeal.Read.val_main_v5 (F := Ideal) (X m c) (ix3 b i (⟨h.val * 512 + e.val, by omega⟩ : Fin 4096)) := by
  have i1 := idx_at b h ht
  rw [Cert.RetSampleRefIdeal.Read.g_at]
  blk_point [iblk, V, i1]

/-- A state entry of the point's block. -/
theorem s_blk (d : Fin 256) (e : Fin 512) : (show FVec Ideal S1x1x256x512 .f32 from iblk m c 7 ⟨8 * b.val + h.val, ht⟩) (ix4 0 0 d e)
    = S₀ m c (ix4 b h d e) := by
  have i1 := idx_at b h ht
  blk_point [iblk, V, i1]

/-- A decay between two positions. -/
theorem din_blk (i j : Fin 32) : (show FVec Ideal S1x32x32 .f32 from iblk m c 4 ⟨8 * b.val + h.val, ht⟩) (ix3 0 i j)
    = Cert.RetSampleRefIdeal.Read.val_main_v35 (F := Ideal) (ix3 h i j) := by
  have i1 := idx_at b h ht
  have e := din_eq m c
  have hx : ((cfg0.win 4).blk ⟨8 * b.val + h.val, ht⟩).view.emb (ix3 0 i j) = ix3 h i j := by
    blk_ext [i1]
  refine (congrArg (V m c main_v24) hx).trans ?_
  exact congrFun e _

/-- A decay from the start of the chunk. -/
theorem qd_blk (i : Fin 32) : (show FVec Ideal S1x32x1 .f32 from iblk m c 5 ⟨8 * b.val + h.val, ht⟩) (ix3 0 i 0)
    = Cert.RetSampleRefIdeal.Read.val_main_v43 (F := Ideal) (ix2 i h) := by
  have i1 := idx_at b h ht
  have e := qd_eq m c
  have hx : ((cfg0.win 5).blk ⟨8 * b.val + h.val, ht⟩).view.emb (ix3 0 i 0) = ix3 h i (0 : Fin 1) := by
    blk_ext [i1]
  refine (congrArg (V m c main_v33) hx).trans ?_
  exact congrFun e _

/-- A decay to the end of the chunk. -/
theorem kd_blk (i : Fin 32) : (show FVec Ideal S1x32x1 .f32 from iblk m c 6 ⟨8 * b.val + h.val, ht⟩) (ix3 0 i 0)
    = Cert.RetSampleRefIdeal.Read.val_main_v51 (F := Ideal) (ix2 i h) := by
  have i1 := idx_at b h ht
  have e := kd_eq m c
  have hx : ((cfg0.win 6).blk ⟨8 * b.val + h.val, ht⟩).view.emb (ix3 0 i 0) = ix3 h i (0 : Fin 1) := by
    blk_ext [i1]
  refine (congrArg (V m c main_v42) hx).trans ?_
  exact congrFun e _

end blocks

end Cert.RetSampleIdeal.Point

end
-- ==== Proof.RetSample.Value.lean ====
/- The retention kernel of the sample batch computes its reference. -/
module

public import proofs.«01_k».proof.Proof.RetSample.Blocks

@[expose] public section

set_option maxRecDepth 16384

noncomputable section

namespace Cert.RetSampleIdeal.Point

open Cert.RetSampleIdeal Cert.RetSampleIdeal.Gen Idealize.ShloMosaic Idealize.ShloMosaic.TcCoe Idealize.SL.Sem
open Idealize.ShloMosaic.Pipeline (Dat)

variable (m : (ℓ : Loc nD τ sig) → Buf (Elt Ideal) ℓ)

/-- The rows before the norm that the point of batch `b` and head `h` computes. -/
def rows (c : Dev nD) (t : Fin cfg0.N) : FVec Ideal S32x512 .f32 :=
  k0_pay8 (F := Ideal) (iblk m c 0 t) (iblk m c 1 t) (iblk m c 2 t) (k0_pay5 (F := Ideal) (iblk m c 7 t)) (iblk m c 5 t) (iblk m c 4 t)

/-- What a point writes to the gated output. -/
theorem gated_eq (c : Dev nD) (t : Fin cfg0.N) : (outsAt0 m c t).1 = k0_pay3 (F := Ideal) (rows m c t) (iblk m c 3 t) := by
  unfold outsAt0
  frame_out
  rfl

/-- What a point writes to the state. -/
theorem state_eq (c : Dev nD) (t : Fin cfg0.N) : (outsAt0 m c t).2
    = k0_pay4 (F := Ideal) (iblk m c 2 t) (k0_pay9 (F := Ideal) (k0_pay5 (F := Ideal) (iblk m c 7 t)) (iblk m c 5 t))
        (k0_pay10 (F := Ideal) (iblk m c 1 t) (iblk m c 6 t)) := by
  unfold outsAt0
  frame_out

/-- The point's rows before the norm are the reference's. -/
theorem rows_at (c : Dev nD) (b : Fin 32) (h : Fin 8) (ht : 8 * b.val + h.val < cfg0.N) (i : Fin 32) (e : Fin 512) :
    rows m c ⟨8 * b.val + h.val, ht⟩ (ix2 i e) = Cert.RetSampleRefIdeal.Read.val_main_v66 (F := Ideal) (X m c) (S₀ m c) (ix4 b i h e) := by
  unfold rows
  rw [o_at, Cert.RetSampleRefIdeal.Read.o_at]
  simp only [Cert.RetSampleRefIdeal.Read.sc_at]
  refine congrArg₂ (· + ·) (Finset.sum_congr rfl fun j _ => ?_) (Finset.sum_congr rfl fun d _ => ?_)
  · refine (mul_comm _ _).trans (congrArg₂ (· * ·) (v_blk m c b h ht j e) (congrArg₂ (· * ·) (Finset.sum_congr rfl fun d _ => ?_) (din_blk m c b h ht i j)))
    exact congrArg₂ (· * ·) (q_blk m c b h ht i d) (k_blk m c b h ht j d)
  · refine (mul_comm _ _).trans (congrArg₂ (· * ·) ?_ (congrArg₂ (· * ·) (q_blk m c b h ht i d) (qd_blk m c b h ht i)))
    exact (s0_at _ d e).trans (s_blk m c b h ht d e)

/-- The gated output of the reference over the kernel's own arguments. -/
abbrev ref (c : Dev nD) : FVec Ideal S1024x4096 .bf16 := Cert.RetSampleRefIdeal.Read.val_main_v89 (F := Ideal) (X m c) (S₀ m c)

/-- The state of the reference over the kernel's own arguments. -/
abbrev refState (c : Dev nD) : FVec Ideal S32x8x256x512 .f32 := Cert.RetSampleRefIdeal.Read.val_main_v74 (F := Ideal) (X m c) (S₀ m c)

/-- The gated output the kernel leaves is the reference's. -/
theorem final (c : Dev nD) : (dats m 0 c).arrAt 8 cfg0.N = ref m c := by
  refine (dats m 0 c).arrAt_eq_of_covers 8 _ (by decide +kernel) fun t hf y => ?_
  blk_simp
  rw [after0_8]
  have hN : t.val < 256 := lt_of_lt_of_eq t.isLt N_0
  obtain ⟨b, h, ht⟩ : ∃ (b : Fin 32) (h : Fin 8), t.val = 8 * b.val + h.val := ⟨⟨t.val / 8, by omega⟩, ⟨t.val % 8, by omega⟩, by show t.val = 8 * (t.val / 8) + t.val % 8; omega⟩
  obtain ⟨tv, htv⟩ := t
  obtain rfl : tv = 8 * b.val + h.val := ht
  have i1 := idx_at b h htv
  obtain ⟨i, e, rfl⟩ : ∃ (i : Fin 32) (e : Fin 512), y = ix2 i e := ⟨y 0, y 1, by funext a; match a with | ⟨0, _⟩ => rfl | ⟨1, _⟩ => rfl⟩
  have hi : ((cfg0.win 8).blk ⟨8 * b.val + h.val, htv⟩).view.emb (ix2 i e)
      = ix2 (⟨b.val * 32 + i.val, by omega⟩ : Fin 1024) (⟨h.val * 512 + e.val, by omega⟩ : Fin 4096) := by
    blk_ext [i1]
  unfold ref
  rw [hi, Cert.RetSampleRefIdeal.Read.ref_at, Cert.RetSampleRefIdeal.Read.n_at, gated_eq, gate_at]
  simp only [rows_at]
  exact congrArg (· * _) (congrArg₂ (· * ·) (g_blk m c b h htv i e) (congrArg Ideal.logistic (g_blk m c b h htv i e)))

/-- The state the kernel leaves is the reference's. -/
theorem finalState (c : Dev nD) : (dats m 0 c).arrAt 9 cfg0.N = refState m c := by
  refine (dats m 0 c).arrAt_eq_of_covers 9 _ (by decide +kernel) fun t hf y => ?_
  blk_simp
  rw [after0_9]
  have hN : t.val < 256 := lt_of_lt_of_eq t.isLt N_0
  obtain ⟨b, h, ht⟩ : ∃ (b : Fin 32) (h : Fin 8), t.val = 8 * b.val + h.val := ⟨⟨t.val / 8, by omega⟩, ⟨t.val % 8, by omega⟩, by show t.val = 8 * (t.val / 8) + t.val % 8; omega⟩
  obtain ⟨tv, htv⟩ := t
  obtain rfl : tv = 8 * b.val + h.val := ht
  have i1 := idx_at b h htv
  obtain ⟨z, w, d, e, rfl⟩ : ∃ (z w : Fin 1) (d : Fin 256) (e : Fin 512), y = ix4 z w d e :=
    ⟨y 0, y 1, y 2, y 3, by funext a; match a with | ⟨0, _⟩ => rfl | ⟨1, _⟩ => rfl | ⟨2, _⟩ => rfl | ⟨3, _⟩ => rfl⟩
  obtain rfl : z = 0 := Subsingleton.elim _ _
  obtain rfl : w = 0 := Subsingleton.elim _ _
  have hi : ((cfg0.win 9).blk ⟨8 * b.val + h.val, htv⟩).view.emb (ix4 0 0 d e) = ix4 b h d e := by
    blk_ext [i1]
  unfold refState
  rw [hi, Cert.RetSampleRefIdeal.Read.s_at, state_eq, out_at, s_at, s0_at]
  refine congrArg₂ (· + ·) (congrArg₂ (· * ·) (s_blk m c b h htv d e) ?_) (Finset.sum_congr rfl fun j _ => ?_)
  · exact (qd_blk m c b h htv 31).trans (cd_eq h)
  · exact congrArg₂ (· * ·) (congrArg₂ (· * ·) (k_blk m c b h htv j d) (kd_blk m c b h htv j)) (v_blk m c b h htv j e)

end Cert.RetSampleIdeal.Point

end
-- ==== Proof.RetSample.Claim.lean ====
/- The retention of the sample batch: the kernel and its reference agree. -/
module

public import proofs.«01_k».proof.Defs
public import proofs.«01_k».proof.Proof.RetSample.Value
public import proofs.«01_k».proof.Proof.Gen.RetSampleRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicRetSample : Cert.algebraic_RetSampleIdeal_RetSampleRefIdeal := by
  pair_intro
  · run_from Cert.RetSampleIdeal.Value.run_blocks m g
  · run_from Cert.RetSampleRefIdeal.Value.run m' g'
    · rw [Cert.RetSampleRefIdeal.Read.val_main_v89_eq, (hagree c).1, (hagree c).2]
      exact (Cert.RetSampleIdeal.Point.final m c).symm
    · exact (Cert.RetSampleIdeal.Point.finalState m c).symm

end Cert.Proof

end
-- ==== Proof.Mlp.Kernel.lean ====
/- The feed-forward kernel, read at one index of the array it leaves. -/
module

public import proofs.«01_k».proof.Proof.Gen.MlpIdeal.Value
public import Idealize.ShloMosaic.Lib.Pipeline.ValueKit
public import Idealize.ShloMosaic.Lib.Pointwise

@[expose] public section

set_option maxRecDepth 16384

noncomputable section

namespace Cert.MlpIdeal.Point

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point reads or writes. -/
theorem idx : ∀ t : Fin cfg0.N, win0_0.index t = ![t.val / 16, 0] ∧ win0_1.index t = ![0, 0]
    ∧ win0_2.index t = ![0, t.val % 16] ∧ win0_3.index t = ![t.val % 16, 0] ∧ win0_4.index t = ![0, 0]
    ∧ win0_5.index t = ![t.val / 16, 0] :=
  (by decide +kernel : ∀ t : Fin grid0.N, _)

/-- The normalised rows of a block. -/
theorem norm_at (x : FVec Ideal S1024x2048 .f32) (g : FVec Ideal S1x2048 .f32) (p : Fin 1024) (k : Fin 2048) :
    k0_pay1 (F := Ideal) x g (ix2 p k)
      = x (ix2 p k) * Ideal.rsqrt (Ideal.div (∑ k' : Fin 2048, x (ix2 p k') * x (ix2 p k'))
          (Ideal.ofBits .f32 0x45000000#32) + Ideal.ofBits .f32 0x358637BD#32) * g (ix2 0 k) := by
  pointwise [k0_pay1]

/-- The block starts as zero. -/
theorem zero_at (j : S1024x2048.Idx) : k0_pay2 (F := Ideal) j = 0 := by pointwise [k0_pay2]

/-- One step adds its slice of hidden units. -/
theorem step_at (h : FVec Ideal S1024x2048 .bf16) (u : FVec Ideal S2048x512 .bf16) (acc : FVec Ideal S1024x2048 .f32)
    (w : FVec Ideal S512x2048 .bf16) (p : Fin 1024) (d : Fin 2048) :
    k0_pay3 (F := Ideal) h u acc w (ix2 p d) = acc (ix2 p d) + ∑ f : Fin 512,
      max (∑ k : Fin 2048, h (ix2 p k) * u (ix2 k f)) 0 * max (∑ k : Fin 2048, h (ix2 p k) * u (ix2 k f)) 0 * w (ix2 f d) := by
  pointwise [k0_pay3]

/-- The last step's addition: the row, normalised and scaled, onto the input. -/
theorem last_at (f x : FVec Ideal S1024x2048 .f32) (g : FVec Ideal S1x2048 .f32) (p : Fin 1024) (d : Fin 2048) :
    k0_pay4 (F := Ideal) f x g (ix2 p d)
      = x (ix2 p d) + f (ix2 p d)
        * Ideal.rsqrt (Ideal.div (∑ d' : Fin 2048, f (ix2 p d') * f (ix2 p d'))
            (Ideal.ofBits .f32 0x45000000#32) + Ideal.ofBits .f32 0x358637BD#32) * g (ix2 0 d) := by
  pointwise [k0_pay4]

/-- The normalised rows the points of run `r` work on. -/
def rows (c : Dev nD) (r : ℕ) (h0 : 16 * r < cfg0.N) : FVec Ideal S1024x2048 .bf16 :=
  k0_pay1 (F := Ideal) (iblk m c 0 ⟨16 * r, h0⟩) (iblk m c 1 ⟨16 * r, h0⟩)

/-- What point `n` adds to its block, over normalised rows `H`. -/
def part (c : Dev nD) (H : FVec Ideal S1024x2048 .bf16) (n : ℕ) (p : Fin 1024) (d : Fin 2048) : EReal :=
  if h : n < cfg0.N then
    ∑ f : Fin 512,
      max (∑ k : Fin 2048, H (ix2 p k) * (show FVec Ideal S2048x512 .bf16 from iblk m c 2 ⟨n, h⟩) (ix2 k f)) 0
      * max (∑ k : Fin 2048, H (ix2 p k) * (show FVec Ideal S2048x512 .bf16 from iblk m c 2 ⟨n, h⟩) (ix2 k f)) 0
      * (show FVec Ideal S512x2048 .bf16 from iblk m c 3 ⟨n, h⟩) (ix2 f d)
  else 0

/-- A step at point `n` over rows `H` adds that point's part. -/
theorem step_part (c : Dev nD) (H : FVec Ideal S1024x2048 .bf16) (acc : FVec Ideal S1024x2048 .f32) (n : ℕ) (h : n < cfg0.N)
    (p : Fin 1024) (d : Fin 2048) :
    k0_pay3 (F := Ideal) H (iblk m c 2 ⟨n, h⟩) acc (iblk m c 3 ⟨n, h⟩) (ix2 p d) = acc (ix2 p d) + part m c H n p d := by
  rw [step_at, part, dif_pos h]

/-- Before the last point of a run the kept block is the run's normalised rows, and the output block the sum of the
    parts so far. -/
theorem acc (c : Dev nD) (r : ℕ) (h0 : 16 * r < cfg0.N) : ∀ (s : ℕ) (hs : s < 15) (h : 16 * r + s < cfg0.N),
    (outsAt0 m c (16 * r + s) h).2 = rows m c r h0
    ∧ ∀ (p : Fin 1024) (d : Fin 2048), (outsAt0 m c (16 * r + s) h).1 (ix2 p d)
        = ∑ s' ∈ Finset.range (s + 1), part m c (rows m c r h0) (16 * r + s') p d
  | 0, hs, h => by
    rw [outsAt0_A m c ⟨16 * r + 0, h⟩ (by simp) (by simp)]
    refine ⟨?_, fun p d => ?_⟩
    · frame_out
      rfl
    · frame_out
      refine (step_part m c (rows m c r h0) _ (16 * r + 0) h p d).trans ?_
      rw [zero_at, zero_add, Finset.sum_range_one]
  | s + 1, hs, h => by
    obtain ⟨ih2, ih1⟩ := acc c r h0 s (by omega) (by omega)
    rw [outsAt0_B m c ⟨16 * r + (s + 1), h⟩ (by show ¬(16 * r + (s + 1)) % 16 = 0; omega) (by show ¬(16 * r + (s + 1)) % 16 = 15; omega)]
    refine ⟨?_, fun p d => ?_⟩
    · frame_out
      exact ih2
    · frame_out
      rw [(Memref.isWhole_whole cc0_scratch0).read_unread]
      rw [show (outsAt0 m c ((⟨16 * r + (s + 1), h⟩ : Fin cfg0.N).val - 1) (Nat.lt_of_le_of_lt (Nat.sub_le _ _) h)).2 = rows m c r h0 from ih2]
      refine (step_part m c (rows m c r h0) _ (16 * r + (s + 1)) h p d).trans ?_
      rw [Finset.sum_range_succ _ (s + 1), ← ih1]
      rfl

/-- What the last point of a run leaves in its block. -/
theorem full (c : Dev nD) (r : ℕ) (h0 : 16 * r < cfg0.N) (h : 16 * r + 15 < cfg0.N) (p : Fin 1024) (d : Fin 2048) :
    (outsAt0 m c (16 * r + 15) h).1 (ix2 p d)
      = (show FVec Ideal S1024x2048 .f32 from iblk m c 0 ⟨16 * r + 15, h⟩) (ix2 p d)
        + (∑ s : Fin 16, part m c (rows m c r h0) (16 * r + s) p d)
        * Ideal.rsqrt (Ideal.div (∑ d' : Fin 2048, (∑ s : Fin 16, part m c (rows m c r h0) (16 * r + s) p d') * (∑ s : Fin 16, part m c (rows m c r h0) (16 * r + s) p d'))
            (Ideal.ofBits .f32 0x45000000#32) + Ideal.ofBits .f32 0x358637BD#32)
        * (show FVec Ideal S1x2048 .f32 from iblk m c 4 ⟨16 * r + 15, h⟩) (ix2 0 d) := by
  obtain ⟨ih2, ih1⟩ := acc m c r h0 14 (by omega) (by omega)
  have e : ∀ d' : Fin 2048, k0_pay3 (F := Ideal) (rows m c r h0) (iblk m c 2 ⟨16 * r + 15, h⟩) (outsAt0 m c (16 * r + 14) (by omega)).1
      (iblk m c 3 ⟨16 * r + 15, h⟩) (ix2 p d') = ∑ s : Fin 16, part m c (rows m c r h0) (16 * r + s) p d' := fun d' => by
    rw [step_part, ih1 p d', Finset.sum_range fun s => part m c (rows m c r h0) (16 * r + s) p d', Fin.sum_univ_castSucc (n := 15)]
    rfl
  rw [outsAt0_C m c ⟨16 * r + 15, h⟩ (by show ¬(16 * r + 15) % 16 = 0; omega) (by show (16 * r + 15) % 16 = 15; omega)]
  frame_out
  rw [(Memref.isWhole_whole cc0_scratch0).read_unread]
  rw [show (outsAt0 m c ((⟨16 * r + 15, h⟩ : Fin cfg0.N).val - 1) (Nat.lt_of_le_of_lt (Nat.sub_le _ _) h)).2 = rows m c r h0 from ih2]
  rw [last_at, ← e d]
  simp only [← e]
  rfl

end Cert.MlpIdeal.Point

end
-- ==== Proof.Mlp.Ref.lean ====
/- The reference of the feed-forward block, read at one index. -/
module

public import proofs.«01_k».proof.Proof.Gen.MlpRefIdeal.Read
public import Idealize.ShloMosaic.Lib.Pipeline.ValueKit
public import Idealize.ShloMosaic.Lib.Pointwise

@[expose] public section

set_option maxRecDepth 16384

noncomputable section

namespace Cert.MlpRefIdeal.Read

open Cert.MlpRefIdeal Cert.MlpRefIdeal.Gen Idealize.ShloMosaic Idealize.ShloMosaic.TcCoe Idealize.SL.Sem

/-- A row of the input normalised by its root mean square and scaled. -/
theorem norm_at (X : FVec Ideal S16384x2048 .f32) (G : FVec Ideal S2048 .f32) (r : Fin 16384) (k : Fin 2048) :
    val_main_v12 (F := Ideal) X G (ix2 r k)
      = X (ix2 r k) * Ideal.rsqrt (Ideal.div (∑ k' : Fin 2048, X (ix2 r k') * X (ix2 r k'))
          (Ideal.ofBits .f32 0x45000000#32) + Ideal.ofBits .f32 0x358637BD#32) * G (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The squared positive part of the normalised row against a column of the first weights. -/
theorem up_at (X : FVec Ideal S16384x2048 .f32) (G : FVec Ideal S2048 .f32) (U : FVec Ideal S2048x8192 .f32)
    (r : Fin 16384) (f : Fin 8192) :
    val_main_v15 (F := Ideal) X G U (ix2 r f)
      = max (∑ k : Fin 2048, val_main_v12 (F := Ideal) X G (ix2 r k) * U (ix2 k f)) 0
        * max (∑ k : Fin 2048, val_main_v12 (F := Ideal) X G (ix2 r k) * U (ix2 k f)) 0 := by
  pointwise [val_main_v15, val_main_v14, val_main_v13, val_main_call0_v0, val_main_call0_cst]

/-- The second product. -/
theorem down_at (X : FVec Ideal S16384x2048 .f32) (G : FVec Ideal S2048 .f32) (U : FVec Ideal S2048x8192 .f32)
    (D : FVec Ideal S8192x2048 .f32) (r : Fin 16384) (d : Fin 2048) :
    val_main_v16 (F := Ideal) X G U D (ix2 r d)
      = ∑ f : Fin 8192, val_main_v15 (F := Ideal) X G U (ix2 r f) * D (ix2 f d) := by
  pointwise [val_main_v16]

/-- The whole reference at one index: the input plus the second product normalised over its row. -/
theorem ref_at (X : FVec Ideal S16384x2048 .f32) (G : FVec Ideal S2048 .f32) (U : FVec Ideal S2048x8192 .f32)
    (D : FVec Ideal S8192x2048 .f32) (P : FVec Ideal S2048 .f32) (r : Fin 16384) (d : Fin 2048) :
    val_main_v30 (F := Ideal) X G U D P (ix2 r d)
      = X (ix2 r d) + val_main_v16 (F := Ideal) X G U D (ix2 r d)
        * Ideal.rsqrt (Ideal.div (∑ d' : Fin 2048, val_main_v16 (F := Ideal) X G U D (ix2 r d') * val_main_v16 (F := Ideal) X G U D (ix2 r d'))
            (Ideal.ofBits .f32 0x45000000#32) + Ideal.ofBits .f32 0x358637BD#32) * P (ix1 d) := by
  pointwise [val_main_v30, val_main_v29, val_main_v28, val_main_v27, val_main_v26, val_main_v25, val_main_v24, val_main_v23,
    val_main_v22, val_main_v21, val_main_v20, val_main_v19, val_main_v18, val_main_v17, val_main_cst_2, val_main_cst_3, val_main_cst_4]

end Cert.MlpRefIdeal.Read

end
-- ==== Proof.Mlp.Value.lean ====
/- The feed-forward kernel computes its reference. -/
module

public import proofs.«01_k».proof.Proof.Mlp.Kernel
public import proofs.«01_k».proof.Proof.Mlp.Ref

@[expose] public section

set_option maxRecDepth 16384

noncomputable section

namespace Cert.MlpIdeal.Point

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The reference's normalised input over the kernel's own arguments. -/
abbrev refNorm (c : Dev nD) : FVec Ideal S16384x2048 .bf16 :=
  Cert.MlpRefIdeal.Read.val_main_v12 (F := Ideal) (m ((c : Thread nD τ).loc main_arg0)) (m ((c : Thread nD τ).loc main_arg1))

/-- The reference's hidden units over the kernel's own arguments. -/
abbrev refUp (c : Dev nD) : FVec Ideal Cert.MlpRefIdeal.S16384x8192 .bf16 :=
  Cert.MlpRefIdeal.Read.val_main_v15 (F := Ideal) (m ((c : Thread nD τ).loc main_arg0)) (m ((c : Thread nD τ).loc main_arg1))
    (m ((c : Thread nD τ).loc main_arg2))

/-- The reference's second product over the kernel's own arguments. -/
abbrev refDown (c : Dev nD) : FVec Ideal S16384x2048 .f32 :=
  Cert.MlpRefIdeal.Read.val_main_v16 (F := Ideal) (m ((c : Thread nD τ).loc main_arg0)) (m ((c : Thread nD τ).loc main_arg1))
    (m ((c : Thread nD τ).loc main_arg2)) (m ((c : Thread nD τ).loc main_arg3))

/-- The reference's result over the kernel's own arguments. -/
abbrev ref (c : Dev nD) : FVec Ideal S16384x2048 .f32 :=
  Cert.MlpRefIdeal.Read.val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The rows a run keeps are the reference's normalised rows. -/
theorem rows_at (c : Dev nD) (r : ℕ) (h0 : 16 * r < cfg0.N) (p : Fin 1024) (k : Fin 2048) (hb : r * 1024 + p.val < 16384) :
    rows m c r h0 (ix2 p k) = refNorm m c (ix2 ⟨r * 1024 + p.val, hb⟩ k) := by
  have i1 := idx ⟨16 * r, h0⟩
  have hd : 16 * r / 16 = r := by omega
  have hm : 16 * r % 16 = 0 := by omega
  simp only [hd, hm] at i1
  unfold refNorm rows
  rw [norm_at, Cert.MlpRefIdeal.Read.norm_at]
  blk_point [iblk, V, i1]

/-- The hidden units a point computes are the reference's. -/
theorem up_at (c : Dev nD) (r : ℕ) (h0 : 16 * r < cfg0.N) (s : Fin 16) (h : 16 * r + s.val < cfg0.N) (p : Fin 1024) (f : Fin 512)
    (hb : r * 1024 + p.val < 16384) (hf : s.val * 512 + f.val < 8192) :
    max (∑ k : Fin 2048, rows m c r h0 (ix2 p k) * (show FVec Ideal S2048x512 .bf16 from iblk m c 2 ⟨16 * r + s.val, h⟩) (ix2 k f)) 0
      * max (∑ k : Fin 2048, rows m c r h0 (ix2 p k) * (show FVec Ideal S2048x512 .bf16 from iblk m c 2 ⟨16 * r + s.val, h⟩) (ix2 k f)) 0
      = refUp m c (ix2 ⟨r * 1024 + p.val, hb⟩ ⟨s.val * 512 + f.val, hf⟩) := by
  have i1 := idx ⟨16 * r + s.val, h⟩
  have hd : (16 * r + s.val) / 16 = r := by omega
  have hm : (16 * r + s.val) % 16 = s.val := by omega
  simp only [hd, hm] at i1
  have e : ∀ k : Fin 2048, (show FVec Ideal S2048x512 .bf16 from iblk m c 2 ⟨16 * r + s.val, h⟩) (ix2 k f)
      = (show FVec Ideal S2048x8192 .f32 from m ((c : Thread nD τ).loc main_arg2)) (ix2 k ⟨s.val * 512 + f.val, hf⟩) := fun k => by
    blk_point [iblk, V, i1]
  unfold refUp
  rw [Cert.MlpRefIdeal.Read.up_at]
  simp only [rows_at m c r h0 p _ hb, e]

/-- The parts a run of sixteen points adds up are the reference's second product. -/
theorem parts (c : Dev nD) (r : ℕ) (h0 : 16 * r < cfg0.N) (h : 16 * r + 15 < cfg0.N) (p : Fin 1024) (d : Fin 2048)
    (hb : r * 1024 + p.val < 16384) :
    ∑ s : Fin 16, part m c (rows m c r h0) (16 * r + s) p d = refDown m c (ix2 ⟨r * 1024 + p.val, hb⟩ d) := by
  have e : ∀ s : Fin 16, part m c (rows m c r h0) (16 * r + s) p d = ∑ f : Fin 512,
      refUp m c (ix2 ⟨r * 1024 + p.val, hb⟩ ⟨s.val * 512 + f.val, by omega⟩)
      * (show FVec Ideal S512x2048 .bf16 from iblk m c 3 ⟨16 * r + s, by omega⟩) (ix2 f d) := fun s => by
    rw [part, dif_pos (by omega : 16 * r + s.val < cfg0.N)]
    exact Finset.sum_congr rfl fun f _ => by rw [up_at m c r h0 s (by omega) p f hb (by omega)]
  unfold refDown
  rw [Cert.MlpRefIdeal.Read.down_at]
  simp only [e]
  refine Fin.sum_mul_add_congr fun s f hl => ?_
  have i1 := idx ⟨16 * r + s, by omega⟩
  have hd : (16 * r + s.val) / 16 = r := by omega
  have hm : (16 * r + s.val) % 16 = s.val := by omega
  simp only [hd, hm] at i1
  congr 1
  blk_point [iblk, V, i1]

/-- The array the kernel leaves is the reference's result. -/
theorem final (c : Dev nD) : (dats m 0 c).arrAt 5 cfg0.N = ref m c := by
  refine (dats m 0 c).arrAt_eq_of_covers 5 _ (by decide +kernel) fun t hf y => ?_
  blk_simp
  rw [after0_5]
  have hm : t.val % 16 = 15 := (flush0_5 t).mp hf
  have hN : t.val < 256 := lt_of_lt_of_eq t.isLt N_0
  obtain ⟨r, hr, ht⟩ : ∃ r, r < 16 ∧ t.val = 16 * r + 15 := ⟨t.val / 16, by omega, by omega⟩
  obtain ⟨tv, htv⟩ := t
  obtain rfl : tv = 16 * r + 15 := ht
  have h0 : 16 * r < cfg0.N := lt_of_le_of_lt (Nat.le_add_right _ _) htv
  have i1 := idx ⟨16 * r + 15, htv⟩
  have hd : (16 * r + 15) / 16 = r := by omega
  have hm : (16 * r + 15) % 16 = 15 := by omega
  simp only [hd, hm] at i1
  obtain ⟨p, d, rfl⟩ : ∃ (p : Fin 1024) (d : Fin 2048), y = ix2 p d := ⟨y 0, y 1, by funext a; match a with | ⟨0, _⟩ => rfl | ⟨1, _⟩ => rfl⟩
  have hb : r * 1024 + p.val < 16384 := by have := p.isLt; omega
  have hi : ((cfg0.win 5).blk ⟨16 * r + 15, htv⟩).view.emb (ix2 p d) = ix2 (⟨r * 1024 + p.val, hb⟩ : Fin 16384) d := by
    blk_ext [i1]
  have ex : (show FVec Ideal S1024x2048 .f32 from iblk m c 0 ⟨16 * r + 15, htv⟩) (ix2 p d)
      = (show FVec Ideal S16384x2048 .f32 from m ((c : Thread nD τ).loc main_arg0)) (ix2 ⟨r * 1024 + p.val, hb⟩ d) := by
    blk_point [iblk, V, i1]
  have eg : (show FVec Ideal S1x2048 .f32 from iblk m c 4 ⟨16 * r + 15, htv⟩) (ix2 0 d)
      = (show FVec Ideal S2048 .f32 from m ((c : Thread nD τ).loc main_arg4)) (ix1 d) := by
    blk_point [iblk, V, i1]
  unfold ref
  rw [hi, Cert.MlpRefIdeal.Read.ref_at, full m c r h0 htv, ex, eg]
  simp only [parts m c r h0 htv p _ hb]

end Cert.MlpIdeal.Point

end
-- ==== Proof.Mlp.Claim.lean ====
/- The feed-forward block: the kernel and its reference agree. -/
module

public import proofs.«01_k».proof.Defs
public import proofs.«01_k».proof.Proof.Mlp.Value
public import proofs.«01_k».proof.Proof.Gen.MlpRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicMlp : Cert.algebraic_MlpIdeal_MlpRefIdeal := by
  pair_intro
  · run_from Cert.MlpIdeal.Value.run_blocks m g
  · run_from Cert.MlpRefIdeal.Value.run m' g'
    rw [Cert.MlpRefIdeal.Read.val_main_v30_eq, (hagree c).1, (hagree c).2.1, (hagree c).2.2.1, (hagree c).2.2.2.1, (hagree c).2.2.2.2]
    exact (Cert.MlpIdeal.Point.final m c).symm

end Cert.Proof

end
-- ==== Proof.RetIn.Ref.lean ====
/- The reference of the retention's input projection, read at one index. -/
module

public import proofs.«01_k».proof.Proof.Gen.RetInRefIdeal.Read
public import Idealize.ShloMosaic.Lib.Pipeline.ValueKit
public import Idealize.ShloMosaic.Lib.Pointwise

@[expose] public section

set_option maxRecDepth 16384

noncomputable section

namespace Cert.RetInRefIdeal.Read

open Cert.RetInRefIdeal Cert.RetInRefIdeal.Gen Idealize.ShloMosaic Idealize.ShloMosaic.TcCoe Idealize.SL.Sem

/-- A row of the input normalised by its root mean square and scaled. -/
theorem norm_at (X : FVec Ideal S16384x2048 .f32) (G : FVec Ideal S2048 .f32) (r : Fin 16384) (k : Fin 2048) :
    val_main_v12 (F := Ideal) X G (ix2 r k)
      = X (ix2 r k) * Ideal.rsqrt (Ideal.div (∑ k' : Fin 2048, X (ix2 r k') * X (ix2 r k'))
          (Ideal.ofBits .f32 0x45000000#32) + Ideal.ofBits .f32 0x358637BD#32) * G (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The whole reference at one index: the normalised row against a column of the weights. -/
theorem ref_at (X : FVec Ideal S16384x2048 .f32) (G : FVec Ideal S2048 .f32) (W : FVec Ideal S2048x12288 .f32)
    (r : Fin 16384) (d : Fin 12288) :
    val_main_v14 (F := Ideal) X G W (ix2 r d)
      = ∑ k : Fin 2048, (X (ix2 r k) * Ideal.rsqrt (Ideal.div (∑ k' : Fin 2048, X (ix2 r k') * X (ix2 r k'))
          (Ideal.ofBits .f32 0x45000000#32) + Ideal.ofBits .f32 0x358637BD#32) * G (ix1 k)) * W (ix2 k d) := by
  pointwise [val_main_v14, val_main_v13]
  simp only [norm_at]

end Cert.RetInRefIdeal.Read

end
-- ==== Proof.RetIn.Value.lean ====
/- The kernel of the retention's input projection computes its reference. -/
module

public import proofs.«01_k».proof.Proof.Gen.RetInIdeal.Value
public import proofs.«01_k».proof.Proof.RetIn.Ref

@[expose] public section

set_option maxRecDepth 16384

noncomputable section

namespace Cert.RetInIdeal.Point

open Cert.RetInIdeal Cert.RetInIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 12, 0] ∧ win0_1.index t = ![0, 0]
    ∧ win0_2.index t = ![0, t.val % 12] ∧ win0_3.index t = ![t.val / 12, t.val % 12] :=
  (by decide +kernel : ∀ t : Fin grid0.N, _)

/-- The normalised rows of a block. -/
theorem norm_at (x : FVec Ideal S1024x2048 .f32) (g : FVec Ideal S1x2048 .f32) (p : Fin 1024) (k : Fin 2048) :
    k0_pay1 (F := Ideal) x g (ix2 p k)
      = x (ix2 p k) * Ideal.rsqrt (Ideal.div (∑ k' : Fin 2048, x (ix2 p k') * x (ix2 p k'))
          (Ideal.ofBits .f32 0x45000000#32) + Ideal.ofBits .f32 0x358637BD#32) * g (ix2 0 k) := by
  pointwise [k0_pay1]

/-- The product of the normalised rows with a block of columns. -/
theorem dot_at (h : FVec Ideal S1024x2048 .bf16) (w : FVec Ideal S2048x1024 .bf16) (p : Fin 1024) (q : Fin 1024) :
    k0_pay2 (F := Ideal) h w (ix2 p q) = ∑ k : Fin 2048, h (ix2 p k) * w (ix2 k q) := by
  pointwise [k0_pay2]

/-- Through a run of points over one block of rows, the kept block holds that block's rows normalised. -/
theorem kept (c : Dev nD) (r : ℕ) (h0 : 12 * r < cfg0.N) : ∀ (s : ℕ) (hs : s < 12) (h : 12 * r + s < cfg0.N),
    (outsAt0 m c (12 * r + s) h).2 = k0_pay1 (F := Ideal) (iblk m c 0 ⟨12 * r, h0⟩) (iblk m c 1 ⟨12 * r, h0⟩)
  | 0, hs, h => by
    rw [outsAt0_A m c ⟨12 * r + 0, h⟩ (by simp)]
    frame_out
    rfl
  | s + 1, hs, h => by
    have ih := kept c r h0 s (by omega) (by omega)
    rw [outsAt0_B m c ⟨12 * r + (s + 1), h⟩ (by show ¬(12 * r + (s + 1)) % 12 = 0; omega)]
    frame_out
    exact ih

/-- What every point writes: its block of rows, normalised, against its block of columns. -/
theorem out_eq (c : Dev nD) (r s : ℕ) (hs : s < 12) (h0 : 12 * r < cfg0.N) (h : 12 * r + s < cfg0.N) :
    (outsAt0 m c (12 * r + s) h).1
      = k0_pay2 (F := Ideal) (k0_pay1 (F := Ideal) (iblk m c 0 ⟨12 * r, h0⟩) (iblk m c 1 ⟨12 * r, h0⟩)) (iblk m c 2 ⟨12 * r + s, h⟩) := by
  match s, hs, h with
  | 0, hs, h =>
    rw [outsAt0_A m c ⟨12 * r + 0, h⟩ (by simp)]
    frame_out
    rfl
  | s + 1, hs, h =>
    have ih := kept m c r h0 s (by omega) (by omega)
    rw [outsAt0_B m c ⟨12 * r + (s + 1), h⟩ (by show ¬(12 * r + (s + 1)) % 12 = 0; omega)]
    frame_out
    rw [← ih, (Memref.isWhole_whole cc0_scratch0).read_unread]
    rfl

/-- The reference's result over the kernel's own arguments. -/
abbrev ref (c : Dev nD) : FVec Ideal S16384x12288 .bf16 :=
  Cert.RetInRefIdeal.Read.val_main_v14 (F := Ideal) (m ((c : Thread nD τ).loc main_arg0)) (m ((c : Thread nD τ).loc main_arg1))
    (m ((c : Thread nD τ).loc main_arg2))

/-- The array the kernel leaves is the reference's result. -/
theorem final (c : Dev nD) : (dats m 0 c).arrAt 3 cfg0.N = ref m c := by
  refine (dats m 0 c).arrAt_eq_of_covers 3 _ (by decide +kernel) fun t hf y => ?_
  blk_simp
  rw [after0_3]
  have hN : t.val < 192 := lt_of_lt_of_eq t.isLt N_0
  obtain ⟨r, s, hr, hs, ht⟩ : ∃ r s, r < 16 ∧ s < 12 ∧ t.val = 12 * r + s := ⟨t.val / 12, t.val % 12, by omega, by omega, by omega⟩
  obtain ⟨tv, htv⟩ := t
  obtain rfl : tv = 12 * r + s := ht
  have h0 : 12 * r < cfg0.N := lt_of_le_of_lt (Nat.le_add_right _ _) htv
  have i1 := idx ⟨12 * r + s, htv⟩
  have i2 := idx ⟨12 * r, h0⟩
  have hd : (12 * r + s) / 12 = r := by omega
  have hm : (12 * r + s) % 12 = s := by omega
  have hd0 : 12 * r / 12 = r := by omega
  have hm0 : 12 * r % 12 = 0 := by omega
  simp only [hd, hm] at i1
  simp only [hd0, hm0] at i2
  obtain ⟨p, q, rfl⟩ : ∃ (p : Fin 1024) (q : Fin 1024), y = ix2 p q := ⟨y 0, y 1, by funext a; match a with | ⟨0, _⟩ => rfl | ⟨1, _⟩ => rfl⟩
  have hb : r * 1024 + p.val < 16384 := by have := p.isLt; omega
  have hq : s * 1024 + q.val < 12288 := by have := q.isLt; omega
  have hi : ((cfg0.win 3).blk ⟨12 * r + s, htv⟩).view.emb (ix2 p q)
      = ix2 (⟨r * 1024 + p.val, hb⟩ : Fin 16384) (⟨s * 1024 + q.val, hq⟩ : Fin 12288) := by
    blk_ext [i1]
  unfold ref
  rw [hi, Cert.RetInRefIdeal.Read.ref_at, out_eq m c r s hs h0 htv, dot_at]
  simp only [norm_at]
  blk_point [iblk, V, i1, i2]

end Cert.RetInIdeal.Point

end
-- ==== Proof.RetIn.Claim.lean ====
/- The input projection: the kernel and its reference agree. -/
module

public import proofs.«01_k».proof.Defs
public import proofs.«01_k».proof.Proof.RetIn.Value
public import proofs.«01_k».proof.Proof.Gen.RetInRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicRetIn : Cert.algebraic_RetInIdeal_RetInRefIdeal := by
  pair_intro
  · run_from Cert.RetInIdeal.Value.run_blocks m g
  · run_from Cert.RetInRefIdeal.Value.run m' g'
    exact (Cert.RetInIdeal.Point.final m c).symm

end Cert.Proof

end
-- ==== Proof.RetOut.Kernel.lean ====
/- The output projection's kernel, read at one index of the array it leaves. -/
module

public import proofs.«01_k».proof.Proof.Gen.RetOutIdeal.Value
public import Idealize.ShloMosaic.Lib.Pipeline.ValueKit
public import Idealize.ShloMosaic.Lib.Pointwise

@[expose] public section

set_option maxRecDepth 16384

noncomputable section

namespace Cert.RetOutIdeal.Point

open Cert.RetOutIdeal Cert.RetOutIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 4] ∧ win0_1.index t = ![t.val % 4, 0]
    ∧ win0_2.index t = ![0, 0] ∧ win0_3.index t = ![t.val / 4, 0] ∧ win0_4.index t = ![t.val / 4, 0] :=
  (by decide +kernel : ∀ t : Fin grid0.N, _)

/-- The block starts as zero. -/
theorem zero_at (j : S512x2048.Idx) : k0_pay1 (F := Ideal) j = 0 := by pointwise [k0_pay1]

/-- One step adds the product of the two blocks it reads. -/
theorem step_at (acc : FVec Ideal S512x2048 .f32) (a : FVec Ideal S512x1024 .bf16) (w : FVec Ideal S1024x2048 .bf16)
    (p : Fin 512) (d : Fin 2048) :
    k0_pay2 (F := Ideal) acc a w (ix2 p d) = acc (ix2 p d) + ∑ k : Fin 1024, a (ix2 p k) * w (ix2 k d) := by
  pointwise [k0_pay2]

/-- The last step's addition: the row, normalised and scaled, onto the residual. -/
theorem last_at (f x : FVec Ideal S512x2048 .f32) (g : FVec Ideal S1x2048 .f32) (p : Fin 512) (d : Fin 2048) :
    k0_pay3 (F := Ideal) f x g (ix2 p d)
      = x (ix2 p d) + f (ix2 p d)
        * Ideal.rsqrt (Ideal.div (∑ d' : Fin 2048, f (ix2 p d') * f (ix2 p d'))
            (Ideal.ofBits .f32 0x45000000#32) + Ideal.ofBits .f32 0x358637BD#32) * g (ix2 0 d) := by
  pointwise [k0_pay3]

/-- What grid point `n` adds to its block. -/
def part (c : Dev nD) (n : ℕ) (p : Fin 512) (d : Fin 2048) : EReal :=
  if h : n < cfg0.N then
    ∑ k : Fin 1024, (show FVec Ideal S512x1024 .bf16 from iblk m c 0 ⟨n, h⟩) (ix2 p k)
      * (show FVec Ideal S1024x2048 .bf16 from iblk m c 1 ⟨n, h⟩) (ix2 k d)
  else 0

/-- Before the last point of a run the block holds the sum of the run's products so far. -/
theorem acc (c : Dev nD) (r : ℕ) : ∀ (s : ℕ) (hs : s < 3) (h : 4 * r + s < cfg0.N) (p : Fin 512) (d : Fin 2048),
    outsAt0 m c (4 * r + s) h (ix2 p d) = ∑ s' ∈ Finset.range (s + 1), part m c (4 * r + s') p d
  | 0, hs, h, p, d => by
    rw [outsAt0_A m c ⟨4 * r + 0, h⟩ (by simp) (by simp), Value.out_A_4_eq, step_at, zero_at, zero_add,
      Finset.sum_range_one, part, dif_pos h]
  | s + 1, hs, h, p, d => by
    have ih := acc c r s (by omega) (by omega) p d
    rw [outsAt0_B m c ⟨4 * r + (s + 1), h⟩ (by show ¬(4 * r + (s + 1)) % 4 = 0; omega) (by show ¬(4 * r + (s + 1)) % 4 = 3; omega),
      Value.out_B_4_eq, step_at, Finset.sum_range_succ, ← ih, part, dif_pos h]
    rfl

theorem full (c : Dev nD) (r : ℕ) (h : 4 * r + 3 < cfg0.N) (p : Fin 512) (d : Fin 2048) :
    outsAt0 m c (4 * r + 3) h (ix2 p d)
      = (show FVec Ideal S512x2048 .f32 from iblk m c 3 ⟨4 * r + 3, h⟩) (ix2 p d) + (∑ s : Fin 4, part m c (4 * r + s) p d)
        * Ideal.rsqrt (Ideal.div (∑ d' : Fin 2048, (∑ s : Fin 4, part m c (4 * r + s) p d') * (∑ s : Fin 4, part m c (4 * r + s) p d'))
            (Ideal.ofBits .f32 0x45000000#32) + Ideal.ofBits .f32 0x358637BD#32)
        * (show FVec Ideal S1x2048 .f32 from iblk m c 2 ⟨4 * r + 3, h⟩) (ix2 0 d) := by
  have e : ∀ d' : Fin 2048, k0_pay2 (F := Ideal) (outsAt0 m c (4 * r + 2) (by omega)) (iblk m c 0 ⟨4 * r + 3, h⟩) (iblk m c 1 ⟨4 * r + 3, h⟩) (ix2 p d')
      = ∑ s : Fin 4, part m c (4 * r + s) p d' := fun d' => by
    rw [step_at, acc m c r 2 (by omega) (by omega) p d', Finset.sum_range fun s => part m c (4 * r + s) p d']
    rw [Fin.sum_univ_castSucc (n := 3)]
    congr 1
    rw [part, dif_pos (show 4 * r + (Fin.last 3 : Fin 4).val < cfg0.N from h)]
    rfl
  rw [outsAt0_C m c ⟨4 * r + 3, h⟩ (by show ¬(4 * r + 3) % 4 = 0; omega) (by show (4 * r + 3) % 4 = 3; omega),
    Value.out_C_4_eq, last_at]
  rw [← e d]
  simp only [← e]
  rfl

end Cert.RetOutIdeal.Point

end
-- ==== Proof.RetOut.Ref.lean ====
/- The reference of the retention's output projection, read at one index. -/
module

public import proofs.«01_k».proof.Proof.Gen.RetOutRefIdeal.Read
public import Idealize.ShloMosaic.Lib.Pipeline.ValueKit
public import Idealize.ShloMosaic.Lib.Pointwise

@[expose] public section

set_option maxRecDepth 16384

noncomputable section

namespace Cert.RetOutRefIdeal.Read

open Cert.RetOutRefIdeal Cert.RetOutRefIdeal.Gen Idealize.ShloMosaic Idealize.ShloMosaic.TcCoe Idealize.SL.Sem

/-- The projection: a row of the input against a column of the weights. -/
theorem proj_at (A : FVec Ideal S16384x4096 .bf16) (W : FVec Ideal S4096x2048 .f32) (r : Fin 16384) (d : Fin 2048) :
    val_main_v1 (F := Ideal) A W (ix2 r d) = ∑ k : Fin 4096, A (ix2 r k) * W (ix2 k d) := by
  pointwise [val_main_v1, val_main_v0]

/-- The whole reference at one index: the residual plus the projection normalised over its row. -/
theorem ref_at (A : FVec Ideal S16384x4096 .bf16) (W : FVec Ideal S4096x2048 .f32) (G : FVec Ideal S2048 .f32)
    (X : FVec Ideal S16384x2048 .f32) (r : Fin 16384) (d : Fin 2048) :
    val_main_v15 (F := Ideal) A W G X (ix2 r d)
      = X (ix2 r d) + (∑ k : Fin 4096, A (ix2 r k) * W (ix2 k d))
        * Ideal.rsqrt (Ideal.div (∑ d' : Fin 2048, (∑ k : Fin 4096, A (ix2 r k) * W (ix2 k d')) * (∑ k : Fin 4096, A (ix2 r k) * W (ix2 k d')))
            (Ideal.ofBits .f32 0x45000000#32) + Ideal.ofBits .f32 0x358637BD#32) * G (ix1 d) := by
  pointwise [val_main_v15, val_main_v14, val_main_v13, val_main_v12, val_main_v11, val_main_v10, val_main_v9, val_main_v8,
    val_main_v7, val_main_v6, val_main_v5, val_main_v4, val_main_v3, val_main_v2, val_main_cst, val_main_cst_0, val_main_cst_1]
  simp only [proj_at]

end Cert.RetOutRefIdeal.Read

end
-- ==== Proof.RetOut.Value.lean ====
/- The output projection's kernel computes its reference. -/
module

public import proofs.«01_k».proof.Proof.RetOut.Kernel
public import proofs.«01_k».proof.Proof.RetOut.Ref

@[expose] public section

set_option maxRecDepth 16384

noncomputable section

namespace Cert.RetOutIdeal.Point

open Cert.RetOutIdeal Cert.RetOutIdeal.Gen Idealize.ShloMosaic Idealize.ShloMosaic.TcCoe Idealize.SL.Sem
open Idealize.ShloMosaic.Pipeline (Dat)

variable (m : (ℓ : Loc nD τ sig) → Buf (Elt Ideal) ℓ)

/-- The reference's result over the kernel's own arguments. -/
abbrev ref (c : Dev nD) : FVec Ideal S16384x2048 .f32 :=
  Cert.RetOutRefIdeal.Read.val_main_v15 (F := Ideal) (m ((c : Thread nD τ).loc main_arg0)) (m ((c : Thread nD τ).loc main_arg1))
    (m ((c : Thread nD τ).loc main_arg2)) (m ((c : Thread nD τ).loc main_arg3))

/-- The products a run of four points adds up are the whole row against the whole column. -/
theorem parts (c : Dev nD) (r : ℕ) (h : 4 * r + 3 < cfg0.N) (p : Fin 512) (d : Fin 2048) (hr : r * 512 + p.val < 16384) :
    ∑ s : Fin 4, part m c (4 * r + s) p d
      = ∑ k : Fin 4096, (show FVec Ideal S16384x4096 .bf16 from m ((c : Thread nD τ).loc main_arg0)) (ix2 ⟨r * 512 + p.val, hr⟩ k)
          * (show FVec Ideal S4096x2048 .f32 from m ((c : Thread nD τ).loc main_arg1)) (ix2 k d) := by
  have e : ∀ s : Fin 4, part m c (4 * r + s) p d = ∑ k : Fin 1024,
      (show FVec Ideal S512x1024 .bf16 from iblk m c 0 ⟨4 * r + s, by omega⟩) (ix2 p k)
      * (show FVec Ideal S1024x2048 .bf16 from iblk m c 1 ⟨4 * r + s, by omega⟩) (ix2 k d) := fun s => by
    rw [part, dif_pos]
  simp only [e]
  refine Fin.sum_mul_add_congr fun s k hl => ?_
  have i1 := idx ⟨4 * r + s, by omega⟩
  have hd : (4 * r + s.val) / 4 = r := by omega
  have hm : (4 * r + s.val) % 4 = s.val := by omega
  simp only [hd, hm] at i1
  blk_point [iblk, V, i1]

/-- The array the kernel leaves is the reference's result. -/
theorem final (c : Dev nD) : (dats m 0 c).arrAt 4 cfg0.N = ref m c := by
  refine (dats m 0 c).arrAt_eq_of_covers 4 _ (by decide +kernel) fun t hf y => ?_
  blk_simp
  rw [after0_4]
  have hm : t.val % 4 = 3 := (flush0_4 t).mp hf
  have hN : t.val < 128 := lt_of_lt_of_eq t.isLt N_0
  obtain ⟨r, hr, ht⟩ : ∃ r, r < 32 ∧ t.val = 4 * r + 3 := ⟨t.val / 4, by omega, by omega⟩
  obtain ⟨tv, htv⟩ := t
  obtain rfl : tv = 4 * r + 3 := ht
  have i1 := idx ⟨4 * r + 3, htv⟩
  have hd : (4 * r + 3) / 4 = r := by omega
  have hm : (4 * r + 3) % 4 = 3 := by omega
  simp only [hd, hm] at i1
  obtain ⟨p, d, rfl⟩ : ∃ (p : Fin 512) (d : Fin 2048), y = ix2 p d := ⟨y 0, y 1, by funext a; match a with | ⟨0, _⟩ => rfl | ⟨1, _⟩ => rfl⟩
  have hb : r * 512 + p.val < 16384 := by have := p.isLt; omega
  have hi : ((cfg0.win 4).blk ⟨4 * r + 3, htv⟩).view.emb (ix2 p d) = ix2 (⟨r * 512 + p.val, hb⟩ : Fin 16384) d := by
    blk_ext [i1]
  unfold ref
  rw [hi, Cert.RetOutRefIdeal.Read.ref_at, full]
  simp only [parts m c r htv p _ hb]
  blk_point [iblk, V, i1]

end Cert.RetOutIdeal.Point

end
-- ==== Proof.RetOut.Claim.lean ====
/- The output projection: the kernel and its reference agree. -/
module

public import proofs.«01_k».proof.Defs
public import proofs.«01_k».proof.Proof.RetOut.Value
public import proofs.«01_k».proof.Proof.Gen.RetOutRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicRetOut : Cert.algebraic_RetOutIdeal_RetOutRefIdeal := by
  pair_intro
  · run_from Cert.RetOutIdeal.Value.run_blocks m g
  · run_from Cert.RetOutRefIdeal.Value.run m' g'
    exact (Cert.RetOutIdeal.Point.final m c).symm

end Cert.Proof

end
-- ==== Proof.SharedK.Ref.lean ====
/- The reference of the shared keys, read at one index. -/
module

public import proofs.«01_k».proof.Proof.Gen.SharedKRefIdeal.Read
public import Idealize.ShloMosaic.Lib.Pipeline.ValueKit
public import Idealize.ShloMosaic.Lib.Pointwise

@[expose] public section

set_option maxRecDepth 16384

noncomputable section

namespace Cert.SharedKRefIdeal.Read

open Cert.SharedKRefIdeal Cert.SharedKRefIdeal.Gen Idealize.ShloMosaic Idealize.ShloMosaic.TcCoe Idealize.SL.Sem

/-- A row of the input normalised by its root mean square and scaled. -/
theorem norm_at (X : FVec Ideal S16384x2048 .f32) (G : FVec Ideal S2048 .f32) (r : Fin 16384) (k : Fin 2048) :
    val_main_v12 (F := Ideal) X G (ix2 r k)
      = X (ix2 r k) * Ideal.rsqrt (Ideal.div (∑ k' : Fin 2048, X (ix2 r k') * X (ix2 r k'))
          (Ideal.ofBits .f32 0x45000000#32) + Ideal.ofBits .f32 0x358637BD#32) * G (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The f32 result at one index: the normalised row against a column of the weights. -/
theorem ref_at (X : FVec Ideal S16384x2048 .f32) (G : FVec Ideal S2048 .f32) (W : FVec Ideal S2048x4096 .f32)
    (r : Fin 16384) (d : Fin 2048) :
    val_main_v14 (F := Ideal) X G W (ix2 r d)
      = ∑ k : Fin 2048, (X (ix2 r k) * Ideal.rsqrt (Ideal.div (∑ k' : Fin 2048, X (ix2 r k') * X (ix2 r k'))
          (Ideal.ofBits .f32 0x45000000#32) + Ideal.ofBits .f32 0x358637BD#32) * G (ix1 k)) * W (ix2 k (⟨d.val, by omega⟩ : Fin 4096)) := by
  pointwise [val_main_v14, val_main_v13]
  simp only [norm_at]

/-- The bf16 result at one index: the normalised row against a column of the weights. -/
theorem ref_bf_at (X : FVec Ideal S16384x2048 .f32) (G : FVec Ideal S2048 .f32) (W : FVec Ideal S2048x4096 .f32)
    (r : Fin 16384) (d : Fin 2048) :
    val_main_v16 (F := Ideal) X G W (ix2 r d)
      = ∑ k : Fin 2048, (X (ix2 r k) * Ideal.rsqrt (Ideal.div (∑ k' : Fin 2048, X (ix2 r k') * X (ix2 r k'))
          (Ideal.ofBits .f32 0x45000000#32) + Ideal.ofBits .f32 0x358637BD#32) * G (ix1 k)) * W (ix2 k (⟨d.val, by omega⟩ : Fin 4096)) := by
  pointwise [val_main_v16, val_main_v14, val_main_v13]
  simp only [norm_at]

end Cert.SharedKRefIdeal.Read

end
-- ==== Proof.SharedK.Value.lean ====
/- The kernel of the shared keys computes its reference. -/
module

public import proofs.«01_k».proof.Proof.Gen.SharedKIdeal.Value
public import proofs.«01_k».proof.Proof.SharedK.Ref

@[expose] public section

set_option maxRecDepth 16384

noncomputable section

namespace Cert.SharedKIdeal.Point

open Cert.SharedKIdeal Cert.SharedKIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, 0]
    ∧ win0_2.index t = ![0, t.val % 2] ∧ win0_3.index t = ![t.val / 2, t.val % 2]
    ∧ win0_4.index t = ![t.val / 2, t.val % 2] :=
  (by decide +kernel : ∀ t : Fin grid0.N, _)

/-- The normalised rows of a block. -/
theorem norm_at (x : FVec Ideal S1024x2048 .f32) (g : FVec Ideal S1x2048 .f32) (p : Fin 1024) (k : Fin 2048) :
    k0_pay1 (F := Ideal) x g (ix2 p k)
      = x (ix2 p k) * Ideal.rsqrt (Ideal.div (∑ k' : Fin 2048, x (ix2 p k') * x (ix2 p k'))
          (Ideal.ofBits .f32 0x45000000#32) + Ideal.ofBits .f32 0x358637BD#32) * g (ix2 0 k) := by
  pointwise [k0_pay1]

/-- The product of the normalised rows with a block of columns. -/
theorem dot_at (h : FVec Ideal S1024x2048 .bf16) (w : FVec Ideal S2048x1024 .bf16) (p : Fin 1024) (q : Fin 1024) :
    k0_pay2 (F := Ideal) h w (ix2 p q) = ∑ k : Fin 2048, h (ix2 p k) * w (ix2 k q) := by
  pointwise [k0_pay2]

/-- The same product, in bf16. -/
theorem dot_bf_at (h : FVec Ideal S1024x2048 .bf16) (w : FVec Ideal S2048x1024 .bf16) (p : Fin 1024) (q : Fin 1024) :
    k0_pay3 (F := Ideal) h w (ix2 p q) = ∑ k : Fin 2048, h (ix2 p k) * w (ix2 k q) := by
  pointwise [k0_pay3, k0_pay2]

/-- Through a run of points over one block of rows, the kept block holds that block's rows normalised. -/
theorem kept (c : Dev nD) (r : ℕ) (h0 : 2 * r < cfg0.N) : ∀ (s : ℕ) (hs : s < 2) (h : 2 * r + s < cfg0.N),
    (outsAt0 m c (2 * r + s) h).2.2 = k0_pay1 (F := Ideal) (iblk m c 0 ⟨2 * r, h0⟩) (iblk m c 1 ⟨2 * r, h0⟩)
  | 0, hs, h => by
    rw [outsAt0_A m c ⟨2 * r + 0, h⟩ (by simp)]
    frame_out
    rfl
  | s + 1, hs, h => by
    have ih := kept c r h0 s (by omega) (by omega)
    rw [outsAt0_B m c ⟨2 * r + (s + 1), h⟩ (by show ¬(2 * r + (s + 1)) % 2 = 0; omega)]
    frame_out
    exact ih

/-- What every point writes: its block of rows, normalised, against its block of columns. -/
theorem out_eq (c : Dev nD) (r s : ℕ) (hs : s < 2) (h0 : 2 * r < cfg0.N) (h : 2 * r + s < cfg0.N) :
    (outsAt0 m c (2 * r + s) h).1
      = k0_pay2 (F := Ideal) (k0_pay1 (F := Ideal) (iblk m c 0 ⟨2 * r, h0⟩) (iblk m c 1 ⟨2 * r, h0⟩)) (iblk m c 2 ⟨2 * r + s, h⟩) := by
  match s, hs, h with
  | 0, hs, h =>
    rw [outsAt0_A m c ⟨2 * r + 0, h⟩ (by simp)]
    frame_out
    rfl
  | s + 1, hs, h =>
    have ih := kept m c r h0 s (by omega) (by omega)
    rw [outsAt0_B m c ⟨2 * r + (s + 1), h⟩ (by show ¬(2 * r + (s + 1)) % 2 = 0; omega)]
    frame_out
    rw [← ih, (Memref.isWhole_whole cc0_scratch0).read_unread]
    rfl

/-- What every point writes in bf16: its block of rows, normalised, against its block of columns. -/
theorem out_bf_eq (c : Dev nD) (r s : ℕ) (hs : s < 2) (h0 : 2 * r < cfg0.N) (h : 2 * r + s < cfg0.N) :
    (outsAt0 m c (2 * r + s) h).2.1
      = k0_pay3 (F := Ideal) (k0_pay1 (F := Ideal) (iblk m c 0 ⟨2 * r, h0⟩) (iblk m c 1 ⟨2 * r, h0⟩)) (iblk m c 2 ⟨2 * r + s, h⟩) := by
  match s, hs, h with
  | 0, hs, h =>
    rw [outsAt0_A m c ⟨2 * r + 0, h⟩ (by simp)]
    frame_out
    rfl
  | s + 1, hs, h =>
    have ih := kept m c r h0 s (by omega) (by omega)
    rw [outsAt0_B m c ⟨2 * r + (s + 1), h⟩ (by show ¬(2 * r + (s + 1)) % 2 = 0; omega)]
    frame_out
    rw [← ih, (Memref.isWhole_whole cc0_scratch0).read_unread]
    rfl

/-- The reference's f32 result over the kernel's own arguments. -/
abbrev ref (c : Dev nD) : FVec Ideal S16384x2048 .f32 :=
  Cert.SharedKRefIdeal.Read.val_main_v14 (F := Ideal) (m ((c : Thread nD τ).loc main_arg0)) (m ((c : Thread nD τ).loc main_arg1))
    (m ((c : Thread nD τ).loc main_arg2))

/-- The reference's bf16 result over the kernel's own arguments. -/
abbrev refb (c : Dev nD) : FVec Ideal S16384x2048 .bf16 :=
  Cert.SharedKRefIdeal.Read.val_main_v16 (F := Ideal) (m ((c : Thread nD τ).loc main_arg0)) (m ((c : Thread nD τ).loc main_arg1))
    (m ((c : Thread nD τ).loc main_arg2))

/-- The f32 array the kernel leaves is the reference's result. -/
theorem final (c : Dev nD) : (dats m 0 c).arrAt 3 cfg0.N = ref m c := by
  refine (dats m 0 c).arrAt_eq_of_covers 3 _ (by decide +kernel) fun t hf y => ?_
  blk_simp
  rw [after0_3]
  have hN : t.val < 32 := lt_of_lt_of_eq t.isLt N_0
  obtain ⟨r, s, hr, hs, ht⟩ : ∃ r s, r < 16 ∧ s < 2 ∧ t.val = 2 * r + s := ⟨t.val / 2, t.val % 2, by omega, by omega, by omega⟩
  obtain ⟨tv, htv⟩ := t
  obtain rfl : tv = 2 * r + s := ht
  have h0 : 2 * r < cfg0.N := lt_of_le_of_lt (Nat.le_add_right _ _) htv
  have i1 := idx ⟨2 * r + s, htv⟩
  have i2 := idx ⟨2 * r, h0⟩
  have hd : (2 * r + s) / 2 = r := by omega
  have hm : (2 * r + s) % 2 = s := by omega
  have hd0 : 2 * r / 2 = r := by omega
  have hm0 : 2 * r % 2 = 0 := by omega
  simp only [hd, hm] at i1
  simp only [hd0, hm0] at i2
  obtain ⟨p, q, rfl⟩ : ∃ (p : Fin 1024) (q : Fin 1024), y = ix2 p q := ⟨y 0, y 1, by funext a; match a with | ⟨0, _⟩ => rfl | ⟨1, _⟩ => rfl⟩
  have hb : r * 1024 + p.val < 16384 := by have := p.isLt; omega
  have hq : s * 1024 + q.val < 2048 := by have := q.isLt; omega
  have hi : ((cfg0.win 3).blk ⟨2 * r + s, htv⟩).view.emb (ix2 p q)
      = ix2 (⟨r * 1024 + p.val, hb⟩ : Fin 16384) (⟨s * 1024 + q.val, hq⟩ : Fin 2048) := by
    blk_ext [i1]
  unfold ref
  rw [hi, Cert.SharedKRefIdeal.Read.ref_at, out_eq m c r s hs h0 htv, dot_at]
  simp only [norm_at]
  blk_point [iblk, V, i1, i2]

/-- The bf16 array the kernel leaves is the reference's result. -/
theorem final_bf (c : Dev nD) : (dats m 0 c).arrAt 4 cfg0.N = refb m c := by
  refine (dats m 0 c).arrAt_eq_of_covers 4 _ (by decide +kernel) fun t hf y => ?_
  blk_simp
  rw [after0_4]
  have hN : t.val < 32 := lt_of_lt_of_eq t.isLt N_0
  obtain ⟨r, s, hr, hs, ht⟩ : ∃ r s, r < 16 ∧ s < 2 ∧ t.val = 2 * r + s := ⟨t.val / 2, t.val % 2, by omega, by omega, by omega⟩
  obtain ⟨tv, htv⟩ := t
  obtain rfl : tv = 2 * r + s := ht
  have h0 : 2 * r < cfg0.N := lt_of_le_of_lt (Nat.le_add_right _ _) htv
  have i1 := idx ⟨2 * r + s, htv⟩
  have i2 := idx ⟨2 * r, h0⟩
  have hd : (2 * r + s) / 2 = r := by omega
  have hm : (2 * r + s) % 2 = s := by omega
  have hd0 : 2 * r / 2 = r := by omega
  have hm0 : 2 * r % 2 = 0 := by omega
  simp only [hd, hm] at i1
  simp only [hd0, hm0] at i2
  obtain ⟨p, q, rfl⟩ : ∃ (p : Fin 1024) (q : Fin 1024), y = ix2 p q := ⟨y 0, y 1, by funext a; match a with | ⟨0, _⟩ => rfl | ⟨1, _⟩ => rfl⟩
  have hb : r * 1024 + p.val < 16384 := by have := p.isLt; omega
  have hq : s * 1024 + q.val < 2048 := by have := q.isLt; omega
  have hi : ((cfg0.win 4).blk ⟨2 * r + s, htv⟩).view.emb (ix2 p q)
      = ix2 (⟨r * 1024 + p.val, hb⟩ : Fin 16384) (⟨s * 1024 + q.val, hq⟩ : Fin 2048) := by
    blk_ext [i1]
  unfold refb
  rw [hi, Cert.SharedKRefIdeal.Read.ref_bf_at, out_bf_eq m c r s hs h0 htv, dot_bf_at]
  simp only [norm_at]
  blk_point [iblk, V, i1, i2]

end Cert.SharedKIdeal.Point

end
-- ==== Proof.SharedK.Claim.lean ====
/- The shared keys: the kernel and its reference agree. -/
module

public import proofs.«01_k».proof.Defs
public import proofs.«01_k».proof.Proof.SharedK.Value
public import proofs.«01_k».proof.Proof.Gen.SharedKRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicSharedK : Cert.algebraic_SharedKIdeal_SharedKRefIdeal := by
  pair_intro
  · run_from Cert.SharedKIdeal.Value.run_blocks m g
  · run_from Cert.SharedKRefIdeal.Value.run m' g'
    · exact (Cert.SharedKIdeal.Point.final m c).symm
    · exact (Cert.SharedKIdeal.Point.final_bf m c).symm

end Cert.Proof

end
-- ==== Proof.SharedV.Ref.lean ====
/- The reference of the shared values, read at one index. -/
module

public import proofs.«01_k».proof.Proof.Gen.SharedVRefIdeal.Read
public import Idealize.ShloMosaic.Lib.Pipeline.ValueKit
public import Idealize.ShloMosaic.Lib.Pointwise

@[expose] public section

set_option maxRecDepth 16384

noncomputable section

namespace Cert.SharedVRefIdeal.Read

open Cert.SharedVRefIdeal Cert.SharedVRefIdeal.Gen Idealize.ShloMosaic Idealize.ShloMosaic.TcCoe Idealize.SL.Sem

/-- A row of the input normalised by its root mean square and scaled. -/
theorem norm_at (X : FVec Ideal S16384x2048 .f32) (G : FVec Ideal S2048 .f32) (r : Fin 16384) (k : Fin 2048) :
    val_main_v12 (F := Ideal) X G (ix2 r k)
      = X (ix2 r k) * Ideal.rsqrt (Ideal.div (∑ k' : Fin 2048, X (ix2 r k') * X (ix2 r k'))
          (Ideal.ofBits .f32 0x45000000#32) + Ideal.ofBits .f32 0x358637BD#32) * G (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The f32 result at one index: the normalised row against a column of the weights. -/
theorem ref_at (X : FVec Ideal S16384x2048 .f32) (G : FVec Ideal S2048 .f32) (W : FVec Ideal S2048x4096 .f32)
    (r : Fin 16384) (d : Fin 2048) :
    val_main_v15 (F := Ideal) X G W (ix2 r d)
      = ∑ k : Fin 2048, (X (ix2 r k) * Ideal.rsqrt (Ideal.div (∑ k' : Fin 2048, X (ix2 r k') * X (ix2 r k'))
          (Ideal.ofBits .f32 0x45000000#32) + Ideal.ofBits .f32 0x358637BD#32) * G (ix1 k)) * W (ix2 k (⟨2048 + d.val, by omega⟩ : Fin 4096)) := by
  pointwise [val_main_v15, val_main_v13]
  simp only [norm_at]

/-- The bf16 result at one index: the normalised row against a column of the weights. -/
theorem ref_bf_at (X : FVec Ideal S16384x2048 .f32) (G : FVec Ideal S2048 .f32) (W : FVec Ideal S2048x4096 .f32)
    (r : Fin 16384) (d : Fin 2048) :
    val_main_v16 (F := Ideal) X G W (ix2 r d)
      = ∑ k : Fin 2048, (X (ix2 r k) * Ideal.rsqrt (Ideal.div (∑ k' : Fin 2048, X (ix2 r k') * X (ix2 r k'))
          (Ideal.ofBits .f32 0x45000000#32) + Ideal.ofBits .f32 0x358637BD#32) * G (ix1 k)) * W (ix2 k (⟨2048 + d.val, by omega⟩ : Fin 4096)) := by
  pointwise [val_main_v16, val_main_v15, val_main_v13]
  simp only [norm_at]

end Cert.SharedVRefIdeal.Read

end
-- ==== Proof.SharedV.Value.lean ====
/- The kernel of the shared values computes its reference. -/
module

public import proofs.«01_k».proof.Proof.Gen.SharedVIdeal.Value
public import proofs.«01_k».proof.Proof.SharedV.Ref

@[expose] public section

set_option maxRecDepth 16384

noncomputable section

namespace Cert.SharedVIdeal.Point

open Cert.SharedVIdeal Cert.SharedVIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, 0]
    ∧ win0_2.index t = ![0, t.val % 2] ∧ win0_3.index t = ![t.val / 2, t.val % 2]
    ∧ win0_4.index t = ![t.val / 2, t.val % 2] :=
  (by decide +kernel : ∀ t : Fin grid0.N, _)

/-- The normalised rows of a block. -/
theorem norm_at (x : FVec Ideal S1024x2048 .f32) (g : FVec Ideal S1x2048 .f32) (p : Fin 1024) (k : Fin 2048) :
    k0_pay1 (F := Ideal) x g (ix2 p k)
      = x (ix2 p k) * Ideal.rsqrt (Ideal.div (∑ k' : Fin 2048, x (ix2 p k') * x (ix2 p k'))
          (Ideal.ofBits .f32 0x45000000#32) + Ideal.ofBits .f32 0x358637BD#32) * g (ix2 0 k) := by
  pointwise [k0_pay1]

/-- The product of the normalised rows with a block of columns. -/
theorem dot_at (h : FVec Ideal S1024x2048 .bf16) (w : FVec Ideal S2048x1024 .bf16) (p : Fin 1024) (q : Fin 1024) :
    k0_pay2 (F := Ideal) h w (ix2 p q) = ∑ k : Fin 2048, h (ix2 p k) * w (ix2 k q) := by
  pointwise [k0_pay2]

/-- The same product, in bf16. -/
theorem dot_bf_at (h : FVec Ideal S1024x2048 .bf16) (w : FVec Ideal S2048x1024 .bf16) (p : Fin 1024) (q : Fin 1024) :
    k0_pay3 (F := Ideal) h w (ix2 p q) = ∑ k : Fin 2048, h (ix2 p k) * w (ix2 k q) := by
  pointwise [k0_pay3, k0_pay2]

/-- Through a run of points over one block of rows, the kept block holds that block's rows normalised. -/
theorem kept (c : Dev nD) (r : ℕ) (h0 : 2 * r < cfg0.N) : ∀ (s : ℕ) (hs : s < 2) (h : 2 * r + s < cfg0.N),
    (outsAt0 m c (2 * r + s) h).2.2 = k0_pay1 (F := Ideal) (iblk m c 0 ⟨2 * r, h0⟩) (iblk m c 1 ⟨2 * r, h0⟩)
  | 0, hs, h => by
    rw [outsAt0_A m c ⟨2 * r + 0, h⟩ (by simp)]
    frame_out
    rfl
  | s + 1, hs, h => by
    have ih := kept c r h0 s (by omega) (by omega)
    rw [outsAt0_B m c ⟨2 * r + (s + 1), h⟩ (by show ¬(2 * r + (s + 1)) % 2 = 0; omega)]
    frame_out
    exact ih

/-- What every point writes: its block of rows, normalised, against its block of columns. -/
theorem out_eq (c : Dev nD) (r s : ℕ) (hs : s < 2) (h0 : 2 * r < cfg0.N) (h : 2 * r + s < cfg0.N) :
    (outsAt0 m c (2 * r + s) h).1
      = k0_pay2 (F := Ideal) (k0_pay1 (F := Ideal) (iblk m c 0 ⟨2 * r, h0⟩) (iblk m c 1 ⟨2 * r, h0⟩)) (iblk m c 2 ⟨2 * r + s, h⟩) := by
  match s, hs, h with
  | 0, hs, h =>
    rw [outsAt0_A m c ⟨2 * r + 0, h⟩ (by simp)]
    frame_out
    rfl
  | s + 1, hs, h =>
    have ih := kept m c r h0 s (by omega) (by omega)
    rw [outsAt0_B m c ⟨2 * r + (s + 1), h⟩ (by show ¬(2 * r + (s + 1)) % 2 = 0; omega)]
    frame_out
    rw [← ih, (Memref.isWhole_whole cc0_scratch0).read_unread]
    rfl

/-- What every point writes in bf16: its block of rows, normalised, against its block of columns. -/
theorem out_bf_eq (c : Dev nD) (r s : ℕ) (hs : s < 2) (h0 : 2 * r < cfg0.N) (h : 2 * r + s < cfg0.N) :
    (outsAt0 m c (2 * r + s) h).2.1
      = k0_pay3 (F := Ideal) (k0_pay1 (F := Ideal) (iblk m c 0 ⟨2 * r, h0⟩) (iblk m c 1 ⟨2 * r, h0⟩)) (iblk m c 2 ⟨2 * r + s, h⟩) := by
  match s, hs, h with
  | 0, hs, h =>
    rw [outsAt0_A m c ⟨2 * r + 0, h⟩ (by simp)]
    frame_out
    rfl
  | s + 1, hs, h =>
    have ih := kept m c r h0 s (by omega) (by omega)
    rw [outsAt0_B m c ⟨2 * r + (s + 1), h⟩ (by show ¬(2 * r + (s + 1)) % 2 = 0; omega)]
    frame_out
    rw [← ih, (Memref.isWhole_whole cc0_scratch0).read_unread]
    rfl

/-- The reference's f32 result over the kernel's own arguments. -/
abbrev ref (c : Dev nD) : FVec Ideal S16384x2048 .f32 :=
  Cert.SharedVRefIdeal.Read.val_main_v15 (F := Ideal) (m ((c : Thread nD τ).loc main_arg0)) (m ((c : Thread nD τ).loc main_arg1))
    (m ((c : Thread nD τ).loc main_arg2))

/-- The reference's bf16 result over the kernel's own arguments. -/
abbrev refb (c : Dev nD) : FVec Ideal S16384x2048 .bf16 :=
  Cert.SharedVRefIdeal.Read.val_main_v16 (F := Ideal) (m ((c : Thread nD τ).loc main_arg0)) (m ((c : Thread nD τ).loc main_arg1))
    (m ((c : Thread nD τ).loc main_arg2))

/-- The f32 array the kernel leaves is the reference's result. -/
theorem final (c : Dev nD) : (dats m 0 c).arrAt 3 cfg0.N = ref m c := by
  refine (dats m 0 c).arrAt_eq_of_covers 3 _ (by decide +kernel) fun t hf y => ?_
  blk_simp
  rw [after0_3]
  have hN : t.val < 32 := lt_of_lt_of_eq t.isLt N_0
  obtain ⟨r, s, hr, hs, ht⟩ : ∃ r s, r < 16 ∧ s < 2 ∧ t.val = 2 * r + s := ⟨t.val / 2, t.val % 2, by omega, by omega, by omega⟩
  obtain ⟨tv, htv⟩ := t
  obtain rfl : tv = 2 * r + s := ht
  have h0 : 2 * r < cfg0.N := lt_of_le_of_lt (Nat.le_add_right _ _) htv
  have i1 := idx ⟨2 * r + s, htv⟩
  have i2 := idx ⟨2 * r, h0⟩
  have hd : (2 * r + s) / 2 = r := by omega
  have hm : (2 * r + s) % 2 = s := by omega
  have hd0 : 2 * r / 2 = r := by omega
  have hm0 : 2 * r % 2 = 0 := by omega
  simp only [hd, hm] at i1
  simp only [hd0, hm0] at i2
  obtain ⟨p, q, rfl⟩ : ∃ (p : Fin 1024) (q : Fin 1024), y = ix2 p q := ⟨y 0, y 1, by funext a; match a with | ⟨0, _⟩ => rfl | ⟨1, _⟩ => rfl⟩
  have hb : r * 1024 + p.val < 16384 := by have := p.isLt; omega
  have hq : s * 1024 + q.val < 2048 := by have := q.isLt; omega
  have hi : ((cfg0.win 3).blk ⟨2 * r + s, htv⟩).view.emb (ix2 p q)
      = ix2 (⟨r * 1024 + p.val, hb⟩ : Fin 16384) (⟨s * 1024 + q.val, hq⟩ : Fin 2048) := by
    blk_ext [i1]
  unfold ref
  rw [hi, Cert.SharedVRefIdeal.Read.ref_at, out_eq m c r s hs h0 htv, dot_at]
  simp only [norm_at]
  blk_point [iblk, V, i1, i2]

/-- The bf16 array the kernel leaves is the reference's result. -/
theorem final_bf (c : Dev nD) : (dats m 0 c).arrAt 4 cfg0.N = refb m c := by
  refine (dats m 0 c).arrAt_eq_of_covers 4 _ (by decide +kernel) fun t hf y => ?_
  blk_simp
  rw [after0_4]
  have hN : t.val < 32 := lt_of_lt_of_eq t.isLt N_0
  obtain ⟨r, s, hr, hs, ht⟩ : ∃ r s, r < 16 ∧ s < 2 ∧ t.val = 2 * r + s := ⟨t.val / 2, t.val % 2, by omega, by omega, by omega⟩
  obtain ⟨tv, htv⟩ := t
  obtain rfl : tv = 2 * r + s := ht
  have h0 : 2 * r < cfg0.N := lt_of_le_of_lt (Nat.le_add_right _ _) htv
  have i1 := idx ⟨2 * r + s, htv⟩
  have i2 := idx ⟨2 * r, h0⟩
  have hd : (2 * r + s) / 2 = r := by omega
  have hm : (2 * r + s) % 2 = s := by omega
  have hd0 : 2 * r / 2 = r := by omega
  have hm0 : 2 * r % 2 = 0 := by omega
  simp only [hd, hm] at i1
  simp only [hd0, hm0] at i2
  obtain ⟨p, q, rfl⟩ : ∃ (p : Fin 1024) (q : Fin 1024), y = ix2 p q := ⟨y 0, y 1, by funext a; match a with | ⟨0, _⟩ => rfl | ⟨1, _⟩ => rfl⟩
  have hb : r * 1024 + p.val < 16384 := by have := p.isLt; omega
  have hq : s * 1024 + q.val < 2048 := by have := q.isLt; omega
  have hi : ((cfg0.win 4).blk ⟨2 * r + s, htv⟩).view.emb (ix2 p q)
      = ix2 (⟨r * 1024 + p.val, hb⟩ : Fin 16384) (⟨s * 1024 + q.val, hq⟩ : Fin 2048) := by
    blk_ext [i1]
  unfold refb
  rw [hi, Cert.SharedVRefIdeal.Read.ref_bf_at, out_bf_eq m c r s hs h0 htv, dot_bf_at]
  simp only [norm_at]
  blk_point [iblk, V, i1, i2]

end Cert.SharedVIdeal.Point

end
-- ==== Proof.SharedV.Claim.lean ====
/- The shared values: the kernel and its reference agree. -/
module

public import proofs.«01_k».proof.Defs
public import proofs.«01_k».proof.Proof.SharedV.Value
public import proofs.«01_k».proof.Proof.Gen.SharedVRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicSharedV : Cert.algebraic_SharedVIdeal_SharedVRefIdeal := by
  pair_intro
  · run_from Cert.SharedVIdeal.Value.run_blocks m g
  · run_from Cert.SharedVRefIdeal.Value.run m' g'
    · exact (Cert.SharedVIdeal.Point.final m c).symm
    · exact (Cert.SharedVIdeal.Point.final_bf m c).symm

end Cert.Proof

end
-- ==== Proof.DiffQ.Ref.lean ====
/- The reference of the attention's query projection, read at one index. -/
module

public import proofs.«01_k».proof.Proof.Gen.DiffQRefIdeal.Read
public import Idealize.ShloMosaic.Lib.Pipeline.ValueKit
public import Idealize.ShloMosaic.Lib.Pointwise

@[expose] public section

set_option maxRecDepth 16384

noncomputable section

namespace Cert.DiffQRefIdeal.Read

open Cert.DiffQRefIdeal Cert.DiffQRefIdeal.Gen Idealize.ShloMosaic Idealize.ShloMosaic.TcCoe Idealize.SL.Sem

/-- A row of the input normalised by its root mean square and scaled. -/
theorem norm_at (X : FVec Ideal S16384x2048 .f32) (G : FVec Ideal S2048 .f32) (r : Fin 16384) (k : Fin 2048) :
    val_main_v12 (F := Ideal) X G (ix2 r k)
      = X (ix2 r k) * Ideal.rsqrt (Ideal.div (∑ k' : Fin 2048, X (ix2 r k') * X (ix2 r k'))
          (Ideal.ofBits .f32 0x45000000#32) + Ideal.ofBits .f32 0x358637BD#32) * G (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The whole reference at one index: the normalised row against a column of the weights, scaled. -/
theorem ref_at (X : FVec Ideal S16384x2048 .f32) (G : FVec Ideal S2048 .f32) (W : FVec Ideal S2048x2048 .f32)
    (r : Fin 16384) (d : Fin 2048) :
    val_main_v16 (F := Ideal) X G W (ix2 r d)
      = (∑ k : Fin 2048, (X (ix2 r k) * Ideal.rsqrt (Ideal.div (∑ k' : Fin 2048, X (ix2 r k') * X (ix2 r k'))
          (Ideal.ofBits .f32 0x45000000#32) + Ideal.ofBits .f32 0x358637BD#32) * G (ix1 k)) * W (ix2 k d))
        * Ideal.ofBits .f32 0x3E0293EE#32 := by
  pointwise [val_main_v16, val_main_v15, val_main_v14, val_main_v13, val_main_cst_2]
  simp only [norm_at]

end Cert.DiffQRefIdeal.Read

end
-- ==== Proof.DiffQ.Value.lean ====
/- The kernel of the attention's query projection computes its reference. -/
module

public import proofs.«01_k».proof.Proof.Gen.DiffQIdeal.Value
public import proofs.«01_k».proof.Proof.DiffQ.Ref

@[expose] public section

set_option maxRecDepth 16384

noncomputable section

namespace Cert.DiffQIdeal.Point

open Cert.DiffQIdeal Cert.DiffQIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The normalised rows of a block. -/
theorem norm_at (x : FVec Ideal S1024x2048 .f32) (g : FVec Ideal S1x2048 .f32) (p : Fin 1024) (k : Fin 2048) :
    k0_pay1 (F := Ideal) x g (ix2 p k)
      = x (ix2 p k) * Ideal.rsqrt (Ideal.div (∑ k' : Fin 2048, x (ix2 p k') * x (ix2 p k'))
          (Ideal.ofBits .f32 0x45000000#32) + Ideal.ofBits .f32 0x358637BD#32) * g (ix2 0 k) := by
  pointwise [k0_pay1]

/-- The product of the normalised rows with a block of columns. -/
theorem dot_at (h : FVec Ideal S1024x2048 .bf16) (w : FVec Ideal S2048x1024 .bf16) (p : Fin 1024) (q : Fin 1024) :
    k0_pay2 (F := Ideal) h w (ix2 p q)
      = (∑ k : Fin 2048, h (ix2 p k) * w (ix2 k q)) * Ideal.ofBits .f32 0x3E0293EE#32 := by
  pointwise [k0_pay2]

/-- Through a run of points over one block of rows, the kept block holds that block's rows normalised. -/
theorem kept (c : Dev nD) (r : ℕ) (h0 : 2 * r < cfg0.N) : ∀ (s : ℕ) (hs : s < 2) (h : 2 * r + s < cfg0.N),
    (outsAt0 m c (2 * r + s) h).2 = k0_pay1 (F := Ideal) (iblk m c 0 ⟨2 * r, h0⟩) (iblk m c 1 ⟨2 * r, h0⟩)
  | 0, hs, h => by
    rw [outsAt0_A m c ⟨2 * r + 0, h⟩ (by simp)]
    frame_out
    rfl
  | s + 1, hs, h => by
    have ih := kept c r h0 s (by omega) (by omega)
    rw [outsAt0_B m c ⟨2 * r + (s + 1), h⟩ (by show ¬(2 * r + (s + 1)) % 2 = 0; omega)]
    frame_out
    exact ih

/-- What every point writes: its block of rows, normalised, against its block of columns. -/
theorem out_eq (c : Dev nD) (r s : ℕ) (hs : s < 2) (h0 : 2 * r < cfg0.N) (h : 2 * r + s < cfg0.N) :
    (outsAt0 m c (2 * r + s) h).1
      = k0_pay2 (F := Ideal) (k0_pay1 (F := Ideal) (iblk m c 0 ⟨2 * r, h0⟩) (iblk m c 1 ⟨2 * r, h0⟩)) (iblk m c 2 ⟨2 * r + s, h⟩) := by
  match s, hs, h with
  | 0, hs, h =>
    rw [outsAt0_A m c ⟨2 * r + 0, h⟩ (by simp)]
    frame_out
    rfl
  | s + 1, hs, h =>
    have ih := kept m c r h0 s (by omega) (by omega)
    rw [outsAt0_B m c ⟨2 * r + (s + 1), h⟩ (by show ¬(2 * r + (s + 1)) % 2 = 0; omega)]
    frame_out
    rw [← ih, (Memref.isWhole_whole cc0_scratch0).read_unread]
    rfl

/-- The reference's result over the kernel's own arguments. -/
abbrev ref (c : Dev nD) : FVec Ideal S16384x2048 .bf16 :=
  Cert.DiffQRefIdeal.Read.val_main_v16 (F := Ideal) (m ((c : Thread nD τ).loc main_arg0)) (m ((c : Thread nD τ).loc main_arg1))
    (m ((c : Thread nD τ).loc main_arg2))

/-- The array the kernel leaves is the reference's result. -/
theorem final (c : Dev nD) : (dats m 0 c).arrAt 3 cfg0.N = ref m c := by
  refine (dats m 0 c).arrAt_eq_of_covers 3 _ (by decide +kernel) fun t hf y => ?_
  blk_simp
  rw [after0_3]
  have hN : t.val < 32 := lt_of_lt_of_eq t.isLt N_0
  obtain ⟨r, s, hr, hs, ht⟩ : ∃ r s, r < 16 ∧ s < 2 ∧ t.val = 2 * r + s := ⟨t.val / 2, t.val % 2, by omega, by omega, by omega⟩
  obtain ⟨tv, htv⟩ := t
  obtain rfl : tv = 2 * r + s := ht
  have h0 : 2 * r < cfg0.N := lt_of_le_of_lt (Nat.le_add_right _ _) htv
  have i1 := idx ⟨2 * r + s, htv⟩
  have i2 := idx ⟨2 * r, h0⟩
  have hd : (2 * r + s) / 2 = r := by omega
  have hm : (2 * r + s) % 2 = s := by omega
  have hd0 : 2 * r / 2 = r := by omega
  have hm0 : 2 * r % 2 = 0 := by omega
  simp only [hd, hm] at i1
  simp only [hd0, hm0] at i2
  obtain ⟨p, q, rfl⟩ : ∃ (p : Fin 1024) (q : Fin 1024), y = ix2 p q := ⟨y 0, y 1, by funext a; match a with | ⟨0, _⟩ => rfl | ⟨1, _⟩ => rfl⟩
  have hb : r * 1024 + p.val < 16384 := by have := p.isLt; omega
  have hq : s * 1024 + q.val < 2048 := by have := q.isLt; omega
  have hi : ((cfg0.win 3).blk ⟨2 * r + s, htv⟩).view.emb (ix2 p q)
      = ix2 (⟨r * 1024 + p.val, hb⟩ : Fin 16384) (⟨s * 1024 + q.val, hq⟩ : Fin 2048) := by
    blk_ext [i1]
  unfold ref
  rw [hi, Cert.DiffQRefIdeal.Read.ref_at, out_eq m c r s hs h0 htv, dot_at]
  simp only [norm_at]
  blk_point [iblk, V, i1, i2]

end Cert.DiffQIdeal.Point

end
-- ==== Proof.DiffQ.Claim.lean ====
/- The query projection: the kernel and its reference agree. -/
module

public import proofs.«01_k».proof.Defs
public import proofs.«01_k».proof.Proof.DiffQ.Value
public import proofs.«01_k».proof.Proof.Gen.DiffQRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicDiffQ : Cert.algebraic_DiffQIdeal_DiffQRefIdeal := by
  pair_intro
  · run_from Cert.DiffQIdeal.Value.run_blocks m g
  · run_from Cert.DiffQRefIdeal.Value.run m' g'
    exact (Cert.DiffQIdeal.Point.final m c).symm

end Cert.Proof

end
-- ==== Proof.DiffOut.Kernel.lean ====
/- The attention's output projection's kernel, read at one index of the array it leaves. -/
module

public import proofs.«01_k».proof.Proof.Gen.DiffOutIdeal.Value
public import Idealize.ShloMosaic.Lib.Pipeline.ValueKit
public import Idealize.ShloMosaic.Lib.Pointwise

@[expose] public section

set_option maxRecDepth 16384

noncomputable section

namespace Cert.DiffOutIdeal.Point

open Cert.DiffOutIdeal Cert.DiffOutIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, t.val % 2] ∧ win0_1.index t = ![t.val % 2, 0]
    ∧ win0_2.index t = ![0, 0] ∧ win0_3.index t = ![t.val / 2, 0] ∧ win0_4.index t = ![t.val / 2, 0] :=
  (by decide +kernel : ∀ t : Fin grid0.N, _)

/-- The block starts as zero. -/
theorem zero_at (j : S512x2048.Idx) : k0_pay1 (F := Ideal) j = 0 := by pointwise [k0_pay1]

/-- One step adds the product of the two blocks it reads. -/
theorem step_at (acc : FVec Ideal S512x2048 .f32) (a : FVec Ideal S512x1024 .bf16) (w : FVec Ideal S1024x2048 .bf16)
    (p : Fin 512) (d : Fin 2048) :
    k0_pay2 (F := Ideal) acc a w (ix2 p d) = acc (ix2 p d) + ∑ k : Fin 1024, a (ix2 p k) * w (ix2 k d) := by
  pointwise [k0_pay2]

/-- The last step's addition: the row, normalised and scaled, onto the residual. -/
theorem last_at (f x : FVec Ideal S512x2048 .f32) (g : FVec Ideal S1x2048 .f32) (p : Fin 512) (d : Fin 2048) :
    k0_pay3 (F := Ideal) f x g (ix2 p d)
      = x (ix2 p d) + f (ix2 p d)
        * Ideal.rsqrt (Ideal.div (∑ d' : Fin 2048, f (ix2 p d') * f (ix2 p d'))
            (Ideal.ofBits .f32 0x45000000#32) + Ideal.ofBits .f32 0x358637BD#32) * g (ix2 0 d) := by
  pointwise [k0_pay3]

/-- What grid point `n` adds to its block. -/
def part (c : Dev nD) (n : ℕ) (p : Fin 512) (d : Fin 2048) : EReal :=
  if h : n < cfg0.N then
    ∑ k : Fin 1024, (show FVec Ideal S512x1024 .bf16 from iblk m c 0 ⟨n, h⟩) (ix2 p k)
      * (show FVec Ideal S1024x2048 .bf16 from iblk m c 1 ⟨n, h⟩) (ix2 k d)
  else 0

/-- After the first point of a run the block holds that point's product. -/
theorem acc (c : Dev nD) (r : ℕ) (h : 2 * r + 0 < cfg0.N) (p : Fin 512) (d : Fin 2048) :
    outsAt0 m c (2 * r + 0) h (ix2 p d) = part m c (2 * r + 0) p d := by
  rw [outsAt0_A m c ⟨2 * r + 0, h⟩ (by simp) (by show ¬(2 * r + 0) % 2 = 1; omega), Value.out_A_4_eq, step_at, zero_at, zero_add,
    part, dif_pos h]

/-- After the second point it holds the residual plus the sum of both products, normalised and scaled. -/
theorem full (c : Dev nD) (r : ℕ) (h : 2 * r + 1 < cfg0.N) (p : Fin 512) (d : Fin 2048) :
    outsAt0 m c (2 * r + 1) h (ix2 p d)
      = (show FVec Ideal S512x2048 .f32 from iblk m c 3 ⟨2 * r + 1, h⟩) (ix2 p d) + (∑ s : Fin 2, part m c (2 * r + s) p d)
        * Ideal.rsqrt (Ideal.div (∑ d' : Fin 2048, (∑ s : Fin 2, part m c (2 * r + s) p d') * (∑ s : Fin 2, part m c (2 * r + s) p d'))
            (Ideal.ofBits .f32 0x45000000#32) + Ideal.ofBits .f32 0x358637BD#32)
        * (show FVec Ideal S1x2048 .f32 from iblk m c 2 ⟨2 * r + 1, h⟩) (ix2 0 d) := by
  have e : ∀ d' : Fin 2048, k0_pay2 (F := Ideal) (outsAt0 m c (2 * r + 0) (by omega)) (iblk m c 0 ⟨2 * r + 1, h⟩) (iblk m c 1 ⟨2 * r + 1, h⟩) (ix2 p d')
      = ∑ s : Fin 2, part m c (2 * r + s) p d' := fun d' => by
    rw [step_at, acc m c r (by omega) p d', Fin.sum_univ_two]
    congr 1
    rw [part, dif_pos (show 2 * r + (1 : Fin 2).val < cfg0.N from h)]
    rfl
  rw [outsAt0_B m c ⟨2 * r + 1, h⟩ (by show ¬(2 * r + 1) % 2 = 0; omega) (by show (2 * r + 1) % 2 = 1; omega),
    Value.out_B_4_eq, last_at]
  rw [← e d]
  simp only [← e]
  rfl

end Cert.DiffOutIdeal.Point

end
-- ==== Proof.DiffOut.Ref.lean ====
/- The reference of the attention's output projection, read at one index. -/
module

public import proofs.«01_k».proof.Proof.Gen.DiffOutRefIdeal.Read
public import Idealize.ShloMosaic.Lib.Pipeline.ValueKit
public import Idealize.ShloMosaic.Lib.Pointwise

@[expose] public section

set_option maxRecDepth 16384

noncomputable section

namespace Cert.DiffOutRefIdeal.Read

open Cert.DiffOutRefIdeal Cert.DiffOutRefIdeal.Gen Idealize.ShloMosaic Idealize.ShloMosaic.TcCoe Idealize.SL.Sem

/-- The projection: a row of the input against a column of the weights. -/
theorem proj_at (A : FVec Ideal S16384x2048 .bf16) (W : FVec Ideal S2048x2048 .f32) (r : Fin 16384) (d : Fin 2048) :
    val_main_v1 (F := Ideal) A W (ix2 r d) = ∑ k : Fin 2048, A (ix2 r k) * W (ix2 k d) := by
  pointwise [val_main_v1, val_main_v0]

/-- The whole reference at one index: the residual plus the projection normalised over its row. -/
theorem ref_at (A : FVec Ideal S16384x2048 .bf16) (W : FVec Ideal S2048x2048 .f32) (G : FVec Ideal S2048 .f32)
    (X : FVec Ideal S16384x2048 .f32) (r : Fin 16384) (d : Fin 2048) :
    val_main_v15 (F := Ideal) A W G X (ix2 r d)
      = X (ix2 r d) + (∑ k : Fin 2048, A (ix2 r k) * W (ix2 k d))
        * Ideal.rsqrt (Ideal.div (∑ d' : Fin 2048, (∑ k : Fin 2048, A (ix2 r k) * W (ix2 k d')) * (∑ k : Fin 2048, A (ix2 r k) * W (ix2 k d')))
            (Ideal.ofBits .f32 0x45000000#32) + Ideal.ofBits .f32 0x358637BD#32) * G (ix1 d) := by
  pointwise [val_main_v15, val_main_v14, val_main_v13, val_main_v12, val_main_v11, val_main_v10, val_main_v9, val_main_v8,
    val_main_v7, val_main_v6, val_main_v5, val_main_v4, val_main_v3, val_main_v2, val_main_cst, val_main_cst_0, val_main_cst_1]
  simp only [proj_at]

end Cert.DiffOutRefIdeal.Read

end
-- ==== Proof.DiffOut.Value.lean ====
/- The attention's output projection's kernel computes its reference. -/
module

public import proofs.«01_k».proof.Proof.DiffOut.Kernel
public import proofs.«01_k».proof.Proof.DiffOut.Ref

@[expose] public section

set_option maxRecDepth 16384

noncomputable section

namespace Cert.DiffOutIdeal.Point

open Cert.DiffOutIdeal Cert.DiffOutIdeal.Gen Idealize.ShloMosaic Idealize.ShloMosaic.TcCoe Idealize.SL.Sem
open Idealize.ShloMosaic.Pipeline (Dat)

variable (m : (ℓ : Loc nD τ sig) → Buf (Elt Ideal) ℓ)

/-- The reference's result over the kernel's own arguments. -/
abbrev ref (c : Dev nD) : FVec Ideal S16384x2048 .f32 :=
  Cert.DiffOutRefIdeal.Read.val_main_v15 (F := Ideal) (m ((c : Thread nD τ).loc main_arg0)) (m ((c : Thread nD τ).loc main_arg1))
    (m ((c : Thread nD τ).loc main_arg2)) (m ((c : Thread nD τ).loc main_arg3))

/-- The products a run of two points adds up are the whole row against the whole column. -/
theorem parts (c : Dev nD) (r : ℕ) (h : 2 * r + 1 < cfg0.N) (p : Fin 512) (d : Fin 2048) (hr : r * 512 + p.val < 16384) :
    ∑ s : Fin 2, part m c (2 * r + s) p d
      = ∑ k : Fin 2048, (show FVec Ideal S16384x2048 .bf16 from m ((c : Thread nD τ).loc main_arg0)) (ix2 ⟨r * 512 + p.val, hr⟩ k)
          * (show FVec Ideal S2048x2048 .f32 from m ((c : Thread nD τ).loc main_arg1)) (ix2 k d) := by
  have e : ∀ s : Fin 2, part m c (2 * r + s) p d = ∑ k : Fin 1024,
      (show FVec Ideal S512x1024 .bf16 from iblk m c 0 ⟨2 * r + s, by omega⟩) (ix2 p k)
      * (show FVec Ideal S1024x2048 .bf16 from iblk m c 1 ⟨2 * r + s, by omega⟩) (ix2 k d) := fun s => by
    rw [part, dif_pos]
  simp only [e]
  refine Fin.sum_mul_add_congr fun s k hl => ?_
  have i1 := idx ⟨2 * r + s, by omega⟩
  have hd : (2 * r + s.val) / 2 = r := by omega
  have hm : (2 * r + s.val) % 2 = s.val := by omega
  simp only [hd, hm] at i1
  blk_point [iblk, V, i1]

/-- The array the kernel leaves is the reference's result. -/
theorem final (c : Dev nD) : (dats m 0 c).arrAt 4 cfg0.N = ref m c := by
  refine (dats m 0 c).arrAt_eq_of_covers 4 _ (by decide +kernel) fun t hf y => ?_
  blk_simp
  rw [after0_4]
  have hm : t.val % 2 = 1 := (flush0_4 t).mp hf
  have hN : t.val < 64 := lt_of_lt_of_eq t.isLt N_0
  obtain ⟨r, hr, ht⟩ : ∃ r, r < 32 ∧ t.val = 2 * r + 1 := ⟨t.val / 2, by omega, by omega⟩
  obtain ⟨tv, htv⟩ := t
  obtain rfl : tv = 2 * r + 1 := ht
  have i1 := idx ⟨2 * r + 1, htv⟩
  have hd : (2 * r + 1) / 2 = r := by omega
  have hm : (2 * r + 1) % 2 = 1 := by omega
  simp only [hd, hm] at i1
  obtain ⟨p, d, rfl⟩ : ∃ (p : Fin 512) (d : Fin 2048), y = ix2 p d := ⟨y 0, y 1, by funext a; match a with | ⟨0, _⟩ => rfl | ⟨1, _⟩ => rfl⟩
  have hb : r * 512 + p.val < 16384 := by have := p.isLt; omega
  have hi : ((cfg0.win 4).blk ⟨2 * r + 1, htv⟩).view.emb (ix2 p d) = ix2 (⟨r * 512 + p.val, hb⟩ : Fin 16384) d := by
    blk_ext [i1]
  unfold ref
  rw [hi, Cert.DiffOutRefIdeal.Read.ref_at, full]
  simp only [parts m c r htv p _ hb]
  blk_point [iblk, V, i1]

end Cert.DiffOutIdeal.Point

end
-- ==== Proof.DiffOut.Claim.lean ====
/- The attention's output projection: the kernel and its reference agree. -/
module

public import proofs.«01_k».proof.Defs
public import proofs.«01_k».proof.Proof.DiffOut.Value
public import proofs.«01_k».proof.Proof.Gen.DiffOutRefIdeal.Run
public import Idealize.ShloMosaic.Adequacy
public import Idealize.ShloMosaic.Init

@[expose] public section

set_option maxRecDepth 16384

noncomputable section

namespace Cert.Proof

open Idealize.ShloMosaic Idealize.SL.Sem

/-- From the same arguments both programs run, leave their arguments as they were, and end with equal results. -/
theorem algebraicDiffOut : Cert.algebraic_DiffOutIdeal_DiffOutRefIdeal := by
  pair_intro
  · run_from Cert.DiffOutIdeal.Value.run_blocks m g
  · run_from Cert.DiffOutRefIdeal.Value.run m' g'
    exact (Cert.DiffOutIdeal.Point.final m c).symm

end Cert.Proof

end
-- ==== Proof.DiffAttn.Math.lean ====
/- The softmax of one query, taken over the keys tile by tile with a running maximum, and taken at once.  Both are the ratio
   of two sums of exponentials, whatever numbers were subtracted in the exponents on the way. -/
module

public import Idealize.ShloMosaic.Lib.Pointwise

@[expose] public section

noncomputable section

namespace Cert.DiffAttnMath

open Idealize.ShloMosaic

/-- A finite sum of real numbers, summed as extended ones. -/
theorem sum_coe {ι : Type*} (s : Finset ι) (f : ι → ℝ) : (∑ r ∈ s, ((f r : ℝ) : EReal)) = ((∑ r ∈ s, f r : ℝ) : EReal) := by
  classical
  induction s using Finset.induction_on with
  | empty => simp
  | insert a s ha ih => rw [Finset.sum_insert ha, Finset.sum_insert ha, ih, EReal.coe_add]

/-- An extended number that is neither infinity is a real one. -/
theorem exists_real {x : EReal} (h1 : x ≠ ⊤) (h2 : x ≠ ⊥) : ∃ r : ℝ, x = r := ⟨x.toReal, (EReal.coe_toReal h1 h2).symm⟩

/-- `2 ^ x` as a real number: zero at minus infinity. -/
def wt (x : EReal) : ℝ := (Ideal.exp2 x).toReal

/-- `e ^ x` as a real number: zero at minus infinity. -/
def ew (x : EReal) : ℝ := (Ideal.exp x).toReal

theorem wt_coe (x : ℝ) : wt x = Real.rpow 2 x := by simp [wt]
theorem wt_bot : wt ⊥ = 0 := by simp [wt]
theorem ew_coe (x : ℝ) : ew x = Real.exp x := by simp [ew]
theorem ew_bot : ew ⊥ = 0 := by simp [ew]

/-- Dividing the exponent by `log 2` turns a power of two into a power of `e`. -/
theorem wt_div (x : ℝ) : wt ((x / Real.log 2 : ℝ) : EReal) = ew x := by
  rw [wt_coe, ew_coe]
  show (2 : ℝ) ^ (x / Real.log 2) = _
  rw [Real.rpow_def_of_pos (by norm_num)]
  congr 1
  have : Real.log 2 ≠ 0 := (Real.log_pos (by norm_num)).ne'
  field_simp

theorem exp2_sub {x : EReal} (hx : x ≠ ⊤) (a : ℝ) : Ideal.exp2 (x - a) = ((wt x * Real.rpow 2 (-a) : ℝ) : EReal) := by
  induction x using EReal.rec with
  | bot => simp [wt_bot]
  | coe x =>
    rw [← EReal.coe_sub, Ideal.exp2_coe, wt_coe]
    congr 1
    show (2 : ℝ) ^ (x - a) = 2 ^ x * 2 ^ (-a)
    rw [← Real.rpow_add (by norm_num)]; rfl
  | top => exact absurd rfl hx

theorem exp_sub {x : EReal} (hx : x ≠ ⊤) (a : ℝ) : Ideal.exp (x - a) = ((ew x * Real.exp (-a) : ℝ) : EReal) := by
  induction x using EReal.rec with
  | bot => simp [ew_bot]
  | coe x =>
    rw [← EReal.coe_sub, Ideal.exp_coe, ew_coe]
    congr 1
    rw [← Real.exp_add]; rfl
  | top => exact absurd rfl hx

/-- The largest of finitely many numbers none of which is plus infinity is not plus infinity. -/
theorem fold_ne_top {n : ℕ} (s : Fin n → EReal) (hs : ∀ r, s r ≠ ⊤) : Finset.fold max ⊥ s Finset.univ ≠ ⊤ := by
  have h : Finset.fold max ⊥ s Finset.univ < ⊤ :=
    (Finset.fold_max_lt _).2 ⟨bot_lt_top, fun r _ => lt_top_iff_ne_top.2 (hs r)⟩
  exact h.ne

/-- Nor minus infinity where one of them is not. -/
theorem fold_ne_bot {n : ℕ} (s : Fin n → EReal) (r : Fin n) (hr : s r ≠ ⊥) : Finset.fold max ⊥ s Finset.univ ≠ ⊥ := by
  have h : ⊥ < Finset.fold max ⊥ s Finset.univ :=
    (Finset.lt_fold_max _).2 (.inr ⟨r, Finset.mem_univ r, bot_lt_iff_ne_bot.2 hr⟩)
  exact h.ne'

theorem two_rpow_add (a b : ℝ) : Real.rpow 2 (a + b) = Real.rpow 2 a * Real.rpow 2 b :=
  Real.rpow_add (by norm_num) a b

/-- The running state of one query: a real maximum, the sum of the weights seen and the sums of the weighted values, both
    scaled down by the maximum. -/
def Holds (T : ℝ) (Q : Fin 256 → ℝ) (m l : EReal) (acc : Fin 256 → EReal) : Prop :=
  ∃ μ : ℝ, m = μ ∧ l = ((T * Real.rpow 2 (-μ) : ℝ) : EReal) ∧ ∀ e, acc e = ((Q e * Real.rpow 2 (-μ) : ℝ) : EReal)

/-- Before the first tile nothing has been seen, whatever real number the maximum starts from. -/
theorem Holds.start (μ : ℝ) : Holds 0 (fun _ => 0) μ 0 (fun _ => 0) := ⟨μ, rfl, by simp, fun e => by simp⟩

/-- One tile adds its weights and its weighted values. -/
theorem Holds.step {T : ℝ} {Q : Fin 256 → ℝ} {m l : EReal} {acc : Fin 256 → EReal} (h : Holds T Q m l acc)
    (s : Fin 512 → EReal) (o : ℝ) (hs : ∀ r, s r ≠ ⊤) (vt : Fin 256 → Fin 512 → EReal) (v : Fin 256 → Fin 512 → ℝ)
    (hv : ∀ e r, vt e r = v e r) (m' : EReal) (hm' : m' = max m (Finset.fold max ⊥ s Finset.univ - o)) :
    Holds (T + ∑ r, wt (s r - o)) (fun e => Q e + ∑ r, v e r * wt (s r - o)) m'
      (Ideal.exp2 (m - m') * l + ∑ r, Ideal.exp2 (s r - (m' + o)))
      (fun e => Ideal.exp2 (m - m') * acc e + ∑ r, vt e r * Ideal.exp2 (s r - (m' + o))) := by
  obtain ⟨μ, rfl, rfl, hacc⟩ := h
  have hf : Finset.fold max ⊥ s Finset.univ - (o : EReal) ≠ ⊤ := by
    have := fold_ne_top s hs
    generalize Finset.fold max ⊥ s Finset.univ = x at this ⊢
    induction x using EReal.rec with
    | bot => simp
    | coe x => rw [← EReal.coe_sub]; exact EReal.coe_ne_top _
    | top => exact absurd rfl this
  obtain ⟨μ', rfl⟩ : ∃ r : ℝ, m' = r := by
    refine exists_real ?_ ?_
    · rw [hm']; intro e
      rcases max_choice (μ : EReal) (Finset.fold max ⊥ s Finset.univ - o) with h | h <;> rw [h] at e
      · exact EReal.coe_ne_top _ e
      · exact hf e
    · rw [hm']; intro e
      exact EReal.coe_ne_bot μ (le_bot_iff.1 (e ▸ le_max_left _ _))
  have hp : ∀ r, Ideal.exp2 (s r - ((μ' : EReal) + o)) = ((wt (s r - o) * Real.rpow 2 (-μ') : ℝ) : EReal) := fun r => by
    have e : s r - ((μ' : EReal) + o) = (s r - o) - μ' := by
      have := hs r
      generalize s r = x at this ⊢
      induction x using EReal.rec with
      | bot => simp
      | coe x => norm_cast; ring_nf
      | top => exact absurd rfl this
    rw [e]
    refine exp2_sub ?_ μ'
    have := hs r
    generalize s r = x at this ⊢
    induction x using EReal.rec with
    | bot => simp
    | coe x => rw [← EReal.coe_sub]; exact EReal.coe_ne_top _
    | top => exact absurd rfl this
  have ha : Ideal.exp2 ((μ : EReal) - μ') = ((Real.rpow 2 (μ - μ') : ℝ) : EReal) := by
    rw [← EReal.coe_sub, Ideal.exp2_coe]
  have hk : Real.rpow 2 (μ - μ') * Real.rpow 2 (-μ) = Real.rpow 2 (-μ') := by
    rw [← two_rpow_add]; congr 1; ring
  refine ⟨μ', rfl, ?_, fun e => ?_⟩
  · simp only [ha, hp]
    rw [sum_coe, ← EReal.coe_mul, ← EReal.coe_add]
    congr 1
    rw [← Finset.sum_mul, add_mul, ← hk]; ring
  · simp only [ha, hp, hv, hacc]
    simp only [← EReal.coe_mul]
    rw [sum_coe, ← EReal.coe_add]
    congr 1
    rw [add_mul, Finset.sum_mul]
    refine congrArg₂ (· + ·) ?_ (Finset.sum_congr rfl fun r _ => by ring)
    rw [← hk]; ring

/-- At the end the maximum cancels. -/
theorem Holds.finish {T : ℝ} {Q : Fin 256 → ℝ} {m l : EReal} {acc : Fin 256 → EReal} (h : Holds T Q m l acc) (hT : 0 < T)
    (e : Fin 256) : acc e * Ideal.div 1 l = ((Q e / T : ℝ) : EReal) := by
  obtain ⟨μ, rfl, rfl, hacc⟩ := h
  have h2 : 0 < Real.rpow 2 (-μ) := Real.rpow_pos_of_pos (by norm_num) _
  rw [hacc, Ideal.div_coe (mul_pos hT h2).ne', one_mul, ← EReal.coe_mul]
  congr 1
  field_simp

/-- The softmax taken at once: the largest score cancels. -/
theorem softmax_at {n : ℕ} (s : Fin n → EReal) (hs : ∀ r, s r ≠ ⊤) (r₀ : Fin n) (hr : s r₀ ≠ ⊥) (k : Fin n) :
    Ideal.div (Ideal.exp (s k - max ⊥ (Finset.fold max ⊥ s Finset.univ)))
      (∑ r, Ideal.exp (s r - max ⊥ (Finset.fold max ⊥ s Finset.univ))) = ((ew (s k) / ∑ r, ew (s r) : ℝ) : EReal) := by
  rw [max_eq_right bot_le]
  obtain ⟨μ, hμ⟩ := exists_real (fold_ne_top s hs) (fold_ne_bot s r₀ hr)
  rw [hμ]
  have h2 : 0 < Real.exp (-μ) := Real.exp_pos _
  have hpos : 0 < ∑ r, ew (s r) := by
    have h0 : ∀ r, 0 ≤ ew (s r) := fun r => by
      have := hs r
      generalize s r = x at this ⊢
      induction x using EReal.rec with
      | bot => rw [ew_bot]
      | coe x => rw [ew_coe]; exact (Real.exp_pos _).le
      | top => exact absurd rfl this
    refine Finset.sum_pos' (fun r _ => h0 r) ⟨r₀, Finset.mem_univ _, ?_⟩
    obtain ⟨x, hx⟩ := exists_real (hs r₀) hr
    rw [hx, ew_coe]; exact Real.exp_pos _
  simp only [exp_sub (hs _)]
  rw [sum_coe, ← Finset.sum_mul, Ideal.div_coe (mul_pos hpos h2).ne', ← EReal.coe_mul]
  congr 1
  field_simp

/-- The weights of a softmax add up to a positive number. -/
theorem sum_ew_pos {n : ℕ} (s : Fin n → EReal) (hs : ∀ r, s r ≠ ⊤) (r₀ : Fin n) (hr : s r₀ ≠ ⊥) : 0 < ∑ r, ew (s r) := by
  have h0 : ∀ r, 0 ≤ ew (s r) := fun r => by
    have := hs r
    generalize s r = x at this ⊢
    induction x using EReal.rec with
    | bot => rw [ew_bot]
    | coe x => rw [ew_coe]; exact (Real.exp_pos _).le
    | top => exact absurd rfl this
  refine Finset.sum_pos' (fun r _ => h0 r) ⟨r₀, Finset.mem_univ _, ?_⟩
  obtain ⟨x, hx⟩ := exists_real (hs r₀) hr
  rw [hx, ew_coe]; exact Real.exp_pos _

end Cert.DiffAttnMath

end
-- ==== Proof.RetPrompt.Rec.lean ====
/- The retention recurrence over the real numbers: the decayed sums that both programs compute, each in chunks of its own
   length. -/
module

public import proofs.«01_k».proof.Proof.DiffAttn.Math

@[expose] public section

noncomputable section

namespace Cert.RetPromptMath

open Finset

/-- One entry of the state after `n` positions. -/
def st (a : ℝ) (k v : ℕ → ℝ) (n : ℕ) : ℝ := ∑ j ∈ range n, Real.exp (a * ((n : ℝ) - 1 - j)) * (k j * v j)

/-- One entry of the output at position `t`, before the norm. -/
def ot (a : ℝ) (q k : ℕ → Fin 256 → ℝ) (v : ℕ → ℝ) (t : ℕ) : ℝ :=
  ∑ j ∈ range (t + 1), Real.exp (a * ((t : ℝ) - j)) * ((∑ d, q t d * k j d) * v j)

/-- The decay between two positions of a chunk. -/
def dc (a : ℝ) (i j : ℕ) : ℝ := if j ≤ i then Real.exp (a * ((i : ℝ) - j)) else 0

theorem st_zero (a : ℝ) (k v : ℕ → ℝ) : st a k v 0 = 0 := by simp [st]

/-- One chunk of the state. -/
theorem st_chunk (a : ℝ) (k v : ℕ → ℝ) (n C : ℕ) :
    st a k v (n + C) = st a k v n * Real.exp (a * C)
      + ∑ j : Fin C, k (n + j.val) * Real.exp (a * ((C : ℝ) - 1 - j.val)) * v (n + j.val) := by
  unfold st
  rw [Finset.sum_range_add, Finset.sum_mul, ← Finset.sum_range (fun j => k (n + j) * Real.exp (a * ((C : ℝ) - 1 - j)) * v (n + j))]
  refine congrArg₂ (· + ·) (Finset.sum_congr rfl fun j _ => ?_) (Finset.sum_congr rfl fun j _ => ?_)
  · rw [show a * (((n + C : ℕ) : ℝ) - 1 - j) = a * ((n : ℝ) - 1 - j) + a * C from by push_cast; ring, Real.exp_add]
    ring
  · rw [show a * (((n + C : ℕ) : ℝ) - 1 - ((n + j : ℕ) : ℝ)) = a * ((C : ℝ) - 1 - j) from by push_cast; ring]
    ring

/-- One chunk of the output. -/
theorem ot_chunk (a : ℝ) (q k : ℕ → Fin 256 → ℝ) (v : ℕ → ℝ) (n C i : ℕ) (hi : i < C) :
    ot a q k v (n + i)
      = ∑ j : Fin C, v (n + j.val) * ((∑ d, q (n + i) d * k (n + j.val) d) * dc a i j.val)
        + ∑ d, st a (fun j => k j d) v n * (q (n + i) d * Real.exp (a * ((i : ℝ) + 1))) := by
  unfold ot st
  rw [show n + i + 1 = n + (i + 1) from rfl, Finset.sum_range_add, add_comm,
    ← Finset.sum_range (fun j => v (n + j) * ((∑ d, q (n + i) d * k (n + j) d) * dc a i j))]
  refine congrArg₂ (· + ·) ?_ ?_
  · rw [← Finset.sum_subset (s₁ := range (i + 1)) (s₂ := range C)]
    · refine Finset.sum_congr rfl fun j hj => ?_
      have h1 : j ≤ i := Nat.lt_succ_iff.1 (Finset.mem_range.1 hj)
      rw [dc, if_pos h1, show a * (((n + i : ℕ) : ℝ) - ((n + j : ℕ) : ℝ)) = a * ((i : ℝ) - j) from by push_cast; ring]
      ring
    · intro x hx
      rw [Finset.mem_range] at hx ⊢
      omega
    · intro x _ hx
      have h1 : ¬ x ≤ i := fun h => hx (Finset.mem_range.2 (by omega))
      rw [dc, if_neg h1, mul_zero, mul_zero]
  · simp only [Finset.sum_mul, Finset.mul_sum]
    rw [Finset.sum_comm]
    refine Finset.sum_congr rfl fun d _ => Finset.sum_congr rfl fun j _ => ?_
    rw [show a * (((n + i : ℕ) : ℝ) - j) = a * ((n : ℝ) - 1 - j) + a * ((i : ℝ) + 1) from by push_cast; ring, Real.exp_add]
    ring

end Cert.RetPromptMath

end
-- ==== Proof.RetPrompt.Table.lean ====
/- The tables of decays as real numbers. -/
module

public import proofs.«01_k».proof.Proof.RetPrompt.Rec
public import Idealize.ShloMosaic.Lib.Pointwise

@[expose] public section

noncomputable section

namespace Cert.RetPromptMath

open Idealize.ShloMosaic Cert.DiffAttnMath

theorem lit_0 : Ideal.ofBits .f32 0x00000000#32 = ((0 : ℝ) : EReal) := by simp [Ideal.ofBits, Ideal.ieee]
theorem lit_1 : Ideal.ofBits .f32 0x3F800000#32 = ((1 : ℝ) : EReal) := by simp [Ideal.ofBits, Ideal.ieee, -EReal.coe_mul]; try norm_num
theorem lit_63 : Ideal.ofBits .f32 0x427C0000#32 = ((63 : ℝ) : EReal) := by simp [Ideal.ofBits, Ideal.ieee, -EReal.coe_mul]; norm_num
theorem lit_64 : Ideal.ofBits .f32 0x42800000#32 = ((64 : ℝ) : EReal) := by simp [Ideal.ofBits, Ideal.ieee, -EReal.coe_mul]; norm_num
theorem lit_255 : Ideal.ofBits .f32 0x437F0000#32 = ((255 : ℝ) : EReal) := by simp [Ideal.ofBits, Ideal.ieee, -EReal.coe_mul]; norm_num
theorem lit_neg5 : Ideal.ofBits .f32 0xC0A00000#32 = ((-5 : ℝ) : EReal) := by simp [Ideal.ofBits, Ideal.ieee, -EReal.coe_mul]; norm_num
theorem lit_16th : Ideal.ofBits .f32 0x3D800000#32 = ((1 / 16 : ℝ) : EReal) := by simp [Ideal.ofBits, Ideal.ieee, -EReal.coe_mul]; norm_num
theorem lit_log2_pos : ∃ r : ℝ, 0 < r ∧ Ideal.ofBits .f32 0x3F317218#32 = r :=
  ⟨11629080 / 16777216, by norm_num, by simp [Ideal.ofBits, Ideal.ieee, -EReal.coe_mul]; norm_num⟩

/-- A position as a real. -/
theorem pos_real (n : ℕ) (h : n < 4096) : (FloatOps.sitofp .f32 (BitVec.ofNat 32 n) : Ideal .f32) = ((n : ℝ) : EReal) := by
  show (((BitVec.ofNat 32 n).toInt : ℝ) : EReal) = _
  rw [show (BitVec.ofNat 32 n).toInt = (n : ℤ) from by rw [BitVec.toInt_ofNat']; simp only [Int.bmod]; omega]
  simp

/-- The logarithm of one less a power is real. -/
theorem lg_real (n : ℕ) (h : n < 4096) : ∃ r : ℝ, Ideal.log1p (-Ideal.exp (Ideal.ofBits .f32 0x3F317218#32
    * (Ideal.ofBits .f32 0xC0A00000#32 - (FloatOps.sitofp .f32 (BitVec.ofNat 32 n) : Ideal .f32)))) = r := by
  obtain ⟨c, hc, hl⟩ := lit_log2_pos
  rw [hl, lit_neg5, pos_real n h, ← EReal.coe_sub, ← EReal.coe_mul, Ideal.exp_coe, ← EReal.coe_neg]
  have h0 : c * (-5 - (n : ℝ)) < 0 := mul_neg_of_pos_of_neg hc (by have : (0 : ℝ) ≤ n := Nat.cast_nonneg n; linarith)
  have h1 : 0 < 1 + -Real.exp (c * (-5 - (n : ℝ))) := by
    have h2 : Real.exp (c * (-5 - (n : ℝ))) < 1 := by rw [← Real.exp_zero]; exact Real.exp_lt_exp.2 h0
    linarith
  refine ⟨Real.log (1 + -Real.exp (c * (-5 - (n : ℝ)))), ?_⟩
  show Ideal.log (1 + _) = _
  rw [show (1 : EReal) = ((1 : ℝ) : EReal) from rfl, ← EReal.coe_add, Ideal.log_coe]
  simp [h1.ne', h1.not_ge]

/-- A decay between two positions. -/
theorem dc_real (L : EReal) (a : ℝ) (hL : L = a) (i j : ℕ) (hi : i < 4096) (hj : j < 4096) :
    (if (0 : EReal) ≤ (FloatOps.sitofp .f32 (BitVec.ofNat 32 i) : Ideal .f32) - (FloatOps.sitofp .f32 (BitVec.ofNat 32 j) : Ideal .f32) then
      Ideal.exp (L * max ((FloatOps.sitofp .f32 (BitVec.ofNat 32 i) : Ideal .f32) - (FloatOps.sitofp .f32 (BitVec.ofNat 32 j) : Ideal .f32)) 0)
      else (0 : EReal)) = ((dc a i j : ℝ) : EReal) := by
  rw [pos_real i hi, pos_real j hj, ← EReal.coe_zero, ← EReal.coe_sub, hL, dc]
  by_cases h : j ≤ i
  · have h' : (0 : ℝ) ≤ (i : ℝ) - j := by have : (j : ℝ) ≤ i := Nat.cast_le.2 h; linarith
    rw [if_pos (EReal.coe_le_coe_iff.2 h'), if_pos h, max_eq_left (EReal.coe_le_coe_iff.2 h'), ← EReal.coe_mul, Ideal.exp_coe]
  · have h' : ¬ (0 : ℝ) ≤ (i : ℝ) - j := by have : (i : ℝ) < j := Nat.cast_lt.2 (Nat.lt_of_not_le h); linarith
    rw [if_neg (fun e => h' (EReal.coe_le_coe_iff.1 e)), if_neg h]

/-- A decay from the start of a chunk. -/
theorem qd_real (L : EReal) (a : ℝ) (hL : L = a) (i : ℕ) (hi : i < 4096) :
    Ideal.exp (L * ((FloatOps.sitofp .f32 (BitVec.ofNat 32 i) : Ideal .f32) + Ideal.ofBits .f32 0x3F800000#32))
      = ((Real.exp (a * ((i : ℝ) + 1)) : ℝ) : EReal) := by
  rw [pos_real i hi, lit_1, ← EReal.coe_add, hL, ← EReal.coe_mul, Ideal.exp_coe]

/-- A decay to the end of a chunk. -/
theorem kd_real (L : EReal) (a : ℝ) (hL : L = a) (i : ℕ) (hi : i < 4096) (E : EReal) (C : ℝ) (hE : E = ((C - 1 : ℝ) : EReal)) :
    Ideal.exp (L * (E - (FloatOps.sitofp .f32 (BitVec.ofNat 32 i) : Ideal .f32)))
      = ((Real.exp (a * (C - 1 - i)) : ℝ) : EReal) := by
  rw [pos_real i hi, hE, ← EReal.coe_sub, hL, ← EReal.coe_mul, Ideal.exp_coe]

end Cert.RetPromptMath

end
-- ==== Proof.RetPrompt.RefTable.lean ====
/- The reference's tables of decays, read at one index. -/
module

public import proofs.«01_k».proof.Proof.RetPrompt.Table
public import proofs.«01_k».proof.Proof.Gen.RetPromptRefIdeal.Step
public import Idealize.ShloMosaic.Lib.Pipeline.ValueKit
public import Idealize.ShloMosaic.Lib.Pointwise

@[expose] public section

set_option maxRecDepth 16384

noncomputable section

namespace Cert.RetPromptRefIdeal.Point

open Cert.RetPromptRefIdeal Cert.RetPromptRefIdeal.Gen Cert.RetPromptRefIdeal.Step Idealize.ShloMosaic Idealize.ShloMosaic.TcCoe Idealize.SL.Sem
open Cert.RetPromptMath

/-- The logarithm of a head's decay. -/
def lam (h : Fin 8) : ℝ := ((K_main_v19 (F := Ideal) : FVec Ideal S8 .f32) (ix1 h) : EReal).toReal

theorem lg_at (h : Fin 8) : (K_main_v19 (F := Ideal) : FVec Ideal S8 .f32) (ix1 h) = Ideal.log1p (-Ideal.exp (Ideal.ofBits .f32 0x3F317218#32
    * (Ideal.ofBits .f32 0xC0A00000#32 - (FloatOps.sitofp .f32 (BitVec.ofNat 32 h.val) : Ideal .f32)))) := by
  pointwise [K_main_v19, K_main_v18, K_main_v17, K_main_v16, K_main_v15, K_main_v14, K_main_v13, K_main_v12, K_main_cst_1, K_main_cst_2]

theorem lg_eq (h : Fin 8) : (K_main_v19 (F := Ideal) : FVec Ideal S8 .f32) (ix1 h) = ((lam h : ℝ) : EReal) := by
  obtain ⟨r, hr⟩ := lg_real h.val (by omega)
  unfold lam
  rw [lg_at, hr, EReal.toReal_coe]

theorem din_at (h : Fin 8) (i j : Fin 64) : (K_main_v36 (F := Ideal) : FVec Ideal S8x64x64 .f32) (ix3 h i j) = ((dc (lam h) i.val j.val : ℝ) : EReal) := by
  refine Eq.trans ?_ (dc_real _ _ (lg_eq h) i.val j.val (by omega) (by omega))
  pointwise [K_main_v36, K_main_call0_v2, K_main_call0_v1, K_main_call0_v0, K_main_cst_5, K_main_v35, K_main_v34, K_main_v33, K_main_v32, K_main_v31,
    K_main_v30, K_main_v29, K_main_cst_4, K_main_v28, K_main_v27, K_main_v26, K_main_cst_3, K_main_v25, K_main_v24, K_main_v23, K_main_v22, K_main_v21, K_main_v20, id_eq]

theorem qd_at (h : Fin 8) (i : Fin 64) : (K_main_v44 (F := Ideal) : FVec Ideal S64x8 .f32) (ix2 i h) = ((Real.exp (lam h * ((i.val : ℝ) + 1)) : ℝ) : EReal) := by
  refine Eq.trans ?_ (qd_real _ _ (lg_eq h) i.val (by omega))
  pointwise [K_main_v44, K_main_v43, K_main_v42, K_main_v41, K_main_v40, K_main_v39, K_main_cst_6, K_main_v38, K_main_v37, K_main_v20]

theorem kd_at (h : Fin 8) (i : Fin 64) : (K_main_v52 (F := Ideal) : FVec Ideal S64x8 .f32) (ix2 i h)
    = ((Real.exp (lam h * ((64 : ℕ) - 1 - (i.val : ℝ))) : ℝ) : EReal) := by
  refine Eq.trans ?_ (kd_real _ _ (lg_eq h) i.val (by omega) (Ideal.ofBits .f32 0x427C0000#32) (64 : ℕ) (lit_63.trans (congrArg _ (by norm_num))))
  pointwise [K_main_v52, K_main_v51, K_main_v50, K_main_v49, K_main_v48, K_main_v47, K_main_cst_7, K_main_v46, K_main_v45, K_main_v20]

theorem cd_at (h : Fin 8) : (K_main_v55 (F := Ideal) : FVec Ideal S8 .f32) (ix1 h) = ((Real.exp (lam h * (64 : ℕ)) : ℝ) : EReal) := by
  pointwise [K_main_v55, K_main_v54, K_main_v53, K_main_cst_8]
  rw [lg_eq, lit_64, ← EReal.coe_mul, Ideal.exp_coe]
  norm_num

end Cert.RetPromptRefIdeal.Point

end
-- ==== Proof.RetPrompt.Real.lean ====
/- The prompt's queries, keys and values as real numbers. -/
module

public import proofs.«01_k».proof.Proof.RetPrompt.Table

@[expose] public section

noncomputable section

namespace Cert.RetPromptMath

open Idealize.ShloMosaic Cert.DiffAttnMath

/-- The shape of the projections. -/
abbrev SX : Shape := ⟨2, ![16384, 12288]⟩

/-- An entry of the projections as a real number, at natural coordinates. -/
def rd (X : FVec Ideal SX .bf16) (r n : ℕ) : ℝ :=
  if h : r < 16384 ∧ n < 12288 then ((X (ix2 (⟨r, h.1⟩ : Fin 16384) (⟨n, h.2⟩ : Fin 12288)) : Ideal .bf16) : EReal).toReal else 0

/-- Every query, key and value is a real number. -/
def Fin8192 (X : FVec Ideal SX .bf16) : Prop :=
  ∀ (r : Fin 16384) (n : Fin 12288), n.val < 8192 → ∃ x : ℝ, X (ix2 r n) = x

theorem rd_eq {X : FVec Ideal SX .bf16} (hX : Fin8192 X) (r : Fin 16384) (n : Fin 12288) (hn : n.val < 8192) :
    X (ix2 r n) = ((rd X r.val n.val : ℝ) : EReal) := by
  obtain ⟨x, hx⟩ := hX r n hn
  rw [rd, dif_pos ⟨r.isLt, n.isLt⟩]
  show X (ix2 r n) = ((EReal.toReal (X (ix2 r n)) : ℝ) : EReal)
  rw [hx, EReal.toReal_coe]

/-- A query at position `t` of batch `b`. -/
def qf (X : FVec Ideal SX .bf16) (b h t : ℕ) (d : Fin 256) : ℝ := rd X (b * 4096 + t) (h * 256 + d.val)
/-- A scaled key at position `t` of batch `b`. -/
def kf (X : FVec Ideal SX .bf16) (b h t : ℕ) (d : Fin 256) : ℝ := rd X (b * 4096 + t) (2048 + (h * 256 + d.val)) * (1 / 16)
/-- A value at position `t` of batch `b`. -/
def vf (X : FVec Ideal SX .bf16) (b h e t : ℕ) : ℝ := rd X (b * 4096 + t) (4096 + (h * 512 + e))

end Cert.RetPromptMath

end
-- ==== Proof.RetPrompt.Kernel.lean ====
/- The retention kernel of the prompt, read at one index. -/
module

public import proofs.«01_k».proof.Proof.Gen.RetPromptIdeal.Value
public import proofs.«01_k».proof.Proof.RetPrompt.RefTable
public import proofs.«01_k».proof.Proof.RetPrompt.Real
public import Idealize.ShloMosaic.Lib.Pipeline.ValueKit
public import Idealize.ShloMosaic.Lib.Pointwise

@[expose] public section

set_option maxRecDepth 16384

noncomputable section

namespace Cert.RetPromptIdeal.Point

open Cert.RetPromptIdeal Cert.RetPromptIdeal.Gen Idealize.ShloMosaic Idealize.ShloMosaic.TcCoe Idealize.SL.Sem
open Idealize.ShloMosaic.Pipeline (Dat)
open Cert.RetPromptMath Cert.DiffAttnMath
open Cert.RetPromptRefIdeal.Point (lam lg_eq lg_at)

variable (m : (ℓ : Loc nD τ sig) → Buf (Elt Ideal) ℓ)

/-- The table of decays between positions. -/
theorem din_at (c : Dev nD) (h : Fin 8) (i j : Fin 256) : (V m c main_v24 : FVec Ideal S8x256x256 .f32) (ix3 h i j) = ((dc (lam h) i.val j.val : ℝ) : EReal) := by
  refine Eq.trans ?_ (dc_real _ _ (lg_eq h) i.val j.val (by omega) (by omega))
  rw [lg_at]
  simp only [V, hostOps0, hostOps0_1, hostOps0_2, List.flatten_cons, List.flatten_nil, List.cons_append, List.nil_append, List.append_nil]
  entry_read
  simp only [StableHlo.TRef.ofBuf, StableHlo.TRef.toBuf, cast_eq, id_eq]
  pointwise [id_eq]

/-- The table of decays from the start of the chunk. -/
theorem qd_at (c : Dev nD) (h : Fin 8) (i : Fin 256) (z : Fin 1) : (V m c main_v33 : FVec Ideal S8x256x1 .f32) (ix3 h i z)
    = ((Real.exp (lam h * ((i.val : ℝ) + 1)) : ℝ) : EReal) := by
  refine Eq.trans ?_ (qd_real _ _ (lg_eq h) i.val (by omega))
  rw [lg_at]
  simp only [V, hostOps0, hostOps0_1, hostOps0_2, List.flatten_cons, List.flatten_nil, List.cons_append, List.nil_append, List.append_nil]
  entry_read
  pointwise

/-- The table of decays to the end of the chunk. -/
theorem kd_at (c : Dev nD) (h : Fin 8) (i : Fin 256) (z : Fin 1) : (V m c main_v42 : FVec Ideal S8x256x1 .f32) (ix3 h i z)
    = ((Real.exp (lam h * ((256 : ℕ) - 1 - (i.val : ℝ))) : ℝ) : EReal) := by
  refine Eq.trans ?_ (kd_real _ _ (lg_eq h) i.val (by omega) (Ideal.ofBits .f32 0x437F0000#32) (256 : ℕ) (lit_255.trans (congrArg _ (by norm_num))))
  rw [lg_at]
  simp only [V, hostOps0, hostOps0_1, hostOps0_2, List.flatten_cons, List.flatten_nil, List.cons_append, List.nil_append, List.append_nil]
  entry_read
  pointwise

/-- One output entry before the row norm. -/
theorem o_at (q k : FVec Ideal S256x256 .bf16) (v : FVec Ideal S256x512 .bf16) (s : FVec Ideal S256x512 .f32) (qd : FVec Ideal S1x256x1 .f32)
    (din : FVec Ideal S1x256x256 .f32) (i : Fin 256) (e : Fin 512) :
    k0_pay8 (F := Ideal) q k v s qd din (ix2 i e)
      = (∑ j : Fin 256, (∑ d : Fin 256, q (ix2 i d) * (k (ix2 j d) * Ideal.ofBits .f32 0x3D800000#32)) * din (ix3 0 i j) * v (ix2 j e))
        + ∑ d : Fin 256, q (ix2 i d) * qd (ix3 0 i 0) * s (ix2 d e) := by
  pointwise [k0_pay8, k0_pay7, k0_pay6]

/-- One entry of the new state. -/
theorem s_at (k : FVec Ideal S256x256 .bf16) (v : FVec Ideal S256x512 .bf16) (s : FVec Ideal S256x512 .f32) (qd kd : FVec Ideal S1x256x1 .f32)
    (d : Fin 256) (e : Fin 512) :
    k0_pay1 (F := Ideal) v (k0_pay9 (F := Ideal) s qd) (k0_pay10 (F := Ideal) k kd) (ix2 d e)
      = s (ix2 d e) * qd (ix3 0 255 0)
        + ∑ j : Fin 256, k (ix2 j d) * Ideal.ofBits .f32 0x3D800000#32 * kd (ix3 0 j 0) * v (ix2 j e) := by
  pointwise [k0_pay1, k0_pay9, k0_pay10, k0_pay7, k0_pay6]

/-- The state as it is kept. -/
theorem keep_at (v : FVec Ideal S256x512 .bf16) (s : FVec Ideal S256x512 .f32) (k : FVec Ideal S256x256 .f32) :
    k0_pay2 (F := Ideal) v s k = k0_pay1 (F := Ideal) v s k := by
  funext x
  obtain ⟨d, e, rfl⟩ : ∃ (d : Fin 256) (e : Fin 512), x = ix2 d e := ⟨x 0, x 1, by funext a; match a with | ⟨0, _⟩ => rfl | ⟨1, _⟩ => rfl⟩
  unfold k0_pay2
  generalize k0_pay1 (F := Ideal) v s k = o
  pointwise

/-- One gated output entry over the rows before the norm. -/
theorem gate_at (o : FVec Ideal S256x512 .f32) (g : FVec Ideal S256x512 .bf16) (i : Fin 256) (e : Fin 512) :
    k0_pay3 (F := Ideal) o g (ix2 i e)
      = g (ix2 i e) * Ideal.logistic (g (ix2 i e))
        * (o (ix2 i e) * Ideal.rsqrt (Ideal.div (∑ e' : Fin 512, o (ix2 i e') * o (ix2 i e'))
          (Ideal.ofBits .f32 0x44000000#32) + Ideal.ofBits .f32 0x358637BD#32)) := by
  pointwise [k0_pay3]

/-- The state as it is written back. -/
theorem out_at (v : FVec Ideal S256x512 .bf16) (s : FVec Ideal S256x512 .f32) (k : FVec Ideal S256x256 .f32) (d : Fin 256) (e : Fin 512) :
    k0_pay4 (F := Ideal) v s k (ix4 0 0 d e) = k0_pay1 (F := Ideal) v s k (ix2 d e) := by
  unfold k0_pay4
  generalize k0_pay1 (F := Ideal) v s k = o
  pointwise

/-- The state before the first chunk. -/
theorem zero_at (d : Fin 256) (e : Fin 512) : k0_pay5 (F := Ideal) (ix2 d e) = 0 := by
  pointwise [k0_pay5]

end Cert.RetPromptIdeal.Point

end
-- ==== Proof.RetPrompt.Blocks.lean ====
/- The retention kernel of the prompt: the blocks of a grid point as real numbers. -/
module

public import proofs.«01_k».proof.Proof.RetPrompt.Kernel

@[expose] public section

set_option maxRecDepth 16384

noncomputable section

namespace Cert.RetPromptIdeal.Point

open Cert.RetPromptIdeal Cert.RetPromptIdeal.Gen Idealize.ShloMosaic Idealize.ShloMosaic.TcCoe Idealize.SL.Sem
open Idealize.ShloMosaic.Pipeline (Dat)
open Cert.RetPromptMath Cert.DiffAttnMath
open Cert.RetPromptRefIdeal.Point (lam)

variable (m : (ℓ : Loc nD τ sig) → Buf (Elt Ideal) ℓ)

/-- Which block of each array a grid point reads or writes. -/
theorem idx : ∀ t : Fin cfg0.N, win0_0.index t = ![16 * (t.val / 128) + t.val % 16, t.val / 16 % 8]
    ∧ win0_1.index t = ![16 * (t.val / 128) + t.val % 16, 8 + t.val / 16 % 8]
    ∧ win0_2.index t = ![16 * (t.val / 128) + t.val % 16, 8 + t.val / 16 % 8]
    ∧ win0_3.index t = ![16 * (t.val / 128) + t.val % 16, 16 + t.val / 16 % 8]
    ∧ win0_4.index t = ![t.val / 16 % 8, 0, 0] ∧ win0_5.index t = ![t.val / 16 % 8, 0, 0] ∧ win0_6.index t = ![t.val / 16 % 8, 0, 0]
    ∧ win0_7.index t = ![16 * (t.val / 128) + t.val % 16, t.val / 16 % 8]
    ∧ win0_8.index t = ![t.val / 128, t.val / 16 % 8, 0, 0] :=
  (by decide +kernel : ∀ t : Fin grid0.N, _)

/-- The projections the kernel reads. -/
abbrev X (c : Dev nD) : FVec Ideal S16384x12288 .bf16 := m ((c : Thread nD τ).loc main_arg0)

section blocks

variable (c : Dev nD) (b : Fin 4) (h : Fin 8) (n : Fin 16) (ht : 128 * b.val + 16 * h.val + n.val < cfg0.N)

/-- The blocks of the point of batch `b`, head `h` and chunk `n`. -/
theorem idx_at : win0_0.index ⟨128 * b.val + 16 * h.val + n.val, ht⟩ = ![16 * b.val + n.val, h.val]
    ∧ win0_1.index ⟨128 * b.val + 16 * h.val + n.val, ht⟩ = ![16 * b.val + n.val, 8 + h.val]
    ∧ win0_2.index ⟨128 * b.val + 16 * h.val + n.val, ht⟩ = ![16 * b.val + n.val, 8 + h.val]
    ∧ win0_3.index ⟨128 * b.val + 16 * h.val + n.val, ht⟩ = ![16 * b.val + n.val, 16 + h.val]
    ∧ win0_4.index ⟨128 * b.val + 16 * h.val + n.val, ht⟩ = ![h.val, 0, 0]
    ∧ win0_5.index ⟨128 * b.val + 16 * h.val + n.val, ht⟩ = ![h.val, 0, 0]
    ∧ win0_6.index ⟨128 * b.val + 16 * h.val + n.val, ht⟩ = ![h.val, 0, 0]
    ∧ win0_7.index ⟨128 * b.val + 16 * h.val + n.val, ht⟩ = ![16 * b.val + n.val, h.val]
    ∧ win0_8.index ⟨128 * b.val + 16 * h.val + n.val, ht⟩ = ![b.val, h.val, 0, 0] := by
  have i1 := idx ⟨128 * b.val + 16 * h.val + n.val, ht⟩
  have hb : (128 * b.val + 16 * h.val + n.val) / 128 = b.val := by omega
  have hh : (128 * b.val + 16 * h.val + n.val) / 16 % 8 = h.val := by omega
  have hn : (128 * b.val + 16 * h.val + n.val) % 16 = n.val := by omega
  simpa only [hb, hh, hn] using i1

/-- A query entry of the point's block. -/
theorem q_blk (hX : Fin8192 (X m c)) (i d : Fin 256) : (show FVec Ideal S256x256 .bf16 from iblk m c 0 ⟨128 * b.val + 16 * h.val + n.val, ht⟩) (ix2 i d)
    = ((qf (X m c) b.val h.val (256 * n.val + i.val) d : ℝ) : EReal) := by
  have i1 := idx_at b h n ht
  have e := rd_eq hX (⟨b.val * 4096 + (256 * n.val + i.val), by omega⟩ : Fin 16384) (⟨h.val * 256 + d.val, by omega⟩ : Fin 12288) (by show h.val * 256 + d.val < 8192; omega)
  refine Eq.trans ?_ e
  blk_point [iblk, V, i1]

/-- A key entry of the point's block, scaled. -/
theorem k_blk (hX : Fin8192 (X m c)) (i d : Fin 256) : (show FVec Ideal S256x256 .bf16 from iblk m c 1 ⟨128 * b.val + 16 * h.val + n.val, ht⟩) (ix2 i d)
    * Ideal.ofBits .f32 0x3D800000#32 = ((kf (X m c) b.val h.val (256 * n.val + i.val) d : ℝ) : EReal) := by
  have i1 := idx_at b h n ht
  have e := rd_eq hX (⟨b.val * 4096 + (256 * n.val + i.val), by omega⟩ : Fin 16384) (⟨2048 + (h.val * 256 + d.val), by omega⟩ : Fin 12288) (by show 2048 + (h.val * 256 + d.val) < 8192; omega)
  unfold kf
  rw [lit_16th, EReal.coe_mul]
  refine congrArg (· * _) (Eq.trans ?_ e)
  blk_point [iblk, V, i1]

/-- A value entry of the point's block. -/
theorem v_blk (hX : Fin8192 (X m c)) (i : Fin 256) (e : Fin 512) : (show FVec Ideal S256x512 .bf16 from iblk m c 2 ⟨128 * b.val + 16 * h.val + n.val, ht⟩) (ix2 i e)
    = ((vf (X m c) b.val h.val e.val (256 * n.val + i.val) : ℝ) : EReal) := by
  have i1 := idx_at b h n ht
  have e1 := rd_eq hX (⟨b.val * 4096 + (256 * n.val + i.val), by omega⟩ : Fin 16384) (⟨4096 + (h.val * 512 + e.val), by omega⟩ : Fin 12288) (by show 4096 + (h.val * 512 + e.val) < 8192; omega)
  refine Eq.trans ?_ e1
  blk_point [iblk, V, i1]

/-- A gate entry of the point's block. -/
theorem g_blk (i : Fin 256) (e : Fin 512) : (show FVec Ideal S256x512 .bf16 from iblk m c 3 ⟨128 * b.val + 16 * h.val + n.val, ht⟩) (ix2 i e)
    = X m c (ix2 (⟨b.val * 4096 + (256 * n.val + i.val), by omega⟩ : Fin 16384) (⟨8192 + (h.val * 512 + e.val), by omega⟩ : Fin 12288)) := by
  have i1 := idx_at b h n ht
  blk_point [iblk, V, i1]

/-- A decay between two positions. -/
theorem din_blk (i j : Fin 256) : (show FVec Ideal S1x256x256 .f32 from iblk m c 4 ⟨128 * b.val + 16 * h.val + n.val, ht⟩) (ix3 0 i j)
    = ((dc (lam h) i.val j.val : ℝ) : EReal) := by
  have i1 := idx_at b h n ht
  have hx : ((cfg0.win 4).blk ⟨128 * b.val + 16 * h.val + n.val, ht⟩).view.emb (ix3 0 i j) = ix3 h i j := by
    blk_ext [i1]
  exact (congrArg (V m c main_v24) hx).trans (din_at m c h i j)

/-- A decay from the start of the chunk. -/
theorem qd_blk (i : Fin 256) : (show FVec Ideal S1x256x1 .f32 from iblk m c 5 ⟨128 * b.val + 16 * h.val + n.val, ht⟩) (ix3 0 i 0)
    = ((Real.exp (lam h * ((i.val : ℝ) + 1)) : ℝ) : EReal) := by
  have i1 := idx_at b h n ht
  have hx : ((cfg0.win 5).blk ⟨128 * b.val + 16 * h.val + n.val, ht⟩).view.emb (ix3 0 i 0) = ix3 h i (0 : Fin 1) := by
    blk_ext [i1]
  exact (congrArg (V m c main_v33) hx).trans (qd_at m c h i 0)

/-- A decay to the end of the chunk. -/
theorem kd_blk (i : Fin 256) : (show FVec Ideal S1x256x1 .f32 from iblk m c 6 ⟨128 * b.val + 16 * h.val + n.val, ht⟩) (ix3 0 i 0)
    = ((Real.exp (lam h * ((256 : ℕ) - 1 - (i.val : ℝ))) : ℝ) : EReal) := by
  have i1 := idx_at b h n ht
  have hx : ((cfg0.win 6).blk ⟨128 * b.val + 16 * h.val + n.val, ht⟩).view.emb (ix3 0 i 0) = ix3 h i (0 : Fin 1) := by
    blk_ext [i1]
  exact (congrArg (V m c main_v42) hx).trans (kd_at m c h i 0)

end blocks

end Cert.RetPromptIdeal.Point

end
-- ==== Proof.RetPrompt.State.lean ====
/- The retention kernel of the prompt: the state it keeps from point to point, and the rows a point computes. -/
module

public import proofs.«01_k».proof.Proof.RetPrompt.Blocks

@[expose] public section

set_option maxRecDepth 16384

noncomputable section

namespace Cert.RetPromptIdeal.Point

open Cert.RetPromptIdeal Cert.RetPromptIdeal.Gen Idealize.ShloMosaic Idealize.ShloMosaic.TcCoe Idealize.SL.Sem
open Idealize.ShloMosaic.Pipeline (Dat)
open Cert.RetPromptMath Cert.DiffAttnMath
open Cert.RetPromptRefIdeal.Point (lam)

variable (m : (ℓ : Loc nD τ sig) → Buf (Elt Ideal) ℓ)

/-- The state after a point that starts from the state `s`. -/
def next (c : Dev nD) (t : Fin cfg0.N) (s : FVec Ideal S256x512 .f32) : FVec Ideal S256x512 .f32 :=
  k0_pay1 (F := Ideal) (iblk m c 2 t) (k0_pay9 (F := Ideal) s (iblk m c 5 t)) (k0_pay10 (F := Ideal) (iblk m c 1 t) (iblk m c 6 t))

/-- The rows before the norm of a point that starts from the state `s`. -/
def rows (c : Dev nD) (t : Fin cfg0.N) (s : FVec Ideal S256x512 .f32) : FVec Ideal S256x512 .f32 :=
  k0_pay8 (F := Ideal) (iblk m c 0 t) (iblk m c 1 t) (iblk m c 2 t) s (iblk m c 5 t) (iblk m c 4 t)

/-- The state a point starts from: zeros at the first chunk, what the point before left at the others. -/
def start (c : Dev nD) (t : Fin cfg0.N) : FVec Ideal S256x512 .f32 :=
  if t.val % 16 = 0 then k0_pay5 (F := Ideal) else (outsAt0 m c (t.val - 1) (lt_of_le_of_lt (Nat.sub_le _ _) t.isLt)).2.2

/-- What a point leaves in the kept state. -/
theorem kept_eq (c : Dev nD) (t : Fin cfg0.N) : (outsAt0 m c t.val t.isLt).2.2 = next m c t (start m c t) := by
  refine Eq.trans ?_ (keep_at _ _ _)
  unfold start
  by_cases h0 : t.val % 16 = 0
  · rw [if_pos h0, outsAt0_A m c t h0 (by omega)]
    frame_out
  · rw [if_neg h0]
    by_cases h1 : t.val % 16 = 15
    · rw [outsAt0_C m c t h0 h1]
      frame_out
      rw [(Memref.isWhole_whole cc0_scratch0).read_unread]
    · rw [outsAt0_B m c t h0 h1]
      frame_out
      rw [(Memref.isWhole_whole cc0_scratch0).read_unread]

theorem gated_A (c : Dev nD) (t : Fin cfg0.N) (h0 : t.val % 16 = 0) :
    (outsAt0 m c t.val t.isLt).1 = k0_pay3 (F := Ideal) (rows m c t (k0_pay5 (F := Ideal))) (iblk m c 3 t) := by
  unfold rows
  rw [outsAt0_A m c t h0 (by omega)]
  frame_out

theorem gated_B (c : Dev nD) (t : Fin cfg0.N) (h0 : ¬t.val % 16 = 0) (h1 : ¬t.val % 16 = 15) :
    (outsAt0 m c t.val t.isLt).1 = k0_pay3 (F := Ideal) (rows m c t (outsAt0 m c (t.val - 1) (lt_of_le_of_lt (Nat.sub_le _ _) t.isLt)).2.2) (iblk m c 3 t) := by
  unfold rows
  rw [outsAt0_B m c t h0 h1]
  frame_out
  rw [(Memref.isWhole_whole cc0_scratch0).read_unread]

theorem gated_C (c : Dev nD) (t : Fin cfg0.N) (h0 : ¬t.val % 16 = 0) (h1 : t.val % 16 = 15) :
    (outsAt0 m c t.val t.isLt).1 = k0_pay3 (F := Ideal) (rows m c t (outsAt0 m c (t.val - 1) (lt_of_le_of_lt (Nat.sub_le _ _) t.isLt)).2.2) (iblk m c 3 t) := by
  unfold rows
  rw [outsAt0_C m c t h0 h1]
  frame_out
  rw [(Memref.isWhole_whole cc0_scratch0).read_unread]

/-- What a point writes to the gated output. -/
theorem gated_eq (c : Dev nD) (t : Fin cfg0.N) : (outsAt0 m c t.val t.isLt).1 = k0_pay3 (F := Ideal) (rows m c t (start m c t)) (iblk m c 3 t) := by
  unfold start
  by_cases h0 : t.val % 16 = 0
  · rw [if_pos h0]
    exact gated_A m c t h0
  · rw [if_neg h0]
    by_cases h1 : t.val % 16 = 15
    · exact gated_C m c t h0 h1
    · exact gated_B m c t h0 h1

/-- What the last chunk's point writes to the state. -/
theorem state_eq (c : Dev nD) (t : Fin cfg0.N) (h1 : t.val % 16 = 15) (d : Fin 256) (e : Fin 512) :
    (show FVec Ideal S1x1x256x512 .f32 from (outsAt0 m c t.val t.isLt).2.1) (ix4 0 0 d e) = next m c t (start m c t) (ix2 d e) := by
  refine Eq.trans ?_ (out_at _ _ _ d e)
  unfold start
  have h0 : ¬t.val % 16 = 0 := by omega
  rw [if_neg h0, outsAt0_C m c t h0 h1]
  frame_out
  rw [(Memref.isWhole_whole cc0_scratch0).read_unread]

section

variable (c : Dev nD) (hX : Fin8192 (X m c)) (b : Fin 4) (h : Fin 8) (n : Fin 16) (ht : 128 * b.val + 16 * h.val + n.val < cfg0.N)
include hX

/-- From the decayed sums of the positions before it, a chunk's point goes on to those of its own too. -/
theorem next_real (s : FVec Ideal S256x512 .f32) (d : Fin 256) (e : Fin 512)
    (hs : s (ix2 d e) = ((st (lam h) (fun j => kf (X m c) b.val h.val j d) (vf (X m c) b.val h.val e.val) (256 * n.val) : ℝ) : EReal)) :
    next m c ⟨128 * b.val + 16 * h.val + n.val, ht⟩ s (ix2 d e)
      = ((st (lam h) (fun j => kf (X m c) b.val h.val j d) (vf (X m c) b.val h.val e.val) (256 * n.val + 256) : ℝ) : EReal) := by
  unfold next
  rw [s_at, hs, st_chunk, EReal.coe_add, EReal.coe_mul, ← sum_coe]
  refine congrArg₂ (· + ·) (congrArg₂ (· * ·) rfl ((qd_blk m c b h n ht 255).trans ?_)) (Finset.sum_congr rfl fun j _ => ?_)
  · exact congrArg (fun x : ℝ => ((Real.exp (lam h * x) : ℝ) : EReal)) (by norm_num)
  · rw [EReal.coe_mul, EReal.coe_mul]
    exact congrArg₂ (· * ·) (congrArg₂ (· * ·) (k_blk m c b h n ht hX j d) (kd_blk m c b h n ht j)) (v_blk m c b h n ht hX j e)

/-- From the decayed sums of the positions before it, a chunk's point computes its rows. -/
theorem rows_real (s : FVec Ideal S256x512 .f32) (i : Fin 256) (e : Fin 512)
    (hs : ∀ d : Fin 256, s (ix2 d e) = ((st (lam h) (fun j => kf (X m c) b.val h.val j d) (vf (X m c) b.val h.val e.val) (256 * n.val) : ℝ) : EReal)) :
    rows m c ⟨128 * b.val + 16 * h.val + n.val, ht⟩ s (ix2 i e)
      = ((ot (lam h) (qf (X m c) b.val h.val) (kf (X m c) b.val h.val) (vf (X m c) b.val h.val e.val) (256 * n.val + i.val) : ℝ) : EReal) := by
  unfold rows
  rw [o_at, ot_chunk _ _ _ _ _ 256 i.val i.isLt, EReal.coe_add, ← sum_coe, ← sum_coe]
  refine congrArg₂ (· + ·) (Finset.sum_congr rfl fun j _ => ?_) (Finset.sum_congr rfl fun d _ => ?_)
  · rw [EReal.coe_mul, EReal.coe_mul, ← sum_coe]
    refine (mul_comm _ _).trans (congrArg₂ (· * ·) (v_blk m c b h n ht hX j e) (congrArg₂ (· * ·) (Finset.sum_congr rfl fun d _ => ?_) (din_blk m c b h n ht i j)))
    rw [EReal.coe_mul]
    exact congrArg₂ (· * ·) (q_blk m c b h n ht hX i d) (k_blk m c b h n ht hX j d)
  · rw [EReal.coe_mul, EReal.coe_mul]
    exact (mul_comm _ _).trans (congrArg₂ (· * ·) (hs d) (congrArg₂ (· * ·) (q_blk m c b h n ht hX i d) (qd_blk m c b h n ht i)))

end

/-- Every point starts from the decayed sums of the positions before its chunk. -/
theorem start_real (c : Dev nD) (hX : Fin8192 (X m c)) (b : Fin 4) (h : Fin 8) : ∀ (n : ℕ) (hn : n < 16) (ht : 128 * b.val + 16 * h.val + n < cfg0.N) (d : Fin 256) (e : Fin 512),
    start m c ⟨128 * b.val + 16 * h.val + n, ht⟩ (ix2 d e)
      = ((st (lam h) (fun j => kf (X m c) b.val h.val j d) (vf (X m c) b.val h.val e.val) (256 * n) : ℝ) : EReal)
  | 0, _, ht, d, e => by
    unfold start
    rw [if_pos (show (128 * b.val + 16 * h.val + 0) % 16 = 0 by omega), zero_at, Nat.mul_zero, st_zero]
    exact EReal.coe_zero.symm
  | n + 1, hn, ht, d, e => by
    have hp : 128 * b.val + 16 * h.val + n < cfg0.N := lt_of_le_of_lt (by omega) ht
    have ih := start_real c hX b h n (by omega) hp d e
    unfold start
    rw [if_neg (show ¬(128 * b.val + 16 * h.val + (n + 1)) % 16 = 0 by omega)]
    exact (congrFun (kept_eq m c ⟨128 * b.val + 16 * h.val + n, hp⟩) (ix2 d e)).trans (next_real m c hX b h ⟨n, by omega⟩ hp _ d e ih)

end Cert.RetPromptIdeal.Point

end
-- ==== Proof.RetPrompt.RefTrip.lean ====
/- One trip of the reference's loop, read at one index. -/
module

public import proofs.«01_k».proof.Proof.RetPrompt.RefTable
public import proofs.«01_k».proof.Proof.RetPrompt.Real
public import Idealize.ShloMosaic.Lib.DynamicIndex
public import Idealize.ShloMosaic.Lib.WordCmp

@[expose] public section

set_option maxRecDepth 16384

noncomputable section

namespace Cert.RetPromptRefIdeal.Point

open Cert.RetPromptRefIdeal Cert.RetPromptRefIdeal.Gen Cert.RetPromptRefIdeal.Step Idealize.ShloMosaic Idealize.ShloMosaic.TcCoe Idealize.SL.Sem
open Cert.RetPromptMath Cert.DiffAttnMath

/-- A query entry of a chunk. -/
theorem q_at (X : FVec Ideal S16384x12288 .bf16) (n : Fin 64) (b : Fin 4) (i : Fin 64) (h : Fin 8) (d : Fin 256) :
    (A_main_v57 (F := Ideal) X : FVec Ideal S64x4x64x8x256 .f32) (ix5 n b i h d)
      = X (ix2 (⟨b.val * 4096 + (n.val * 64 + i.val), by omega⟩ : Fin 16384) (⟨h.val * 256 + d.val, by omega⟩ : Fin 12288)) := by
  pointwise [A_main_v57, A_main_v56, A_main_v6, A_main_v2, A_main_v1, A_main_v0]

/-- A scaled key entry of a chunk. -/
theorem k_at (X : FVec Ideal S16384x12288 .bf16) (n : Fin 64) (b : Fin 4) (i : Fin 64) (h : Fin 8) (d : Fin 256) :
    (A_main_v59 (F := Ideal) X : FVec Ideal S64x4x64x8x256 .f32) (ix5 n b i h d)
      = X (ix2 (⟨b.val * 4096 + (n.val * 64 + i.val), by omega⟩ : Fin 16384) (⟨2048 + (h.val * 256 + d.val), by omega⟩ : Fin 12288))
        * Ideal.ofBits .f32 0x3D800000#32 := by
  pointwise [A_main_v59, A_main_v58, A_main_v9, K_main_v8, K_main_cst, A_main_v7, A_main_v3, A_main_v1, A_main_v0]

/-- A value entry of a chunk. -/
theorem v_at (X : FVec Ideal S16384x12288 .bf16) (n : Fin 64) (b : Fin 4) (i : Fin 64) (h : Fin 8) (e : Fin 512) :
    (A_main_v61 (F := Ideal) X : FVec Ideal S64x4x64x8x512 .f32) (ix5 n b i h e)
      = X (ix2 (⟨b.val * 4096 + (n.val * 64 + i.val), by omega⟩ : Fin 16384) (⟨4096 + (h.val * 512 + e.val), by omega⟩ : Fin 12288)) := by
  pointwise [A_main_v61, A_main_v60, A_main_v10, A_main_v4, A_main_v1, A_main_v0]

/-- The chunk of queries that trip `j` reads. -/
theorem b5_at (j : Fin 64) (s : State Ideal) (b : Fin 4) (i : Fin 64) (h : Fin 8) (d : Fin 256) :
    (b5 j.val s : FVec Ideal S4x64x8x256 .f32) (ix4 b i h d) = (s.main_v63_0 : FVec Ideal S64x4x64x8x256 .f32) (ix5 j b i h d) := by
  have hs : S64x4x64x8x256.Slices ![j.val, 0, 0, 0, 0] S1x4x64x8x256 :=
    ⟨rfl, fun a => by have := j.isLt; match a with | ⟨0, _⟩ => (show j.val + 1 ≤ 64; omega) | ⟨1, _⟩ => (show 0 + 4 ≤ 4; omega) | ⟨2, _⟩ => (show 0 + 64 ≤ 64; omega) | ⟨3, _⟩ => (show 0 + 8 ≤ 8; omega) | ⟨4, _⟩ => (show 0 + 256 ≤ 256; omega)⟩
  have e : b4 j.val s = extractStridedSlice S1x4x64x8x256 ![j.val, 0, 0, 0, 0] s.main_v63_0 hs := by
    unfold b4
    exact Host.dynamicSlice_eq_extractStridedSlice _ _ _ _ _ hs fun a => by
      match a with
      | ⟨0, _⟩ => exact toInt_ofNat_of_lt (by have := j.isLt; omega)
      | ⟨1, _⟩ => rfl
      | ⟨2, _⟩ => rfl
      | ⟨3, _⟩ => rfl
      | ⟨4, _⟩ => rfl
  unfold b5
  rw [e]
  generalize s.main_v63_0 = q
  pointwise

/-- The chunk of keys that trip `j` reads. -/
theorem b11_at (j : Fin 64) (s : State Ideal) (b : Fin 4) (i : Fin 64) (h : Fin 8) (d : Fin 256) :
    (b11 j.val s : FVec Ideal S4x64x8x256 .f32) (ix4 b i h d) = (s.main_v63_1 : FVec Ideal S64x4x64x8x256 .f32) (ix5 j b i h d) := by
  have hs : S64x4x64x8x256.Slices ![j.val, 0, 0, 0, 0] S1x4x64x8x256 :=
    ⟨rfl, fun a => by have := j.isLt; match a with | ⟨0, _⟩ => (show j.val + 1 ≤ 64; omega) | ⟨1, _⟩ => (show 0 + 4 ≤ 4; omega) | ⟨2, _⟩ => (show 0 + 64 ≤ 64; omega) | ⟨3, _⟩ => (show 0 + 8 ≤ 8; omega) | ⟨4, _⟩ => (show 0 + 256 ≤ 256; omega)⟩
  have e : b10 j.val s = extractStridedSlice S1x4x64x8x256 ![j.val, 0, 0, 0, 0] s.main_v63_1 hs := by
    unfold b10
    exact Host.dynamicSlice_eq_extractStridedSlice _ _ _ _ _ hs fun a => by
      match a with
      | ⟨0, _⟩ => exact toInt_ofNat_of_lt (by have := j.isLt; omega)
      | ⟨1, _⟩ => rfl
      | ⟨2, _⟩ => rfl
      | ⟨3, _⟩ => rfl
      | ⟨4, _⟩ => rfl
  unfold b11
  rw [e]
  generalize s.main_v63_1 = q
  pointwise

/-- The chunk of values that trip `j` reads. -/
theorem b17_at (j : Fin 64) (s : State Ideal) (b : Fin 4) (i : Fin 64) (h : Fin 8) (d : Fin 512) :
    (b17 j.val s : FVec Ideal S4x64x8x512 .f32) (ix4 b i h d) = (s.main_v63_2 : FVec Ideal S64x4x64x8x512 .f32) (ix5 j b i h d) := by
  have hs : S64x4x64x8x512.Slices ![j.val, 0, 0, 0, 0] S1x4x64x8x512 :=
    ⟨rfl, fun a => by have := j.isLt; match a with | ⟨0, _⟩ => (show j.val + 1 ≤ 64; omega) | ⟨1, _⟩ => (show 0 + 4 ≤ 4; omega) | ⟨2, _⟩ => (show 0 + 64 ≤ 64; omega) | ⟨3, _⟩ => (show 0 + 8 ≤ 8; omega) | ⟨4, _⟩ => (show 0 + 512 ≤ 512; omega)⟩
  have e : b16 j.val s = extractStridedSlice S1x4x64x8x512 ![j.val, 0, 0, 0, 0] s.main_v63_2 hs := by
    unfold b16
    exact Host.dynamicSlice_eq_extractStridedSlice _ _ _ _ _ hs fun a => by
      match a with
      | ⟨0, _⟩ => exact toInt_ofNat_of_lt (by have := j.isLt; omega)
      | ⟨1, _⟩ => rfl
      | ⟨2, _⟩ => rfl
      | ⟨3, _⟩ => rfl
      | ⟨4, _⟩ => rfl
  unfold b17
  rw [e]
  generalize s.main_v63_2 = q
  pointwise

/-- An output entry of trip `j`. -/
theorem b29_at (j : ℕ) (s : State Ideal) (b : Fin 4) (i : Fin 64) (h : Fin 8) (e : Fin 512) :
    (b29 j s : FVec Ideal S4x64x8x512 .f32) (ix4 b i h e)
      = (∑ r : Fin 64, (b17 j s : FVec Ideal S4x64x8x512 .f32) (ix4 b r h e)
          * ((∑ d : Fin 256, (b5 j s : FVec Ideal S4x64x8x256 .f32) (ix4 b i h d) * (b11 j s : FVec Ideal S4x64x8x256 .f32) (ix4 b r h d))
            * (K_main_v36 (F := Ideal) : FVec Ideal S8x64x64 .f32) (ix3 h i r)))
        + ∑ d : Fin 256, (s.main_v63_8 : FVec Ideal S4x8x256x512 .f32) (ix4 b h d e)
          * ((b5 j s : FVec Ideal S4x64x8x256 .f32) (ix4 b i h d) * (K_main_v44 (F := Ideal) : FVec Ideal S64x8 .f32) (ix2 i h)) := by
  pointwise [b29, b28, b27, b26, b25, b24, b23, b22, b21, b20, b19, b18]

/-- A state entry after trip `j`. -/
theorem b37_at (j : ℕ) (s : State Ideal) (b : Fin 4) (h : Fin 8) (d : Fin 256) (e : Fin 512) :
    (b37 j s : FVec Ideal S4x8x256x512 .f32) (ix4 b h d e)
      = (s.main_v63_8 : FVec Ideal S4x8x256x512 .f32) (ix4 b h d e) * (K_main_v55 (F := Ideal) : FVec Ideal S8 .f32) (ix1 h)
        + ∑ r : Fin 64, (b11 j s : FVec Ideal S4x64x8x256 .f32) (ix4 b r h d) * (K_main_v52 (F := Ideal) : FVec Ideal S64x8 .f32) (ix2 r h)
          * (b17 j s : FVec Ideal S4x64x8x512 .f32) (ix4 b r h e) := by
  pointwise [b37, b36, b35, b34, b33, b32, b31, b30]

/-- The outputs after trip `j`: its own chunk written, the others kept. -/
theorem b43_at (j : Fin 64) (s : State Ideal) (n : Fin 64) (b : Fin 4) (i : Fin 64) (h : Fin 8) (e : Fin 512) :
    (b43 j.val s : FVec Ideal S64x4x64x8x512 .f32) (ix5 n b i h e)
      = if n.val = j.val then (b29 j.val s : FVec Ideal S4x64x8x512 .f32) (ix4 b i h e)
        else (s.main_v63_9 : FVec Ideal S64x4x64x8x512 .f32) (ix5 n b i h e) := by
  have hs : S64x4x64x8x512.Slices ![j.val, 0, 0, 0, 0] S1x4x64x8x512 :=
    ⟨rfl, fun a => by have := j.isLt; match a with | ⟨0, _⟩ => (show j.val + 1 ≤ 64; omega) | ⟨1, _⟩ => (show 0 + 4 ≤ 4; omega) | ⟨2, _⟩ => (show 0 + 64 ≤ 64; omega) | ⟨3, _⟩ => (show 0 + 8 ≤ 8; omega) | ⟨4, _⟩ => (show 0 + 512 ≤ 512; omega)⟩
  have e1 : b43 j.val s = updateSlice (s.main_v63_9 : FVec Ideal S64x4x64x8x512 .f32) (b38 j.val s : FVec Ideal S1x4x64x8x512 .f32) ![j.val, 0, 0, 0, 0] hs := by
    unfold b43
    exact WordCmp.dynamicUpdateSlice_eq_update _ _ _ _ _ hs fun a => by
      match a with
      | ⟨0, _⟩ => exact toInt_ofNat_of_lt (by have := j.isLt; omega)
      | ⟨1, _⟩ => rfl
      | ⟨2, _⟩ => rfl
      | ⟨3, _⟩ => rfl
      | ⟨4, _⟩ => rfl
  rw [e1, updateSlice_apply]
  by_cases hn : n.val = j.val
  · rw [if_pos hn, dif_pos (fun a => by have := i.isLt; have := b.isLt; have := h.isLt; have := e.isLt; match a with | ⟨0, _⟩ => (show j.val ≤ n.val ∧ n.val < j.val + 1; omega) | ⟨1, _⟩ => (show 0 ≤ b.val ∧ b.val < 0 + 4; omega) | ⟨2, _⟩ => (show 0 ≤ i.val ∧ i.val < 0 + 64; omega) | ⟨3, _⟩ => (show 0 ≤ h.val ∧ h.val < 0 + 8; omega) | ⟨4, _⟩ => (show 0 ≤ e.val ∧ e.val < 0 + 512; omega))]
    unfold b38
    generalize b29 j.val s = o
    pointwise
  · rw [if_neg hn, dif_neg (fun hh => hn (by have h0 := hh ⟨0, by decide⟩; have h1 : j.val ≤ n.val ∧ n.val < j.val + 1 := h0; omega))]

end Cert.RetPromptRefIdeal.Point

end
-- ==== Proof.RetPrompt.RefState.lean ====
/- The reference's loop holds the decayed sums, trip by trip. -/
module

public import proofs.«01_k».proof.Proof.RetPrompt.RefTrip

@[expose] public section

set_option maxRecDepth 16384

noncomputable section

namespace Cert.RetPromptRefIdeal.Point

open Cert.RetPromptRefIdeal Cert.RetPromptRefIdeal.Gen Cert.RetPromptRefIdeal.Step Idealize.ShloMosaic Idealize.ShloMosaic.TcCoe Idealize.SL.Sem
open Cert.RetPromptMath Cert.DiffAttnMath

/-- The states of the loop, from its start. -/
def iter (X : FVec Ideal S16384x12288 .bf16) : ℕ → State Ideal
  | 0 => init X
  | n + 1 => step n (iter X n)

theorem iter_q (X : FVec Ideal S16384x12288 .bf16) : ∀ n, (iter X n).main_v63_0 = A_main_v57 X
  | 0 => rfl
  | n + 1 => iter_q X n

theorem iter_k (X : FVec Ideal S16384x12288 .bf16) : ∀ n, (iter X n).main_v63_1 = A_main_v59 X
  | 0 => rfl
  | n + 1 => iter_k X n

theorem iter_v (X : FVec Ideal S16384x12288 .bf16) : ∀ n, (iter X n).main_v63_2 = A_main_v61 X
  | 0 => rfl
  | n + 1 => iter_v X n

section

variable (X : FVec Ideal S16384x12288 .bf16) (hX : Fin8192 X)
include hX

theorem q_real (n : Fin 64) (b : Fin 4) (i : Fin 64) (h : Fin 8) (d : Fin 256) :
    (b5 n.val (iter X n.val) : FVec Ideal S4x64x8x256 .f32) (ix4 b i h d) = ((qf X b.val h.val (64 * n.val + i.val) d : ℝ) : EReal) := by
  rw [b5_at, iter_q, q_at, rd_eq hX _ _ (by show h.val * 256 + d.val < 8192; omega)]
  unfold qf
  rw [show b.val * 4096 + (64 * n.val + i.val) = b.val * 4096 + (n.val * 64 + i.val) from by omega]

theorem k_real (n : Fin 64) (b : Fin 4) (i : Fin 64) (h : Fin 8) (d : Fin 256) :
    (b11 n.val (iter X n.val) : FVec Ideal S4x64x8x256 .f32) (ix4 b i h d) = ((kf X b.val h.val (64 * n.val + i.val) d : ℝ) : EReal) := by
  rw [b11_at, iter_k, k_at, rd_eq hX _ _ (by show 2048 + (h.val * 256 + d.val) < 8192; omega), lit_16th, ← EReal.coe_mul]
  unfold kf
  rw [show b.val * 4096 + (64 * n.val + i.val) = b.val * 4096 + (n.val * 64 + i.val) from by omega]

theorem v_real (n : Fin 64) (b : Fin 4) (i : Fin 64) (h : Fin 8) (e : Fin 512) :
    (b17 n.val (iter X n.val) : FVec Ideal S4x64x8x512 .f32) (ix4 b i h e) = ((vf X b.val h.val e.val (64 * n.val + i.val) : ℝ) : EReal) := by
  rw [b17_at, iter_v, v_at, rd_eq hX _ _ (by show 4096 + (h.val * 512 + e.val) < 8192; omega)]
  unfold vf
  rw [show b.val * 4096 + (64 * n.val + i.val) = b.val * 4096 + (n.val * 64 + i.val) from by omega]

/-- Before trip `n` the state holds the decayed sums of the first `64 n` positions. -/
theorem state_real : ∀ n : ℕ, n ≤ 64 → ∀ (b : Fin 4) (h : Fin 8) (d : Fin 256) (e : Fin 512),
    ((iter X n).main_v63_8 : FVec Ideal S4x8x256x512 .f32) (ix4 b h d e)
      = ((st (lam h) (fun j => kf X b.val h.val j d) (vf X b.val h.val e.val) (64 * n) : ℝ) : EReal)
  | 0, _, b, h, d, e => by
    show (K_main_v11 (F := Ideal) : FVec Ideal S4x8x256x512 .f32) (ix4 b h d e) = _
    rw [Nat.mul_zero, st_zero]
    pointwise [K_main_v11, K_main_cst_0]
    exact EReal.coe_zero.symm
  | n + 1, hn, b, h, d, e => by
    have ih := state_real n (by omega) b h d e
    show (b37 n (iter X n) : FVec Ideal S4x8x256x512 .f32) (ix4 b h d e) = _
    rw [b37_at, ih, cd_at, show 64 * (n + 1) = 64 * n + 64 from by omega, st_chunk, EReal.coe_add, EReal.coe_mul, ← sum_coe]
    refine congrArg₂ (· + ·) rfl (Finset.sum_congr rfl fun r _ => ?_)
    rw [k_real X hX ⟨n, by omega⟩, v_real X hX ⟨n, by omega⟩, kd_at, ← EReal.coe_mul, ← EReal.coe_mul]

/-- An output entry of trip `n` is the decayed sum at its position. -/
theorem out_real (n : Fin 64) (b : Fin 4) (i : Fin 64) (h : Fin 8) (e : Fin 512) :
    (b29 n.val (iter X n.val) : FVec Ideal S4x64x8x512 .f32) (ix4 b i h e)
      = ((ot (lam h) (qf X b.val h.val) (kf X b.val h.val) (vf X b.val h.val e.val) (64 * n.val + i.val) : ℝ) : EReal) := by
  rw [b29_at, ot_chunk _ _ _ _ _ 64 i.val i.isLt, EReal.coe_add, ← sum_coe, ← sum_coe]
  refine congrArg₂ (· + ·) (Finset.sum_congr rfl fun r _ => ?_) (Finset.sum_congr rfl fun d _ => ?_)
  · rw [v_real X hX, din_at, EReal.coe_mul, EReal.coe_mul, ← sum_coe]
    refine congrArg₂ (· * ·) rfl (congrArg₂ (· * ·) (Finset.sum_congr rfl fun d _ => ?_) rfl)
    rw [q_real X hX, k_real X hX, ← EReal.coe_mul]
  · rw [state_real X hX n.val (by omega), q_real X hX, qd_at, ← EReal.coe_mul, ← EReal.coe_mul]

/-- Before trip `m` the chunks below `m` of the outputs are written. -/
theorem outs_real : ∀ m : ℕ, m ≤ 64 → ∀ n : Fin 64, n.val < m → ∀ (b : Fin 4) (i : Fin 64) (h : Fin 8) (e : Fin 512),
    ((iter X m).main_v63_9 : FVec Ideal S64x4x64x8x512 .f32) (ix5 n b i h e)
      = ((ot (lam h) (qf X b.val h.val) (kf X b.val h.val) (vf X b.val h.val e.val) (64 * n.val + i.val) : ℝ) : EReal)
  | 0, _, n, hn, _, _, _, _ => absurd hn (Nat.not_lt_zero _)
  | m + 1, hm, n, hn, b, i, h, e => by
    show (b43 m (iter X m) : FVec Ideal S64x4x64x8x512 .f32) (ix5 n b i h e) = _
    rw [b43_at ⟨m, by omega⟩]
    by_cases hc : n.val = m
    · subst hc
      rw [if_pos rfl]
      exact out_real X hX n b i h e
    · rw [if_neg hc]
      exact outs_real m (by omega) n (by omega) b i h e

end

/-- A gated output entry over the rows the loop leaves. -/
theorem gated_at (s : State Ideal) (X : FVec Ideal S16384x12288 .bf16) (n : Fin 64) (b : Fin 4) (i : Fin 64) (h : Fin 8) (e : Fin 512) :
    (R_main_v83 s X : FVec Ideal S16384x4096 .bf16) (ix2 (⟨b.val * 4096 + (n.val * 64 + i.val), by omega⟩ : Fin 16384) (⟨h.val * 512 + e.val, by omega⟩ : Fin 4096))
      = X (ix2 (⟨b.val * 4096 + (n.val * 64 + i.val), by omega⟩ : Fin 16384) (⟨8192 + (h.val * 512 + e.val), by omega⟩ : Fin 12288))
        * Ideal.logistic (X (ix2 (⟨b.val * 4096 + (n.val * 64 + i.val), by omega⟩ : Fin 16384) (⟨8192 + (h.val * 512 + e.val), by omega⟩ : Fin 12288)))
        * ((s.main_v63_9 : FVec Ideal S64x4x64x8x512 .f32) (ix5 n b i h e)
          * Ideal.rsqrt (Ideal.div (∑ e' : Fin 512, (s.main_v63_9 : FVec Ideal S64x4x64x8x512 .f32) (ix5 n b i h e') * (s.main_v63_9 : FVec Ideal S64x4x64x8x512 .f32) (ix5 n b i h e'))
            (Ideal.ofBits .f32 0x44000000#32) + Ideal.ofBits .f32 0x358637BD#32)) := by
  unfold R_main_v83
  generalize s.main_v63_9 = o
  have hr : (b.val * 4096 + (n.val * 64 + i.val)) % 4096 = n.val * 64 + i.val := by omega
  pointwise
  simp only [hr]
  rfl

end Cert.RetPromptRefIdeal.Point

end
-- ==== Proof.RetPrompt.Value.lean ====
/- The retention kernel of the prompt leaves what the reference's loop leaves, where the projections are finite. -/
module

public import proofs.«01_k».proof.Proof.RetPrompt.State
public import proofs.«01_k».proof.Proof.RetPrompt.RefState

@[expose] public section

set_option maxRecDepth 16384

noncomputable section

namespace Cert.RetPromptIdeal.Point

open Cert.RetPromptIdeal Cert.RetPromptIdeal.Gen Idealize.ShloMosaic Idealize.ShloMosaic.TcCoe Idealize.SL.Sem
open Idealize.ShloMosaic.Pipeline (Dat)
open Cert.RetPromptMath Cert.DiffAttnMath
open Cert.RetPromptRefIdeal.Point (lam iter outs_real state_real gated_at)

variable (m : (ℓ : Loc nD τ sig) → Buf (Elt Ideal) ℓ)

/-- The gated output of the reference over the kernel's own argument. -/
abbrev ref (c : Dev nD) : FVec Ideal S16384x4096 .bf16 := Cert.RetPromptRefIdeal.Step.R_main_v83 (iter (X m c) 64) (X m c)

/-- The state of the reference over the kernel's own argument. -/
abbrev refState (c : Dev nD) : FVec Ideal S4x8x256x512 .f32 := (iter (X m c) 64).main_v63_8

/-- A gated entry of the reference at a position counted in the kernel's chunks. -/
theorem ref_at (c : Dev nD) (hX : Fin8192 (X m c)) (b : Fin 4) (h : Fin 8) (n : Fin 16) (i : Fin 256) (e : Fin 512) :
    ref m c (ix2 (⟨b.val * 4096 + (256 * n.val + i.val), by omega⟩ : Fin 16384) (⟨h.val * 512 + e.val, by omega⟩ : Fin 4096))
      = X m c (ix2 (⟨b.val * 4096 + (256 * n.val + i.val), by omega⟩ : Fin 16384) (⟨8192 + (h.val * 512 + e.val), by omega⟩ : Fin 12288))
        * Ideal.logistic (X m c (ix2 (⟨b.val * 4096 + (256 * n.val + i.val), by omega⟩ : Fin 16384) (⟨8192 + (h.val * 512 + e.val), by omega⟩ : Fin 12288)))
        * (((ot (lam h) (qf (X m c) b.val h.val) (kf (X m c) b.val h.val) (vf (X m c) b.val h.val e.val) (256 * n.val + i.val) : ℝ) : EReal)
          * Ideal.rsqrt (Ideal.div (∑ e' : Fin 512, ((ot (lam h) (qf (X m c) b.val h.val) (kf (X m c) b.val h.val) (vf (X m c) b.val h.val e'.val) (256 * n.val + i.val) : ℝ) : EReal)
              * ((ot (lam h) (qf (X m c) b.val h.val) (kf (X m c) b.val h.val) (vf (X m c) b.val h.val e'.val) (256 * n.val + i.val) : ℝ) : EReal))
            (Ideal.ofBits .f32 0x44000000#32) + Ideal.ofBits .f32 0x358637BD#32)) := by
  obtain ⟨w, j, hw⟩ : ∃ (w : Fin 64) (j : Fin 64), 256 * n.val + i.val = w.val * 64 + j.val :=
    ⟨⟨(256 * n.val + i.val) / 64, by omega⟩, ⟨(256 * n.val + i.val) % 64, by omega⟩, by show _ = (256 * n.val + i.val) / 64 * 64 + (256 * n.val + i.val) % 64; omega⟩
  have hr : (⟨b.val * 4096 + (256 * n.val + i.val), by omega⟩ : Fin 16384) = ⟨b.val * 4096 + (w.val * 64 + j.val), by omega⟩ := Fin.ext (by show b.val * 4096 + _ = b.val * 4096 + _; omega)
  have hp : 256 * n.val + i.val = 64 * w.val + j.val := by omega
  rw [hr, hp]
  refine (gated_at (iter (X m c) 64) (X m c) w b j h e).trans ?_
  simp only [outs_real (X m c) hX 64 le_rfl w w.isLt]

/-- The gated output the kernel leaves is the reference's. -/
theorem final (c : Dev nD) (hX : Fin8192 (X m c)) : (dats m 0 c).arrAt 7 cfg0.N = ref m c := by
  refine (dats m 0 c).arrAt_eq_of_covers 7 _ (by decide +kernel) fun t hf y => ?_
  blk_simp
  rw [after0_7]
  have hN : t.val < 512 := lt_of_lt_of_eq t.isLt N_0
  obtain ⟨b, h, n, ht⟩ : ∃ (b : Fin 4) (h : Fin 8) (n : Fin 16), t.val = 128 * b.val + 16 * h.val + n.val :=
    ⟨⟨t.val / 128, by omega⟩, ⟨t.val / 16 % 8, by omega⟩, ⟨t.val % 16, by omega⟩, by show t.val = 128 * (t.val / 128) + 16 * (t.val / 16 % 8) + t.val % 16; omega⟩
  obtain ⟨tv, htv⟩ := t
  obtain rfl : tv = 128 * b.val + 16 * h.val + n.val := ht
  have i1 := idx_at b h n htv
  obtain ⟨i, e, rfl⟩ : ∃ (i : Fin 256) (e : Fin 512), y = ix2 i e := ⟨y 0, y 1, by funext a; match a with | ⟨0, _⟩ => rfl | ⟨1, _⟩ => rfl⟩
  have hi : ((cfg0.win 7).blk ⟨128 * b.val + 16 * h.val + n.val, htv⟩).view.emb (ix2 i e)
      = ix2 (⟨b.val * 4096 + (256 * n.val + i.val), by omega⟩ : Fin 16384) (⟨h.val * 512 + e.val, by omega⟩ : Fin 4096) := by
    blk_ext [i1]
  have hrow : ∀ e' : Fin 512, rows m c ⟨128 * b.val + 16 * h.val + n.val, htv⟩ (start m c ⟨128 * b.val + 16 * h.val + n.val, htv⟩) (ix2 i e')
      = ((ot (lam h) (qf (X m c) b.val h.val) (kf (X m c) b.val h.val) (vf (X m c) b.val h.val e'.val) (256 * n.val + i.val) : ℝ) : EReal) :=
    fun e' => rows_real m c hX b h n htv _ i e' fun d => start_real m c hX b h n.val n.isLt htv d e'
  rw [hi, ref_at m c hX, gated_eq, gate_at]
  simp only [hrow]
  exact congrArg (· * _) (congrArg₂ (· * ·) (g_blk m c b h n htv i e) (congrArg Ideal.logistic (g_blk m c b h n htv i e)))

/-- The state is written back only at the last chunk's point. -/
theorem flush_last : ∀ t : Fin cfg0.N, (cfg0.win 8).flush t = true → t.val % 16 = 15 :=
  (by decide +kernel : ∀ t : Fin grid0.N, _)

/-- The state the kernel leaves is the reference's. -/
theorem finalState (c : Dev nD) (hX : Fin8192 (X m c)) : (dats m 0 c).arrAt 8 cfg0.N = refState m c := by
  refine (dats m 0 c).arrAt_eq_of_covers 8 _ (by decide +kernel) fun t hf y => ?_
  have h1 := flush_last t hf
  blk_simp
  rw [after0_8]
  have hN : t.val < 512 := lt_of_lt_of_eq t.isLt N_0
  obtain ⟨b, h, ht⟩ : ∃ (b : Fin 4) (h : Fin 8), t.val = 128 * b.val + 16 * h.val + (15 : Fin 16).val :=
    ⟨⟨t.val / 128, by omega⟩, ⟨t.val / 16 % 8, by omega⟩, by show t.val = 128 * (t.val / 128) + 16 * (t.val / 16 % 8) + 15; omega⟩
  obtain ⟨tv, htv⟩ := t
  obtain rfl : tv = 128 * b.val + 16 * h.val + (15 : Fin 16).val := ht
  have i1 := idx_at b h 15 htv
  obtain ⟨z, w, d, e, rfl⟩ : ∃ (z w : Fin 1) (d : Fin 256) (e : Fin 512), y = ix4 z w d e :=
    ⟨y 0, y 1, y 2, y 3, by funext a; match a with | ⟨0, _⟩ => rfl | ⟨1, _⟩ => rfl | ⟨2, _⟩ => rfl | ⟨3, _⟩ => rfl⟩
  obtain rfl : z = 0 := Subsingleton.elim _ _
  obtain rfl : w = 0 := Subsingleton.elim _ _
  have hi : ((cfg0.win 8).blk ⟨128 * b.val + 16 * h.val + (15 : Fin 16).val, htv⟩).view.emb (ix4 0 0 d e) = ix4 b h d e := by
    blk_ext [i1]
  rw [hi]
  refine (state_eq m c ⟨128 * b.val + 16 * h.val + (15 : Fin 16).val, htv⟩ h1 d e).trans ?_
  refine (next_real m c hX b h 15 htv _ d e (start_real m c hX b h 15 (by omega) htv d e)).trans ?_
  exact (state_real (X m c) hX 64 le_rfl b h d e).symm

end Cert.RetPromptIdeal.Point

end
-- ==== Proof.DiffAttn.Pre.lean ====
/- What the precondition gives: every query, key, value and lambda parameter is a real number. -/
module

public import proofs.«01_k».proof.Pre_finite
public import proofs.«01_k».proof.Proof.DiffAttn.Math
public import Idealize.ShloMosaic.Lib.ReduceAll
public import Idealize.ShloMosaic.Lib.Pointwise

@[expose] public section

set_option maxRecDepth 16384

noncomputable section

namespace Cert.DiffAttnMath

open Idealize.ShloMosaic

theorem and_one {x y : BitVec 1} (h : IntOp.andi x y = 1#1) : x = 1#1 ∧ y = 1#1 := by
  revert x y
  decide

theorem ofBits_inf : Ideal.ofBits .f32 0x7F800000#32 = ⊤ := by
  simp [Ideal.ofBits, Ideal.ieee]

/-- A number whose absolute value lies below infinity is a real. -/
theorem real_of_abs (x : EReal) (h : Ideal.cmp .olt (max x (-x)) (Ideal.ofBits .f32 0x7F800000#32) = 1#1) : ∃ r : ℝ, x = r := by
  have h' : max x (-x) < ⊤ := ofBits_inf ▸ (Ideal.cmp_olt_eq_one _ _).1 h
  refine exists_real (fun e => ?_) fun e => ?_
  · subst e; simp at h'
  · subst e; simp at h'

variable [Cert.Pre_finite.Facts]

instance : Subsingleton Cert.Pre_finite.S_.Idx := ⟨fun a b => funext fun i => i.elim0⟩

theorem real_args (q k v : FVec Ideal Cert.Pre_finite.S16384x2048 .bf16) (l : FVec Ideal Cert.Pre_finite.S4x128 .f32) (g : FVec Ideal Cert.Pre_finite.S256 .f32)
    (h : Cert.Pre_finite.fn (F := Ideal) q k v l g = fun _ => 1#1) :
    (∀ x, ∃ r : ℝ, q x = r) ∧ (∀ x, ∃ r : ℝ, k x = r) ∧ (∀ x, ∃ r : ℝ, v x = r) ∧ (∀ x, ∃ r : ℝ, l x = r) := by
  have h0 := congrFun h ix0
  obtain ⟨h1, hl⟩ := and_one h0
  obtain ⟨h2, hv⟩ := and_one h1
  obtain ⟨hq, hk⟩ := and_one h2
  exact ⟨fun x => real_of_abs _ (Host.reduce_andi_all _ _ _ _ _ hq x), fun x => real_of_abs _ (Host.reduce_andi_all _ _ _ _ _ hk x),
    fun x => real_of_abs _ (Host.reduce_andi_all _ _ _ _ _ hv x), fun x => real_of_abs _ (Host.reduce_andi_all _ _ _ _ _ hl x)⟩

end Cert.DiffAttnMath

end
-- ==== Proof.RetPrompt.Pre.lean ====
/- What the precondition gives: every query, key and value is a real number. -/
module

public import proofs.«01_k».proof.Pre_finite_proj
public import proofs.«01_k».proof.Proof.RetPrompt.Real
public import proofs.«01_k».proof.Proof.DiffAttn.Pre

@[expose] public section

set_option maxRecDepth 16384

noncomputable section

namespace Cert.RetPromptMath

open Idealize.ShloMosaic Cert.DiffAttnMath

variable [Cert.Pre_finite_proj.Facts]

instance : Subsingleton Cert.Pre_finite_proj.S_.Idx := ⟨fun a b => funext fun i => i.elim0⟩

theorem real_proj (X : FVec Ideal Cert.Pre_finite_proj.S16384x12288 .bf16)
    (h : Cert.Pre_finite_proj.fn (F := Ideal) X = fun _ => 1#1) : Fin8192 X := by
  intro r n hn
  have h0 := congrFun h ix0
  have h1 := real_of_abs _ (Host.reduce_andi_all _ _ _ _ _ h0 (ix2 (r : Fin 16384) (⟨n.val, hn⟩ : Fin 8192)))
  obtain ⟨x, hx⟩ := h1
  refine ⟨x, Eq.trans ?_ hx⟩
  pointwise

end Cert.RetPromptMath

end
-- ==== Proof.RetPrompt.RefRun.lean ====
/- The reference's run: its results are read off the states of its loop after 64 trips. -/
module

public import proofs.«01_k».proof.Proof.Gen.RetPromptRefIdeal.Run
public import proofs.«01_k».proof.Proof.RetPrompt.RefState

@[expose] public section

set_option maxRecDepth 16384

noncomputable section

namespace Cert.RetPromptRefIdeal.Point

open Cert.RetPromptRefIdeal Cert.RetPromptRefIdeal.Gen Cert.RetPromptRefIdeal.Step Cert.RetPromptRefIdeal.Value
open Idealize.ShloMosaic Idealize.ShloMosaic.TcCoe Idealize.SL.Sem Idealize.ShloMosaic.StableHlo

/-- The buffers the loop carries, before trip `j`, hold the state `s`, the decay tables and the trip's number. -/
structure Carries (W : Valuation τ sig (Elt Ideal)) (s : State Ideal) (j : ℕ) : Prop where
  queries : W (Proc.devRef .tc main_v63_0) = s.main_v63_0
  keys : W (Proc.devRef .tc main_v63_1) = s.main_v63_1
  values : W (Proc.devRef .tc main_v63_2) = s.main_v63_2
  between : W (Proc.devRef .tc main_v63_3) = K_main_v36 (F := Ideal)
  fromStart : W (Proc.devRef .tc main_v63_4) = K_main_v44 (F := Ideal)
  whole : W (Proc.devRef .tc main_v63_5) = K_main_v55 (F := Ideal)
  toEnd : W (Proc.devRef .tc main_v63_6) = K_main_v52 (F := Ideal)
  number : W (Proc.devRef .tc main_v63_7) = constantI S_ 32 (BitVec.ofNat 32 j)
  kept : W (Proc.devRef .tc main_v63_8) = s.main_v63_8
  written : W (Proc.devRef .tc main_v63_9) = s.main_v63_9

section

variable {W : Valuation τ sig (Elt Ideal)} {s : State Ideal} {j : ℕ} (hW : Carries W s j)
include hW

theorem cut_q : res_main_while0b_v84 W = b5 j s := by
  unfold res_main_while0b_v84
  rw [hW.queries, hW.number]
  rfl

theorem cut_k : res_main_while0b_v85 W = b11 j s := by
  unfold res_main_while0b_v85
  rw [hW.keys, hW.number]
  rfl

theorem cut_v : res_main_while0b_v86 W = b17 j s := by
  unfold res_main_while0b_v86
  rw [hW.values, hW.number]
  rfl

/-- A trip leaves the next state in the buffer of the states. -/
theorem trip_kept : Value.step_main_v63_8 W = b37 j s := by
  unfold Value.step_main_v63_8
  rw [cut_k hW, cut_v hW, hW.kept, hW.whole, hW.toEnd]
  rfl

/-- A trip writes its chunk of the outputs. -/
theorem trip_written : Value.step_main_v63_9 W = b43 j s := by
  unfold Value.step_main_v63_9
  rw [cut_q hW, cut_k hW, cut_v hW, hW.kept, hW.between, hW.fromStart, hW.number, hW.written]
  rfl

/-- A trip counts itself. -/
theorem trip_number : Value.step_main_v63_7 W = constantI S_ 32 (BitVec.ofNat 32 (j + 1)) := by
  unfold Value.step_main_v63_7
  rw [hW.number]
  funext i
  show BitVec.ofNat 32 j + 1#32 = BitVec.ofNat 32 (j + 1)
  rw [BitVec.ofNat_add]

/-- One trip goes from a state to the next. -/
theorem Carries.next : Carries (STEP W) (step j s) (j + 1) where
  queries := (STEP_main_v63_0 W).trans hW.queries
  keys := (STEP_main_v63_1 W).trans hW.keys
  values := (STEP_main_v63_2 W).trans hW.values
  between := (STEP_main_v63_3 W).trans hW.between
  fromStart := (STEP_main_v63_4 W).trans hW.fromStart
  whole := (STEP_main_v63_5 W).trans hW.whole
  toEnd := (STEP_main_v63_6 W).trans hW.toEnd
  number := (STEP_main_v63_7 W).trans (trip_number hW)
  kept := (STEP_main_v63_8 W).trans (trip_kept hW)
  written := (STEP_main_v63_9 W).trans (trip_written hW)

end

variable (m : (ℓ : Loc nD τ sig) → Buf (Elt Ideal) ℓ) (c : Dev nD)

/-- The projections the reference reads. -/
abbrev X' : FVec Ideal S16384x12288 .bf16 := m ((c.tc : Thread nD τ).loc main_arg0)

set_option maxRecDepth 65536 in
set_option maxHeartbeats 800000 in
/-- The lines before the loop leave its first state. -/
theorem carries_zero : Carries (entryContents preI m c) (init (X' m c)) 0 := by
  constructor <;> (simp only [entryContents, afterL_cons, afterL_nil]; after_reads_simp) <;> rfl

/-- Before trip `n` the loop carries the state number `n`. -/
theorem carries_iter : ∀ n : ℕ, Carries (STEP^[n] (entryContents preI m c)) (iter (X' m c) n) n
  | 0 => carries_zero m c
  | n + 1 => by
    rw [Function.iterate_succ_apply']
    exact (carries_iter n).next

/-- The gated output, of the buffers the loop leaves. -/
theorem out_gated {W : Valuation τ sig (Elt Ideal)} {s : State Ideal} {j : ℕ} (hW : Carries W s j) (X : FVec Ideal S16384x12288 .bf16)
    (hX : W (Proc.devRef .tc main_arg0) = X) : out_main_v83 W = R_main_v83 s X := by
  unfold out_main_v83
  rw [hW.written, hX]
  rfl

/-- The reference's results, by the loop's state after its last trip. -/
theorem results (ρ : Dev nD → PrngReg) :
    θ_run (defs (F := Ideal)) (onTc (τ := τ) (main (F := Ideal))) ⟨m, fun _ => 0, ρ⟩ fun r => ∀ c : Dev nD,
      r.2.mem ((c.tc : Thread nD τ).loc main_v83) = R_main_v83 (iter (X' m c) 64) (X' m c)
      ∧ r.2.mem ((c.tc : Thread nD τ).loc main_v63_8) = (iter (X' m c) 64).main_v63_8
      ∧ r.2.mem ((c.tc : Thread nD τ).loc main_arg0) = m ((c.tc : Thread nD τ).loc main_arg0) := by
  refine (θ_run defs _ _).mono (fun _ h c => ?_) (Value.run m ρ)
  obtain ⟨h1, h2, h3⟩ := h c
  have hk := carries_iter m c 64
  exact ⟨h1.trans (out_gated hk _ (iter_main_arg0 m c 64)), h2.trans hk.kept, h3⟩

end Cert.RetPromptRefIdeal.Point

end
-- ==== Proof.RetPrompt.Claim.lean ====
/- The retention of the prompt: the kernel and its reference agree where the projections are finite. -/
module

public import proofs.«01_k».proof.Defs
public import proofs.«01_k».proof.Proof.RetPrompt.Value
public import proofs.«01_k».proof.Proof.RetPrompt.Pre
public import proofs.«01_k».proof.Proof.RetPrompt.RefRun
public import proofs.«01_k».proof.Proof.Gen.Pre_finite_proj
public import Idealize.ShloMosaic.Adequacy
public import Idealize.ShloMosaic.Init

@[expose] public section

set_option maxRecDepth 16384

noncomputable section

namespace Cert.Proof

open Idealize.ShloMosaic Idealize.SL.Sem

/-- From the same finite projections both programs run, leave their argument as it was, and end with equal results. -/
theorem algebraicRetPrompt : Cert.algebraic_RetPromptIdeal_RetPromptRefIdeal_pre_finite_proj := by
  pair_intro
  · run_from Cert.RetPromptIdeal.Value.run_blocks m g
  · run_from Cert.RetPromptRefIdeal.Point.results m' g'
    · exact (Cert.RetPromptIdeal.Point.final m c (Cert.RetPromptMath.real_proj _ (hpre c))).symm
    · exact (Cert.RetPromptIdeal.Point.finalState m c (Cert.RetPromptMath.real_proj _ (hpre c))).symm

end Cert.Proof

end
-- ==== Proof.DiffAttn.Pay.lean ====
/- What the stores of one tile hold, number by number: the new maximum of a query, its new sum of weights and its new sums of
   weighted values, from the scores of the tile and the state before it. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Math

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

/-- The float pattern of minus infinity. -/
theorem ofBits_neg_inf : Ideal.ofBits .f32 4286578688#32 = (⊥ : EReal) := by simp [Ideal.ofBits, Ideal.ieee]

/-- A query's new maximum: of the old one and the tile's largest score, less the tile's offset. -/
def nm (o : EReal) (s : Fin 512 → EReal) (m : EReal) : EReal := max m (Finset.fold max ⊥ s Finset.univ - o)

/-- Its new sum of weights. -/
def nl (o : EReal) (s : Fin 512 → EReal) (m l : EReal) : EReal :=
  Ideal.exp2 (m - nm o s m) * l + ∑ r, Ideal.exp2 (s r - (nm o s m + o))

/-- Its new sum of weighted values. -/
def na (o : EReal) (s : Fin 512 → EReal) (m : EReal) (v : Fin 512 → EReal) (a : EReal) : EReal :=
  Ideal.exp2 (m - nm o s m) * a + ∑ r, v r * Ideal.exp2 (s r - (nm o s m + o))

/-- A score: the product of a key row and a query column over the 128 numbers of one of the two maps, plus the bias. -/
def sc (mi : Fin 2) (kb : Vec Ideal S512x256 .bf16) (qt : Vec Ideal S128x512 .bf16) (bias : Vec Ideal S1x512x512 .f32) (c r : Fin 512) : EReal :=
  (∑ x : Fin 128, (kb (ix2 r ⟨128 * mi.val + x.val, by omega⟩) : EReal) * qt (ix2 x c)) + bias (ix3 0 r c)

section tile

variable (kb : Vec Ideal S512x256 .bf16) (qt : Vec Ideal S128x512 .bf16) (bias : Vec Ideal S1x512x512 .f32)
variable (o : Ideal .f32) (s : FVec Ideal S512x512 .f32) (m l : Vec Ideal S1x1x512 .f32) (a : Vec Ideal S1x256x512 .f32) (vb : FVec Ideal S256x512 .bf16)

theorem pay4_at (r c : Fin 512) : k0_pay4 (F := Ideal) kb qt bias (ix2 r c) = sc 0 kb qt bias c r := by
  pointwise [k0_pay4]
  unfold sc
  refine congrArg (· + _) (Finset.sum_congr rfl fun x _ => ?_)
  congr 2; congr 1; apply Fin.ext; simp

theorem pay5_at (r c : Fin 512) : k0_pay5 (F := Ideal) kb qt bias (ix2 r c) = sc 1 kb qt bias c r := by
  pointwise [k0_pay5]
  rfl

theorem pay15_at (c : Fin 512) : k0_pay15 o s m (ix2 0 c) = nm o (fun r => s (ix2 r c)) (m (ix3 0 0 c)) := by
  pointwise [k0_pay15, k0_pay14]
  rw [ofBits_neg_inf]; rfl

theorem pay16_at (c : Fin 512) : k0_pay16 o s m (ix2 0 c)
    = Ideal.exp2 (m (ix3 0 0 c) - nm o (fun r => s (ix2 r c)) (m (ix3 0 0 c))) := by
  rw [← pay15_at]
  pointwise [k0_pay16, k0_pay14]
  rfl

theorem pay17_at (r c : Fin 512) : k0_pay17 o s m (ix2 r c)
    = s (ix2 r c) - (nm o (fun r => s (ix2 r c)) (m (ix3 0 0 c)) + o) := by
  rw [← pay15_at]
  pointwise [k0_pay17]

theorem pay38_at (c : Fin 512) : k0_pay38 (k0_pay16 o s m) (k0_pay17 o s m) l (ix3 0 0 c)
    = nl o (fun r => s (ix2 r c)) (m (ix3 0 0 c)) (l (ix3 0 0 c)) := by
  pointwise [k0_pay38, k0_pay37]
  simp only [pay16_at, pay17_at]
  rfl

theorem pay39_at (e : Fin 256) (c : Fin 512) : k0_pay39 vb (k0_pay16 o s m) (k0_pay17 o s m) a (ix3 0 e c)
    = na o (fun r => s (ix2 r c)) (m (ix3 0 0 c)) (fun r => vb (ix2 e r)) (a (ix3 0 e c)) := by
  pointwise [k0_pay39, k0_pay37]
  simp only [pay16_at, pay17_at]
  rfl

theorem pay40_at (w : FVec Ideal S1x512 .f32) (c : Fin 512) : k0_pay40 w (ix3 0 0 c) = w (ix2 0 c) := by
  pointwise [k0_pay40]

theorem pay13_at (w : FVec Ideal S1x512 .f32) (c : Fin 512) : k0_pay13 w (ix3 0 0 c) = w (ix2 0 c) := by
  pointwise [k0_pay13]

end tile

/-- The first map's stores of a tile of the loop are the second map's functions of the first map's scores. -/
theorem pay7_eq (i : grid0.Coords) (b : BitVec 32) (v : Ideal .f32) (c0 c1 : BitVec 32) (t : Fin (k0_t1_loop i).trips)
    (kb : Vec Ideal S512x256 .bf16) (qt : Vec Ideal S128x512 .bf16) (bias : Vec Ideal S1x512x512 .f32) (m : Vec Ideal S1x1x512 .f32) :
    k0_pay7 i b v c0 c1 t kb qt bias m = k0_pay15 (k0_pay2 i b v c0 c1 t) (k0_pay4 kb qt bias) m := rfl

theorem pay8_eq (i : grid0.Coords) (b : BitVec 32) (v : Ideal .f32) (c0 c1 : BitVec 32) (t : Fin (k0_t1_loop i).trips)
    (kb : Vec Ideal S512x256 .bf16) (qt : Vec Ideal S128x512 .bf16) (bias : Vec Ideal S1x512x512 .f32) (m : Vec Ideal S1x1x512 .f32) :
    k0_pay8 i b v c0 c1 t kb qt bias m = k0_pay16 (k0_pay2 i b v c0 c1 t) (k0_pay4 kb qt bias) m := rfl

theorem pay9_eq (i : grid0.Coords) (b : BitVec 32) (v : Ideal .f32) (c0 c1 : BitVec 32) (t : Fin (k0_t1_loop i).trips)
    (kb : Vec Ideal S512x256 .bf16) (qt : Vec Ideal S128x512 .bf16) (bias : Vec Ideal S1x512x512 .f32) (m : Vec Ideal S1x1x512 .f32) :
    k0_pay9 i b v c0 c1 t kb qt bias m = k0_pay17 (k0_pay2 i b v c0 c1 t) (k0_pay4 kb qt bias) m := rfl

theorem pay11_eq (w : FVec Ideal S1x512 .f32) (p : FVec Ideal S512x512 .f32) (l : Vec Ideal S1x1x512 .f32) :
    k0_pay11 w p l = k0_pay38 w p l := rfl

theorem pay12_eq (vb : FVec Ideal S256x512 .bf16) (w : FVec Ideal S1x512 .f32) (p : FVec Ideal S512x512 .f32) (a : Vec Ideal S1x256x512 .f32) :
    k0_pay12 vb w p a = k0_pay39 vb w p a := rfl

/-! The diagonal tile is the same with no offset. -/

section diag

variable (kb : Vec Ideal S512x256 .bf16) (qt : Vec Ideal S128x512 .bf16) (bias : Vec Ideal S1x512x512 .f32)
variable (s : FVec Ideal S512x512 .f32) (m l : Vec Ideal S1x1x512 .f32) (a : Vec Ideal S1x256x512 .f32) (vb : FVec Ideal S256x512 .bf16)

theorem pay48_at (r c : Fin 512) : k0_pay48 (F := Ideal) kb qt bias (ix2 r c) = sc 1 kb qt bias c r := by
  pointwise [k0_pay48]
  rfl

theorem pay47_at (r c : Fin 512) : k0_pay47 (F := Ideal) (k0_pay46 kb) qt bias (ix2 r c) = sc 0 kb qt bias c r := by
  pointwise [k0_pay47, k0_pay46]
  unfold sc
  refine congrArg (· + _) (Finset.sum_congr rfl fun x _ => ?_)
  congr 2; congr 1; apply Fin.ext; simp

theorem pay57_at (c : Fin 512) : k0_pay57 s m (ix2 0 c) = nm 0 (fun r => s (ix2 r c)) (m (ix3 0 0 c)) := by
  pointwise [k0_pay57, k0_pay56]
  rw [ofBits_neg_inf]; unfold nm; rw [sub_zero]

theorem pay58_at (c : Fin 512) : k0_pay58 s m (ix2 0 c)
    = Ideal.exp2 (m (ix3 0 0 c) - nm 0 (fun r => s (ix2 r c)) (m (ix3 0 0 c))) := by
  rw [← pay57_at]
  pointwise [k0_pay58, k0_pay56]
  rfl

theorem pay59_at (r c : Fin 512) : k0_pay59 s m (ix2 r c)
    = Ideal.exp2 (s (ix2 r c) - (nm 0 (fun r => s (ix2 r c)) (m (ix3 0 0 c)) + 0)) := by
  rw [← pay57_at, add_zero]
  pointwise [k0_pay59]
  rfl

theorem pay60_at (c : Fin 512) : k0_pay61 (k0_pay60 s m l) (ix3 0 0 c)
    = nl 0 (fun r => s (ix2 r c)) (m (ix3 0 0 c)) (l (ix3 0 0 c)) := by
  pointwise [k0_pay61, k0_pay60]
  simp only [pay58_at, pay59_at]
  rfl

theorem pay62_at (e : Fin 256) (c : Fin 512) : k0_pay62 vb (k0_pay58 s m) (k0_pay59 s m) a (ix3 0 e c)
    = na 0 (fun r => s (ix2 r c)) (m (ix3 0 0 c)) (fun r => vb (ix2 e r)) (a (ix3 0 e c)) := by
  pointwise [k0_pay62]
  simp only [pay58_at, pay59_at]
  rfl

theorem pay63_at (w : FVec Ideal S1x512 .f32) (c : Fin 512) : k0_pay63 w (ix3 0 0 c) = w (ix2 0 c) := by
  pointwise [k0_pay63]

theorem pay55_at (w : FVec Ideal S1x512 .f32) (c : Fin 512) : k0_pay55 w (ix3 0 0 c) = w (ix2 0 c) := by
  pointwise [k0_pay55]

theorem pay50_eq (w : FVec Ideal S512x128 .bf16) : k0_pay50 w qt bias m = k0_pay57 (k0_pay47 w qt bias) m := rfl
theorem pay51_eq (w : FVec Ideal S512x128 .bf16) : k0_pay51 w qt bias m = k0_pay58 (k0_pay47 w qt bias) m := rfl
theorem pay52_eq (w : FVec Ideal S512x128 .bf16) : k0_pay52 w qt bias m = k0_pay59 (k0_pay47 w qt bias) m := rfl
theorem pay53_eq (w : FVec Ideal S512x128 .bf16) : k0_pay53 w qt bias m l = k0_pay61 (k0_pay60 (k0_pay47 w qt bias) m l) := rfl
theorem pay54_eq (w : FVec Ideal S1x512 .f32) (p : FVec Ideal S512x512 .f32) : k0_pay54 vb w p a = k0_pay62 vb w p a := rfl

end diag

theorem pay3_at (v : Vec Ideal S1x1x1x256x512 .bf16) (e : Fin 256) (r : Fin 512) : k0_pay3 v (ix2 e r) = v (ix5 0 0 0 e r) := by
  pointwise [k0_pay3]

theorem pay45_at (v : Vec Ideal S1x1x1x256x512 .bf16) (e : Fin 256) (r : Fin 512) : k0_pay45 v (ix2 e r) = v (ix5 0 0 0 e r) := by
  pointwise [k0_pay45]

end Cert.DiffAttnIdeal.Point

end
-- ==== Proof.DiffAttn.Two.lean ====
/- The state of the softmax lies in three scratches, each written by two stores, one for each of the two maps. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

/-! Two stores that together fill a scratch, one for each of the two maps. -/

section two

variable {κ : Kind} {sp : Space} (v1 : View sig κ sp S2x1x512 .f32) (v2 : View sig κ sp S2x256x512 .f32)

theorem one_read1 (f) (inb1 inb0) (w1 w0 L) (c : Fin 512) :
    v1.read (Elt Ideal) (v1.writes (Elt Ideal) f (⟨Rect.unit ![1, 0, 0] ![1, 1, 512] inb1, w1⟩ :: ⟨Rect.unit ![0, 0, 0] ![1, 1, 512] inb0, w0⟩ :: L)) (ix3 1 0 c)
      = w1 (ix3 0 0 c) :=
  View.read_writes_cons_unit_of_mem v1 f inb1 w1 _ _ (ix3 0 0 c) rfl (by intro a; fin_cases a <;> simp [ix3])

theorem one_read0 (f) (inb1 inb0) (w1 w0 L) (c : Fin 512) :
    v1.read (Elt Ideal) (v1.writes (Elt Ideal) f (⟨Rect.unit ![1, 0, 0] ![1, 1, 512] inb1, w1⟩ :: ⟨Rect.unit ![0, 0, 0] ![1, 1, 512] inb0, w0⟩ :: L)) (ix3 0 0 c)
      = w0 (ix3 0 0 c) :=
  (View.read_writes_cons_unit_of_not_mem v1 f inb1 w1 _ _ rfl 0 (.inl (by simp [ix3]))).trans
    (View.read_writes_cons_unit_of_mem v1 f inb0 w0 _ _ (ix3 0 0 c) rfl (by intro a; fin_cases a <;> simp [ix3]))

theorem many_read1 (f) (inb1 inb0) (w1 w0 L) (e : Fin 256) (c : Fin 512) :
    v2.read (Elt Ideal) (v2.writes (Elt Ideal) f (⟨Rect.unit ![1, 0, 0] ![1, 256, 512] inb1, w1⟩ :: ⟨Rect.unit ![0, 0, 0] ![1, 256, 512] inb0, w0⟩ :: L)) (ix3 1 e c)
      = w1 (ix3 0 e c) :=
  View.read_writes_cons_unit_of_mem v2 f inb1 w1 _ _ (ix3 0 e c) rfl (by intro a; fin_cases a <;> simp [ix3])

theorem many_read0 (f) (inb1 inb0) (w1 w0 L) (e : Fin 256) (c : Fin 512) :
    v2.read (Elt Ideal) (v2.writes (Elt Ideal) f (⟨Rect.unit ![1, 0, 0] ![1, 256, 512] inb1, w1⟩ :: ⟨Rect.unit ![0, 0, 0] ![1, 256, 512] inb0, w0⟩ :: L)) (ix3 0 e c)
      = w0 (ix3 0 e c) :=
  (View.read_writes_cons_unit_of_not_mem v2 f inb1 w1 _ _ rfl 0 (.inl (by simp [ix3]))).trans
    (View.read_writes_cons_unit_of_mem v2 f inb0 w0 _ _ (ix3 0 e c) rfl (by intro a; fin_cases a <;> simp [ix3]))

/-- Loading one map's row of a scratch. -/
theorem one_load (f) (o : Fin 3 → ℕ) (mi : Fin 2) (ho : o = ![mi.val, 0, 0]) (inb) (c : Fin 512) :
    v1.readAt (Elt Ideal) (Rect.unit (s := S2x1x512) o S1x1x512.size inb).toLoadRect f (ix3 0 0 c) = v1.read (Elt Ideal) f (ix3 mi 0 c) := by
  subst ho
  refine congrArg (v1.read (Elt Ideal) f) (funext fun a => Fin.ext ?_)
  fin_cases a <;> simp [ix3]

theorem many_load (f) (o : Fin 3 → ℕ) (mi : Fin 2) (ho : o = ![mi.val, 0, 0]) (inb) (e : Fin 256) (c : Fin 512) :
    v2.readAt (Elt Ideal) (Rect.unit (s := S2x256x512) o S1x256x512.size inb).toLoadRect f (ix3 0 e c) = v2.read (Elt Ideal) f (ix3 mi e c) := by
  subst ho
  refine congrArg (v2.read (Elt Ideal) f) (funext fun a => Fin.ext ?_)
  fin_cases a <;> simp [ix3]

end two

end Cert.DiffAttnIdeal.Point

end
-- ==== Proof.DiffAttn.Trip.lean ====
/- One trip of the loop over the earlier tiles: how it changes the running state of a query. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Pay
public import proofs.«01_k».proof.Proof.DiffAttn.Two

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

/-- The score of key `r` of tile `j` against query `c` under one map, plus the bias. -/
def score (mi : Fin 2) (X6 : Vec Ideal S4096x256 .bf16) (X5 : Vec Ideal S256x512 .bf16) (X8 : Vec Ideal S1x512x512 .f32) (j : Fin 8) (c r : Fin 512) : EReal :=
  (∑ x : Fin 128, (X6 (ix2 ⟨512 * j.val + r.val, by omega⟩ ⟨128 * mi.val + x.val, by omega⟩) : EReal) * X5 (ix2 ⟨128 * mi.val + x.val, by omega⟩ c))
    + X8 (ix3 0 r c)

/-- The tile's score, from the blocks it loads. -/
theorem sc_eq_score (mi : Fin 2) {X6 : Vec Ideal S4096x256 .bf16} {X5 : Vec Ideal S256x512 .bf16} {X8 : Vec Ideal S1x512x512 .f32} {j : Fin 8}
    (o6 : Fin 2 → ℕ) (o5 : Fin 2 → ℕ) (o8 : Fin 3 → ℕ) (h6 : o6 = ![512 * j.val, 0]) (h5 : o5 = ![128 * mi.val, 0]) (h8 : o8 = ![0, 0, 0])
    (i6) (i5) (i8) (c r : Fin 512) :
    sc mi (View.ld (Val := Elt Ideal) X6 (Rect.unit o6 S512x256.size i6)) (View.ld (Val := Elt Ideal) X5 (Rect.unit o5 S128x512.size i5))
      (View.ld (Val := Elt Ideal) X8 (Rect.unit o8 S1x512x512.size i8)) c r = score mi X6 X5 X8 j c r := by
  subst h6 h5 h8
  refine congrArg₂ (· + ·) (Finset.sum_congr rfl fun x _ => congrArg₂ (· * ·) ?_ ?_) ?_
  · refine congrArg X6 (funext fun a => Fin.ext ?_)
    fin_cases a <;> simp [ix2]
  · refine congrArg X5 (funext fun a => Fin.ext ?_)
    fin_cases a <;> simp [ix2]
  · refine congrArg X8 (funext fun a => Fin.ext ?_)
    fin_cases a <;> simp [ix3]

/-- The values a tile loads. -/
theorem ld_values (X7 : Vec Ideal S1x1x8x256x512 .bf16) {j : Fin 8} {o : Fin 5 → ℕ} (h : o = ![0, 0, j.val, 0, 0]) (inb) (e : Fin 256) (r : Fin 512) :
    View.ld (Val := Elt Ideal) X7 (Rect.unit o S1x1x1x256x512.size inb) (ix5 0 0 0 e r) = X7 (ix5 0 0 j e r) := by
  subst h
  refine congrArg X7 (funext fun a => Fin.ext ?_)
  fin_cases a <;> simp [ix5]

theorem off2_eq (i : grid0.Coords) (k : Fin (k0_t1_loop i).trips) (j : Fin 8) (hj : k.val = j.val) : k0_off2 i k = ![512 * j.val, 0] := by
  unfold k0_off2
  rw [hj]
  clear hj k
  revert j; decide

theorem off3_eq (i : grid0.Coords) (k : Fin (k0_t1_loop i).trips) (j : Fin 8) (hj : k.val = j.val) : k0_off3 i k = ![0, 0, j.val, 0, 0] := by
  unfold k0_off3
  rw [hj]
  clear hj k
  revert j; decide

/-- The loop over the earlier tiles takes as many trips as there are earlier tiles. -/
theorem trips1_eq (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by decide
  exact h (i 2)

/-- What the loop would leave over is no trip. -/
theorem trips2_eq (i : grid0.Coords) : (k0_t2_loop i).trips = 0 := by
  have h : ∀ n : Fin 8, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide
  exact h (i 2)

section trip

variable (𝒱 : Variants) (c : Dev nD) (bd : Option 𝒱.V) (i : grid0.Coords) (arg3 : Memref sig .tc .smem S8 .f32) (harg3 : arg3.IsWhole) (arg4 : Memref sig .tc .vmem S4x128 .f32) (harg4 : arg4.IsWhole) (arg5 : Memref sig .tc .vmem S256x512 .bf16) (harg5 : arg5.IsWhole) (arg6 : Memref sig .tc .vmem S4096x256 .bf16) (harg6 : arg6.IsWhole) (arg7 : Memref sig .tc .vmem S1x1x8x256x512 .bf16) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S256x1 .f32) (harg10 : arg10.IsWhole) (arg11 : Memref sig .tc .vmem S512x256 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x256x512 .f32) (harg14 : arg14.IsWhole) (arg2 : BitVec 32) (v1 : Elt Ideal .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
variable (k : Fin (k0_t1_loop i).trips) (f_arg12 : BufTy.Contents (Elt Ideal) arg12.view.ty) (f_arg13 : BufTy.Contents (Elt Ideal) arg13.view.ty) (f_arg14 : BufTy.Contents (Elt Ideal) arg14.view.ty)
theorem trip0 (j : Fin 8) (hj : k.val = j.val) (c' : Fin 512) :
    (arg12.view.read (Elt Ideal) (arg12.view.writes (Elt Ideal) f_arg12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).1) (ix3 0 0 c') : EReal)
        = nm (k0_pay2 i arg2 v1 0#32 1#32 k) (score 0 (arg6.view.read (Elt Ideal) X_arg6) (arg5.view.read (Elt Ideal) X_arg5) (arg8.view.read (Elt Ideal) X_arg8) j c') (arg12.view.read (Elt Ideal) f_arg12 (ix3 0 0 c'))
    ∧ (arg13.view.read (Elt Ideal) (arg13.view.writes (Elt Ideal) f_arg13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).2.1) (ix3 0 0 c') : EReal)
        = nl (k0_pay2 i arg2 v1 0#32 1#32 k) (score 0 (arg6.view.read (Elt Ideal) X_arg6) (arg5.view.read (Elt Ideal) X_arg5) (arg8.view.read (Elt Ideal) X_arg8) j c') (arg12.view.read (Elt Ideal) f_arg12 (ix3 0 0 c')) (arg13.view.read (Elt Ideal) f_arg13 (ix3 0 0 c'))
    ∧ ∀ e, (arg14.view.read (Elt Ideal) (arg14.view.writes (Elt Ideal) f_arg14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).2.2) (ix3 0 e c') : EReal)
        = na (k0_pay2 i arg2 v1 0#32 1#32 k) (score 0 (arg6.view.read (Elt Ideal) X_arg6) (arg5.view.read (Elt Ideal) X_arg5) (arg8.view.read (Elt Ideal) X_arg8) j c') (arg12.view.read (Elt Ideal) f_arg12 (ix3 0 0 c'))
            (fun r => (arg7.view.read (Elt Ideal) X_arg7) (ix5 0 0 j e r)) (arg14.view.read (Elt Ideal) f_arg14 (ix3 0 e c')) := by
  have hs := fun r => (sc_eq_score 0 _ _ _ (off2_eq i k j hj) rfl rfl (k0_off2_inb i k) inb_S256x512_S128x512_0_0 inb_S1x512x512_S1x512x512_0_0_0 c' r
    (X6 := arg6.view.read (Elt Ideal) X_arg6) (X5 := arg5.view.read (Elt Ideal) X_arg5) (X8 := arg8.view.read (Elt Ideal) X_arg8))
  unfold tripL_k0_t1 trip_k0_t1
  dsimp only
  sl_unfold_run_names
  simp only [pay7_eq, pay8_eq, pay9_eq, pay11_eq, pay12_eq]
  refine ⟨?_, ?_, fun e => ?_⟩
  · refine (one_read0 _ _ _ _ _ _ _ _).trans ?_
    simp only [pay40_at, pay13_at, pay15_at, pay4_at, pay5_at]
    exact congrArg₂ (nm _) (funext hs) (one_load arg12.view _ _ 0 rfl _ _)
  · refine (one_read0 _ _ _ _ _ _ _ _).trans ?_
    simp only [pay38_at, pay4_at, pay5_at]
    exact congr (congrArg₂ (nl _) (funext hs) (one_load arg12.view _ _ 0 rfl _ _)) (one_load arg13.view _ _ 0 rfl _ _)
  · refine (many_read0 _ _ _ _ _ _ _ _ _).trans ?_
    simp only [pay39_at, pay4_at, pay5_at, pay3_at]
    refine congr (congr (congrArg₂ (na _) (funext hs) (one_load arg12.view _ _ 0 rfl _ _)) (funext fun r => ?_)) (many_load arg14.view _ _ 0 rfl _ _ _)
    exact ld_values _ (off3_eq i k j hj) _ e r

theorem trip1 (j : Fin 8) (hj : k.val = j.val) (c' : Fin 512) :
    (arg12.view.read (Elt Ideal) (arg12.view.writes (Elt Ideal) f_arg12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).1) (ix3 1 0 c') : EReal)
        = nm (k0_pay2 i arg2 v1 0#32 1#32 k) (score 1 (arg6.view.read (Elt Ideal) X_arg6) (arg5.view.read (Elt Ideal) X_arg5) (arg8.view.read (Elt Ideal) X_arg8) j c') (arg12.view.read (Elt Ideal) f_arg12 (ix3 1 0 c'))
    ∧ (arg13.view.read (Elt Ideal) (arg13.view.writes (Elt Ideal) f_arg13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).2.1) (ix3 1 0 c') : EReal)
        = nl (k0_pay2 i arg2 v1 0#32 1#32 k) (score 1 (arg6.view.read (Elt Ideal) X_arg6) (arg5.view.read (Elt Ideal) X_arg5) (arg8.view.read (Elt Ideal) X_arg8) j c') (arg12.view.read (Elt Ideal) f_arg12 (ix3 1 0 c')) (arg13.view.read (Elt Ideal) f_arg13 (ix3 1 0 c'))
    ∧ ∀ e, (arg14.view.read (Elt Ideal) (arg14.view.writes (Elt Ideal) f_arg14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).2.2) (ix3 1 e c') : EReal)
        = na (k0_pay2 i arg2 v1 0#32 1#32 k) (score 1 (arg6.view.read (Elt Ideal) X_arg6) (arg5.view.read (Elt Ideal) X_arg5) (arg8.view.read (Elt Ideal) X_arg8) j c') (arg12.view.read (Elt Ideal) f_arg12 (ix3 1 0 c'))
            (fun r => (arg7.view.read (Elt Ideal) X_arg7) (ix5 0 0 j e r)) (arg14.view.read (Elt Ideal) f_arg14 (ix3 1 e c')) := by
  have hs := fun r => (sc_eq_score 1 _ _ _ (off2_eq i k j hj) rfl rfl (k0_off2_inb i k) inb_S256x512_S128x512_128_0 inb_S1x512x512_S1x512x512_0_0_0 c' r
    (X6 := arg6.view.read (Elt Ideal) X_arg6) (X5 := arg5.view.read (Elt Ideal) X_arg5) (X8 := arg8.view.read (Elt Ideal) X_arg8))
  unfold tripL_k0_t1 trip_k0_t1
  dsimp only
  sl_unfold_run_names
  simp only [pay7_eq, pay8_eq, pay9_eq, pay11_eq, pay12_eq]
  refine ⟨?_, ?_, fun e => ?_⟩
  · refine (one_read1 _ _ _ _ _ _ _ _).trans ?_
    simp only [pay40_at, pay13_at, pay15_at, pay4_at, pay5_at]
    exact congrArg₂ (nm _) (funext hs) (one_load arg12.view _ _ 1 rfl _ _)
  · refine (one_read1 _ _ _ _ _ _ _ _).trans ?_
    simp only [pay38_at, pay4_at, pay5_at]
    exact congr (congrArg₂ (nl _) (funext hs) (one_load arg12.view _ _ 1 rfl _ _)) (one_load arg13.view _ _ 1 rfl _ _)
  · refine (many_read1 _ _ _ _ _ _ _ _ _).trans ?_
    simp only [pay39_at, pay4_at, pay5_at, pay3_at]
    refine congr (congr (congrArg₂ (na _) (funext hs) (one_load arg12.view _ _ 1 rfl _ _)) (funext fun r => ?_)) (many_load arg14.view _ _ 1 rfl _ _ _)
    exact ld_values _ (off3_eq i k j hj) _ e r

end trip

end Cert.DiffAttnIdeal.Point

end
-- ==== Proof.DiffAttn.Sums.lean ====
/- Sums over the tiles seen so far, and over all keys as the keys of all tiles. -/
module

public import Idealize.ShloMosaic.Lib.Pointwise

@[expose] public section

noncomputable section

namespace Cert.DiffAttnMath

/-- The sum over the first `n` of the eight tiles. -/
def psum (n : ℕ) (f : Fin 8 → ℝ) : ℝ := ∑ j : Fin 8, if j.val < n then f j else 0

theorem psum_zero (f : Fin 8 → ℝ) : psum 0 f = 0 := by simp [psum]

theorem psum_succ {n : ℕ} (h : n < 8) (f : Fin 8 → ℝ) : psum (n + 1) f = psum n f + f ⟨n, h⟩ := by
  have e : f ⟨n, h⟩ = ∑ j : Fin 8, if j = ⟨n, h⟩ then f j else 0 := by simp
  unfold psum
  rw [e, ← Finset.sum_add_distrib]
  refine Finset.sum_congr rfl fun j _ => ?_
  by_cases h1 : j.val < n
  · rw [if_pos h1, if_pos (by omega), if_neg (fun e => by rw [e] at h1; simp at h1), add_zero]
  · by_cases h2 : j.val = n
    · rw [if_pos (by omega), if_neg h1, if_pos (Fin.ext h2), zero_add]
    · rw [if_neg (by omega), if_neg h1, if_neg (fun e => h2 (by rw [e])), add_zero]

/-- Where the later tiles add nothing, the first ones give the whole sum. -/
theorem psum_all {n : ℕ} {f : Fin 8 → ℝ} (h : ∀ j : Fin 8, n ≤ j.val → f j = 0) : psum n f = ∑ j, f j :=
  Finset.sum_congr rfl fun j _ => by
    by_cases h1 : j.val < n
    · rw [if_pos h1]
    · rw [if_neg h1, h j (by omega)]

/-- The 4096 keys are the 512 keys of each of the eight tiles. -/
theorem sum_keys (f : Fin 4096 → ℝ) : ∑ k, f k = ∑ j : Fin 8, ∑ r : Fin 512, f ⟨512 * j.val + r.val, by omega⟩ := by
  rw [← Fintype.sum_prod_type', ← Equiv.sum_comp (finProdFinEquiv (m := 8) (n := 512))]
  refine Finset.sum_congr rfl fun x _ => congrArg f (Fin.ext ?_)
  simp [finProdFinEquiv]; omega

end Cert.DiffAttnMath

end
-- ==== Proof.DiffAttn.Loop.lean ====
/- The loop over the earlier tiles: after each trip the running state of a query holds the sums over the tiles seen. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Trip
public import proofs.«01_k».proof.Proof.DiffAttn.Sums

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

open Cert.DiffAttnMath

section loop

variable (𝒱 : Variants) (c : Dev nD) (bd : Option 𝒱.V) (i : grid0.Coords) (arg3 : Memref sig .tc .smem S8 .f32) (harg3 : arg3.IsWhole) (arg4 : Memref sig .tc .vmem S4x128 .f32) (harg4 : arg4.IsWhole) (arg5 : Memref sig .tc .vmem S256x512 .bf16) (harg5 : arg5.IsWhole) (arg6 : Memref sig .tc .vmem S4096x256 .bf16) (harg6 : arg6.IsWhole) (arg7 : Memref sig .tc .vmem S1x1x8x256x512 .bf16) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S256x1 .f32) (harg10 : arg10.IsWhole) (arg11 : Memref sig .tc .vmem S512x256 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x256x512 .f32) (harg14 : arg14.IsWhole) (arg2 : BitVec 32) (v1 : Elt Ideal .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
variable  (f_arg12 : BufTy.Contents (Elt Ideal) arg12.view.ty) (f_arg13 : BufTy.Contents (Elt Ideal) arg13.view.ty) (f_arg14 : BufTy.Contents (Elt Ideal) arg14.view.ty)

/-- One trip, for either map. -/
theorem trip (k : Fin (k0_t1_loop i).trips) (j : Fin 8) (hj : k.val = j.val) (mi : Fin 2) (q : Fin 512) :
    (arg12.view.read (Elt Ideal) (arg12.view.writes (Elt Ideal) f_arg12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).1) (ix3 mi 0 q) : EReal)
        = nm (k0_pay2 i arg2 v1 0#32 1#32 k) (score mi (arg6.view.read (Elt Ideal) X_arg6) (arg5.view.read (Elt Ideal) X_arg5) (arg8.view.read (Elt Ideal) X_arg8) j q) (arg12.view.read (Elt Ideal) f_arg12 (ix3 mi 0 q))
    ∧ (arg13.view.read (Elt Ideal) (arg13.view.writes (Elt Ideal) f_arg13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).2.1) (ix3 mi 0 q) : EReal)
        = nl (k0_pay2 i arg2 v1 0#32 1#32 k) (score mi (arg6.view.read (Elt Ideal) X_arg6) (arg5.view.read (Elt Ideal) X_arg5) (arg8.view.read (Elt Ideal) X_arg8) j q) (arg12.view.read (Elt Ideal) f_arg12 (ix3 mi 0 q)) (arg13.view.read (Elt Ideal) f_arg13 (ix3 mi 0 q))
    ∧ ∀ e, (arg14.view.read (Elt Ideal) (arg14.view.writes (Elt Ideal) f_arg14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14).2.2) (ix3 mi e q) : EReal)
        = na (k0_pay2 i arg2 v1 0#32 1#32 k) (score mi (arg6.view.read (Elt Ideal) X_arg6) (arg5.view.read (Elt Ideal) X_arg5) (arg8.view.read (Elt Ideal) X_arg8) j q) (arg12.view.read (Elt Ideal) f_arg12 (ix3 mi 0 q))
            (fun r => (arg7.view.read (Elt Ideal) X_arg7) (ix5 0 0 j e r)) (arg14.view.read (Elt Ideal) f_arg14 (ix3 mi e q)) := by
  fin_cases mi
  · exact trip0 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14 j hj q
  · exact trip1 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 k f_arg12 f_arg13 f_arg14 j hj q

/-- The state after `n` trips, from the state before the loop. -/
theorem loop (mi : Fin 2) (q : Fin 512) (o : Fin 8 → ℝ) (v : Fin 8 → Fin 256 → Fin 512 → ℝ)
    (ho : ∀ (k : Fin (k0_t1_loop i).trips) (j : Fin 8), k.val = j.val → ((k0_pay2 i arg2 v1 0#32 1#32 k) : EReal) = ((o j : ℝ) : EReal))
    (hs : ∀ (j : Fin 8) (r : Fin 512), j.val < (i 2).val → (score mi (arg6.view.read (Elt Ideal) X_arg6) (arg5.view.read (Elt Ideal) X_arg5) (arg8.view.read (Elt Ideal) X_arg8) j q) r ≠ ⊤)
    (hv : ∀ (j : Fin 8) (e : Fin 256) (r : Fin 512), ((arg7.view.read (Elt Ideal) X_arg7) (ix5 0 0 j e r) : EReal) = ((v j e r : ℝ) : EReal))
    (h0 : Holds 0 (fun _ => 0) (arg12.view.read (Elt Ideal) f_arg12 (ix3 mi 0 q)) (arg13.view.read (Elt Ideal) f_arg13 (ix3 mi 0 q))
      (fun e => arg14.view.read (Elt Ideal) f_arg14 (ix3 mi e q))) (n : ℕ) (hn : n ≤ (i 2).val) :
    Holds (psum n fun j => ∑ r, wt ((score mi (arg6.view.read (Elt Ideal) X_arg6) (arg5.view.read (Elt Ideal) X_arg5) (arg8.view.read (Elt Ideal) X_arg8) j q) r - (o j : EReal))) (fun e => psum n fun j => ∑ r, v j e r * wt ((score mi (arg6.view.read (Elt Ideal) X_arg6) (arg5.view.read (Elt Ideal) X_arg5) (arg8.view.read (Elt Ideal) X_arg8) j q) r - (o j : EReal)))
      (arg12.view.read (Elt Ideal) (arg12.view.writes (Elt Ideal) f_arg12 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 f_arg12 f_arg13 f_arg14 n).1) (ix3 mi 0 q))
      (arg13.view.read (Elt Ideal) (arg13.view.writes (Elt Ideal) f_arg13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 f_arg12 f_arg13 f_arg14 n).2.1) (ix3 mi 0 q))
      (fun e => arg14.view.read (Elt Ideal) (arg14.view.writes (Elt Ideal) f_arg14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 f_arg12 f_arg13 f_arg14 n).2.2) (ix3 mi e q)) := by
  induction n with
  | zero => simp only [psum_zero, pb_k0_t1.eq_1]; exact h0
  | succ n ih =>
    have h8 : n < 8 := by have := (i 2).isLt; exact lt_of_lt_of_le (Nat.lt_of_succ_le hn) (le_of_lt this)
    have hk : n < (k0_t1_loop i).trips := by rw [trips1_eq]; omega
    specialize ih (by omega)
    have hst := Holds.step ih ((score mi (arg6.view.read (Elt Ideal) X_arg6) (arg5.view.read (Elt Ideal) X_arg5) (arg8.view.read (Elt Ideal) X_arg8) ⟨n, h8⟩ q)) (o ⟨n, h8⟩) (fun r => hs ⟨n, h8⟩ r (by simpa using hn))
      (fun e r => arg7.view.read (Elt Ideal) X_arg7 (ix5 0 0 ⟨n, h8⟩ e r)) (v ⟨n, h8⟩) (hv ⟨n, h8⟩) _ rfl
    have ht := trip 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 (arg12.view.writes (Elt Ideal) f_arg12 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 f_arg12 f_arg13 f_arg14 n).1) (arg13.view.writes (Elt Ideal) f_arg13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 f_arg12 f_arg13 f_arg14 n).2.1)
      (arg14.view.writes (Elt Ideal) f_arg14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v1 X_arg5 X_arg6 X_arg7 X_arg8 f_arg12 f_arg13 f_arg14 n).2.2) ⟨n, hk⟩ ⟨n, h8⟩ rfl mi q
    rw [ho ⟨n, hk⟩ ⟨n, h8⟩ rfl] at ht
    rw [show n + 1 = (⟨n, hk⟩ : Fin (k0_t1_loop i).trips).val + 1 from rfl, pb_k0_t1_succ]
    simp only [View.writes_append]
    rw [ht.1, ht.2.1, show (⟨n, hk⟩ : Fin (k0_t1_loop i).trips).val + 1 = n + 1 from rfl]
    simp only [ht.2.2, psum_succ h8]
    exact hst

end loop

end Cert.DiffAttnIdeal.Point

end
-- ==== Proof.DiffAttn.Body.lean ====
/- What one grid point writes: the difference of the two maps' softmax averages, normalized, from the state after the last tile. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Loop

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

/-- The head vector of a query: the first map's average less `lam` times the second's, from the sums and the sums of weights. -/
def ot (lam : EReal) (a0 : Fin 256 → EReal) (l0 : EReal) (a1 : Fin 256 → EReal) (l1 : EReal) (e : Fin 256) : EReal :=
  a0 e * Ideal.div 1 l0 - lam * (a1 e * Ideal.div 1 l1)

/-- The head vector divided by its root mean square, times the gain and one constant. -/
def normed (x : Fin 256 → EReal) (g : Fin 256 → EReal) (e : Fin 256) : EReal :=
  x e * Ideal.rsqrt (Ideal.div (∑ d, x d * x d) (Ideal.ofBits .f32 0x43800000#32) + Ideal.ofBits .f32 0x358637BD#32) * g e
    * Ideal.ofBits .f32 0x3F077F5A#32

theorem pay1_at (v127 : FVec Ideal S1x1 .f32) (v129 : Vec Ideal S1x256x512 .f32) (v131 : Vec Ideal S1x1x512 .f32)
    (v136 : Vec Ideal S1x256x512 .f32) (v138 : Vec Ideal S1x1x512 .f32) (v157 : Vec Ideal S256x1 .f32) (c : Fin 512) (e : Fin 256) :
    k0_pay1 v127 (k0_pay65 v129) (k0_pay66 v131) k0_pay67 v136 v138 v157 (ix2 c e)
      = normed (ot (v127 (ix2 0 0)) (fun e => v129 (ix3 0 e c)) (v131 (ix3 0 0 c)) (fun e => v136 (ix3 0 e c)) (v138 (ix3 0 0 c)))
          (fun e => v157 (ix2 e 0)) e := by
  pointwise [k0_pay1, k0_pay65, k0_pay66, k0_pay67]
  rfl

variable (m : (ℓ : Loc nD τ sig) → Buf (Elt Ideal) ℓ)

/-- The three scratches. -/
abbrev W0 : View sig .tc .vmem S2x1x512 .f32 := View.whole cc0_scratch0
abbrev W1 : View sig .tc .vmem S2x1x512 .f32 := View.whole cc0_scratch1
abbrev W2 : View sig .tc .vmem S2x256x512 .f32 := View.whole cc0_scratch2

/-- The contents of the three scratches before the loop. -/
def G0 : BufTy.Contents (Elt Ideal) W0.ty :=
  W0.writes (Elt Ideal) W0.junk [⟨Rect.unit ![0, 0, 0] ![2, 1, 512] inb_S2x1x512_S2x1x512_0_0_0, k0_pay34 (F := Ideal)⟩]
def G1 : BufTy.Contents (Elt Ideal) W1.ty :=
  W1.writes (Elt Ideal) W1.junk [⟨Rect.unit ![0, 0, 0] ![2, 1, 512] inb_S2x1x512_S2x1x512_0_0_0, k0_pay35 (F := Ideal)⟩]
def G2 : BufTy.Contents (Elt Ideal) W2.ty :=
  W2.writes (Elt Ideal) W2.junk [⟨Rect.unit ![0, 0, 0] ![2, 256, 512] inb_S2x256x512_S2x256x512_0_0_0, k0_pay36 (F := Ideal)⟩]

/-- The slope a grid point reads: its head's. -/
def slope (c : Dev nD) (t : Fin cfg0.N) : Elt Ideal .f32 :=
  View.ld (Val := Elt Ideal) (iblk m c 0 t) (Rect.unit (s := S8) (k0_off1 (grid0.coords t)) S1.size (k0_off1_inb (grid0.coords t))) (Shape.Idx.first (by have := numel1_S1; show 0 < S1.numel; omega))

/-- What the loop stores in the three scratches. -/
def PP (c : Dev nD) (t : Fin cfg0.N) :=
  pb_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0 (Memref.isWhole_whole _) scM0_1
    (Memref.isWhole_whole _) scM0_2 (Memref.isWhole_whole _) (BitVec.ofNat 32 (grid0.coords t 2).val) (slope m c t)
    ((hs0_2 t).unread (iblk m c 2 t)) ((hs0_3 t).unread (iblk m c 3 t)) ((hs0_4 t).unread (iblk m c 4 t)) ((hs0_5 t).unread (iblk m c 5 t))
    G0 G1 G2 (grid0.coords t 2).val

/-- The running state after the loop: the maxima, the sums of weights and the sums of weighted values. -/
def M (c : Dev nD) (t : Fin cfg0.N) : Vec Ideal S2x1x512 .f32 :=
  W0.read (Elt Ideal) (W0.writes (Elt Ideal) G0 (PP m c t).1)
def L (c : Dev nD) (t : Fin cfg0.N) : Vec Ideal S2x1x512 .f32 :=
  W1.read (Elt Ideal) (W1.writes (Elt Ideal) G1 (PP m c t).2.1)
def A (c : Dev nD) (t : Fin cfg0.N) : Vec Ideal S2x256x512 .f32 :=
  W2.read (Elt Ideal) (W2.writes (Elt Ideal) G2 (PP m c t).2.2)

theorem trips1_raw (i : grid0.Coords) : Scf.trips 0#32 (Scalar.addi 0#32 (Scalar.muli (Scalar.divsi (Scalar.subi (BitVec.ofNat 32 (i 2).val) 0#32) 1#32) 1#32)) 1#32
    = (i 2).val := trips1_eq i

theorem trips2_raw (i : grid0.Coords) : Scf.trips (Scalar.addi 0#32 (Scalar.muli (Scalar.divsi (Scalar.subi (BitVec.ofNat 32 (i 2).val) 0#32) 1#32) 1#32))
    (Scalar.addi 0#32 (Scalar.subi (BitVec.ofNat 32 (i 2).val) 0#32)) 1#32 = 0 := trips2_eq i

theorem off6_eq (i : grid0.Coords) : k0_off6 i = ![512 * (i 2).val, 0] := by
  unfold k0_off6
  have h : ∀ n : Fin 8, ![(Scalar.indexCast (Scalar.muli (BitVec.ofNat 32 n.val) 512#32)).toNat, 0] = ![512 * n.val, 0] := by decide
  exact h (i 2)

theorem off7_eq (i : grid0.Coords) : k0_off7 i = ![0, 0, (i 2).val, 0, 0] := by
  unfold k0_off7
  have h : ∀ n : Fin 8, ![0, 0, (Scalar.indexCast (BitVec.ofNat 32 n.val)).toNat, 0, 0] = ![0, 0, n.val, 0, 0] := by decide
  exact h (i 2)

section reads

variable {κ : Kind} {sp : Space} (v1 : View sig κ sp S2x1x512 .f32) (v2 : View sig κ sp S2x256x512 .f32)

/-- A map's row of a scratch the loop and the fill before it wrote. -/
theorem cov1 (P : List (View.Piece (Elt Ideal) S2x1x512 .f32)) (w) (o : Fin 3 → ℕ) (mi : Fin 2) (ho : o = ![mi.val, 0, 0]) (inb) (q : Fin 512) :
    v1.readCov (P ++ [w]) (Rect.unit (s := S2x1x512) o S1x1x512.size inb).toLoadRect (ix3 0 0 q)
      = v1.read (Elt Ideal) (v1.writes (Elt Ideal) (v1.writes (Elt Ideal) v1.junk [w]) P) (ix3 mi 0 q) := by
  rw [← View.writes_append]
  exact one_load v1 _ o mi ho inb q

theorem cov1_skip (P : List (View.Piece (Elt Ideal) S2x1x512 .f32)) (w) (inb0 w0) (inb) (q : Fin 512) :
    v1.readCov (⟨Rect.unit ![0, 0, 0] ![1, 1, 512] inb0, w0⟩ :: (P ++ [w])) (Rect.unit (s := S2x1x512) ![1, 0, 0] S1x1x512.size inb).toLoadRect (ix3 0 0 q)
      = v1.read (Elt Ideal) (v1.writes (Elt Ideal) (v1.writes (Elt Ideal) v1.junk [w]) P) (ix3 1 0 q) := by
  rw [← View.writes_append]
  refine (one_load v1 _ _ 1 rfl inb q).trans ?_
  exact View.read_writes_cons_unit_of_not_mem v1 _ inb0 w0 _ _ rfl 0 (.inr (by simp [ix3]))

theorem cov2 (P : List (View.Piece (Elt Ideal) S2x256x512 .f32)) (w) (o : Fin 3 → ℕ) (mi : Fin 2) (ho : o = ![mi.val, 0, 0]) (inb) (e : Fin 256) (q : Fin 512) :
    v2.readCov (P ++ [w]) (Rect.unit (s := S2x256x512) o S1x256x512.size inb).toLoadRect (ix3 0 e q)
      = v2.read (Elt Ideal) (v2.writes (Elt Ideal) (v2.writes (Elt Ideal) v2.junk [w]) P) (ix3 mi e q) := by
  rw [← View.writes_append]
  exact many_load v2 _ o mi ho inb e q

theorem cov2_skip (P : List (View.Piece (Elt Ideal) S2x256x512 .f32)) (w) (inb0 w0) (inb) (e : Fin 256) (q : Fin 512) :
    v2.readCov (⟨Rect.unit ![0, 0, 0] ![1, 256, 512] inb0, w0⟩ :: (P ++ [w])) (Rect.unit (s := S2x256x512) ![1, 0, 0] S1x256x512.size inb).toLoadRect (ix3 0 e q)
      = v2.read (Elt Ideal) (v2.writes (Elt Ideal) (v2.writes (Elt Ideal) v2.junk [w]) P) (ix3 1 e q) := by
  rw [← View.writes_append]
  refine (many_load v2 _ _ 1 rfl inb e q).trans ?_
  exact View.read_writes_cons_unit_of_not_mem v2 _ inb0 w0 _ _ rfl 0 (.inr (by simp [ix3]))

/-- A map's row of a scratch the last tile's two stores wrote. -/
theorem top1_1 (inb1 inb0) (w1 w0 P) (inb) (q : Fin 512) :
    v1.readCov (Val := Elt Ideal) (⟨Rect.unit ![1, 0, 0] ![1, 1, 512] inb1, w1⟩ :: ⟨Rect.unit ![0, 0, 0] ![1, 1, 512] inb0, w0⟩ :: P)
      (Rect.unit (s := S2x1x512) ![1, 0, 0] S1x1x512.size inb).toLoadRect (ix3 0 0 q) = w1 (ix3 0 0 q) :=
  (one_load v1 _ _ 1 rfl inb q).trans (one_read1 v1 _ inb1 inb0 w1 w0 P q)

theorem top1_0 (inb1 inb0) (w1 w0 P) (inb) (q : Fin 512) :
    v1.readCov (Val := Elt Ideal) (⟨Rect.unit ![1, 0, 0] ![1, 1, 512] inb1, w1⟩ :: ⟨Rect.unit ![0, 0, 0] ![1, 1, 512] inb0, w0⟩ :: P)
      (Rect.unit (s := S2x1x512) ![0, 0, 0] S1x1x512.size inb).toLoadRect (ix3 0 0 q) = w0 (ix3 0 0 q) :=
  (one_load v1 _ _ 0 rfl inb q).trans (one_read0 v1 _ inb1 inb0 w1 w0 P q)

theorem top2_1 (inb1 inb0) (w1 w0 P) (inb) (e : Fin 256) (q : Fin 512) :
    v2.readCov (Val := Elt Ideal) (⟨Rect.unit ![1, 0, 0] ![1, 256, 512] inb1, w1⟩ :: ⟨Rect.unit ![0, 0, 0] ![1, 256, 512] inb0, w0⟩ :: P)
      (Rect.unit (s := S2x256x512) ![1, 0, 0] S1x256x512.size inb).toLoadRect (ix3 0 e q) = w1 (ix3 0 e q) :=
  (many_load v2 _ _ 1 rfl inb e q).trans (many_read1 v2 _ inb1 inb0 w1 w0 P e q)

theorem top2_0 (inb1 inb0) (w1 w0 P) (inb) (e : Fin 256) (q : Fin 512) :
    v2.readCov (Val := Elt Ideal) (⟨Rect.unit ![1, 0, 0] ![1, 256, 512] inb1, w1⟩ :: ⟨Rect.unit ![0, 0, 0] ![1, 256, 512] inb0, w0⟩ :: P)
      (Rect.unit (s := S2x256x512) ![0, 0, 0] S1x256x512.size inb).toLoadRect (ix3 0 e q) = w0 (ix3 0 e q) :=
  (many_load v2 _ _ 0 rfl inb e q).trans (many_read0 v2 _ inb1 inb0 w1 w0 P e q)

end reads

/-- The diagonal tile's scores. -/
def dsc (c : Dev nD) (t : Fin cfg0.N) (mi : Fin 2) (q : Fin 512) : Fin 512 → EReal :=
  score mi (iblk m c 3 t) (iblk m c 2 t) (iblk m c 6 t) (grid0.coords t 2) q

/-- The diagonal tile's values. -/
def dv (c : Dev nD) (t : Fin cfg0.N) (e : Fin 256) (r : Fin 512) : EReal := iblk m c 4 t (ix5 0 0 (grid0.coords t 2) e r)

/-- What a grid point writes. -/
theorem out_at (c : Dev nD) (t : Fin cfg0.N) (q : Fin 512) (e : Fin 256) :
    outsAt0 m c t (ix2 q e)
      = normed (ot (k0_pay64 (iblk m c 1 t) (ix2 0 0))
          (fun e => na 0 (dsc m c t 0 q) (M m c t (ix3 0 0 q)) (dv m c t e) (A m c t (ix3 0 e q)))
          (nl 0 (dsc m c t 0 q) (M m c t (ix3 0 0 q)) (L m c t (ix3 0 0 q)))
          (fun e => na 0 (dsc m c t 1 q) (M m c t (ix3 1 0 q)) (dv m c t e) (A m c t (ix3 1 e q)))
          (nl 0 (dsc m c t 1 q) (M m c t (ix3 1 0 q)) (L m c t (ix3 1 0 q))))
        (fun e => iblk m c 7 t (ix2 e 0)) e := by
  have hb : View.ld (Val := Elt Ideal) (iblk m c 6 t) (Rect.unit (s := S1x512x512) ![0, 0, 0] S1x512x512.size inb_S1x512x512_S1x512x512_0_0_0) = iblk m c 6 t := by
    funext x
    refine congrArg (iblk m c 6 t) (funext fun a => Fin.ext ?_)
    fin_cases a <;> simp
  have hs0 := fun r => (congrArg (fun z => sc 0 _ _ z q r) hb.symm).trans (sc_eq_score 0 _ _ _ (off6_eq (grid0.coords t)) rfl rfl (k0_off6_inb (grid0.coords t)) inb_S256x512_S128x512_0_0 inb_S1x512x512_S1x512x512_0_0_0 q r
    (X6 := iblk m c 3 t) (X5 := iblk m c 2 t) (X8 := iblk m c 6 t))
  have hs1 := fun r => (congrArg (fun z => sc 1 _ _ z q r) hb.symm).trans (sc_eq_score 1 _ _ _ (off6_eq (grid0.coords t)) rfl rfl (k0_off6_inb (grid0.coords t)) inb_S256x512_S128x512_128_0 inb_S1x512x512_S1x512x512_0_0_0 q r
    (X6 := iblk m c 3 t) (X5 := iblk m c 2 t) (X8 := iblk m c 6 t))
  rw [Cert.DiffAttnIdeal.Gen.outsAt0]
  frame_open
  frame_out
  simp only [trips2_raw, trips1_raw, pb_k0_t2.eq_1, List.nil_append]
  generalize hP : pb_k0_t1 (F := Ideal) _ _ _ _ _ _ _ _ _ _ _ _ _ _ _ _ _ _ _ _ _ _ _ _ _ _ _ _ _ _ _ _ _ _ _ _ _ _ = P
  have hP' : PP m c t = P := hP
  rw [pay1_at]
  have hv := fun e r => (ld_values (iblk m c 4 t) (off7_eq (grid0.coords t)) (k0_off7_inb (grid0.coords t)) e r)
  clear hP
  subst hP'
  refine congrFun (congrArg₂ normed ?_ rfl) e
  have m0 : ∀ inb, W0.readCov ((PP m c t).1 ++ [⟨Rect.unit ![0, 0, 0] ![2, 1, 512] inb_S2x1x512_S2x1x512_0_0_0, k0_pay34 (F := Ideal)⟩])
      (Rect.unit (s := S2x1x512) ![0, 0, 0] S1x1x512.size inb).toLoadRect (ix3 0 0 q) = M m c t (ix3 0 0 q) := fun inb =>
    cov1 _ _ _ _ 0 rfl inb q
  have l0 : ∀ inb, W1.readCov ((PP m c t).2.1 ++ [⟨Rect.unit ![0, 0, 0] ![2, 1, 512] inb_S2x1x512_S2x1x512_0_0_0, k0_pay35 (F := Ideal)⟩])
      (Rect.unit (s := S2x1x512) ![0, 0, 0] S1x1x512.size inb).toLoadRect (ix3 0 0 q) = L m c t (ix3 0 0 q) := fun inb =>
    cov1 _ _ _ _ 0 rfl inb q
  have a0 : ∀ inb e, W2.readCov ((PP m c t).2.2 ++ [⟨Rect.unit ![0, 0, 0] ![2, 256, 512] inb_S2x256x512_S2x256x512_0_0_0, k0_pay36 (F := Ideal)⟩])
      (Rect.unit (s := S2x256x512) ![0, 0, 0] S1x256x512.size inb).toLoadRect (ix3 0 e q) = A m c t (ix3 0 e q) := fun inb e =>
    cov2 _ _ _ _ 0 rfl inb e q
  refine congr (congr (congrArg₂ (ot _) (funext fun e => ?_) ?_) (funext fun e => ?_)) ?_
  · refine (top2_0 W2 _ _ _ _ _ _ _ _).trans ?_
    simp only [pay54_eq, pay51_eq, pay52_eq, pay62_at, pay47_at, pay45_at]
    exact congr (congr (congrArg₂ (na 0) (funext hs0) (m0 _)) (funext fun r => hv e r)) (a0 _ e)
  · refine (top1_0 W1 _ _ _ _ _ _ _).trans ?_
    simp only [pay53_eq, pay60_at, pay47_at]
    exact congr (congrArg₂ (nl 0) (funext hs0) (m0 _)) (l0 _)
  · refine (top2_1 W2 _ _ _ _ _ _ _ _).trans ?_
    simp only [pay62_at, pay48_at, pay45_at]
    exact congr (congr (congrArg₂ (na 0) (funext hs1) (cov1_skip _ _ _ _ _ _ _)) (funext fun r => hv e r)) (cov2_skip _ _ _ _ _ _ _ _)
  · refine (top1_1 W1 _ _ _ _ _ _ _).trans ?_
    simp only [pay60_at, pay48_at]
    exact congr (congrArg₂ (nl 0) (funext hs1) (cov1_skip _ _ _ _ _ _ _)) (cov1_skip _ _ _ _ _ _ _)

end Cert.DiffAttnIdeal.Point

end
-- ==== Proof.DiffAttn.Word.lean ====
/- The attention mask and the token distances, from 32-bit words to numbers. -/
module

public import proofs.«01_k».proof.Proof.DiffAttn.Math
public import Idealize.ShloMosaic.Lib.WordCmp

@[expose] public section

set_option maxRecDepth 16384

noncomputable section

namespace Cert.DiffAttnMath

open Idealize.ShloMosaic

/-- The sign of a word, as a word. -/
abbrev sgn (x : BitVec 32) : BitVec 32 := if x = 0 then 0 else if x.msb = true then -1 else 1

/-- The first position past the chunk of 64 the word lies in. -/
abbrev chunkEnd (x : BitVec 32) : BitVec 32 :=
  IntOp.muli (IntOp.addi (Scalar.select (IntOp.andi (IntOp.cmpi CmpIPredicate.ne (sgn x) (sgn 64#32))
    (IntOp.cmpi CmpIPredicate.ne (IntOp.remsi ArithUnit.host x 64#32) 0#32))
    (IntOp.subi (IntOp.divsi ArithUnit.host x 64#32) 1#32) (IntOp.divsi ArithUnit.host x 64#32)) 1#32) 64#32

theorem chunkEnd_eq : ∀ i : Fin 4096, chunkEnd (BitVec.ofNat 32 i.val) = BitVec.ofNat 32 ((i.val / 64 + 1) * 64) := by
  decide +kernel

/-- A position is seen when it lies before the end of the query's chunk. -/
theorem seen_iff (i j : Fin 4096) : IntOp.cmpi .slt (BitVec.ofNat 32 j.val) (chunkEnd (BitVec.ofNat 32 i.val)) = 1#1 ↔ j.val < (i.val / 64 + 1) * 64 := by
  rw [chunkEnd_eq]
  exact WordCmp.cmpi_slt_ofNat_eq_one_iff (by have := j.isLt; omega) (by have := i.isLt; omega)

theorem toInt_sub (a b : ℕ) (ha : a < 4096) (hb : b < 4096) : (IntOp.subi (BitVec.ofNat 32 a) (BitVec.ofNat 32 b)).toInt = (a : ℤ) - b := by
  have h : ∀ n : ℕ, n < 4096 → (BitVec.ofNat 32 n).toInt = n := fun n hn => by
    rw [BitVec.toInt_ofNat']
    simp only [Int.bmod]
    omega
  unfold IntOp.subi
  rw [BitVec.toInt_sub, h a ha, h b hb]
  simp only [Int.bmod]
  omega

/-- A signed distance as a real. -/
theorem diff_real (a b : ℕ) (ha : a < 4096) (hb : b < 4096) :
    (FloatOps.sitofp .f32 (IntOp.subi (BitVec.ofNat 32 a) (BitVec.ofNat 32 b)) : Ideal .f32) = (((a : ℝ) - b : ℝ) : EReal) := by
  show (((IntOp.subi (BitVec.ofNat 32 a) (BitVec.ofNat 32 b)).toInt : ℝ) : EReal) = _
  rw [toInt_sub a b ha hb]
  push_cast
  rfl

/-- A distance as a real. -/
theorem dist_real (a b : ℕ) (ha : a < 4096) (hb : b < 4096) :
    (FloatOps.sitofp .f32 (IntOp.absi (IntOp.subi (BitVec.ofNat 32 a) (BitVec.ofNat 32 b))) : Ideal .f32) = ((|(a : ℝ) - b| : ℝ) : EReal) := by
  have h := toInt_sub a b ha hb
  have e : (IntOp.absi (IntOp.subi (BitVec.ofNat 32 a) (BitVec.ofNat 32 b))).toInt = |(a : ℤ) - b| := by
    unfold IntOp.absi
    rw [BitVec.msb_eq_toInt, h]
    split_ifs with hc
    · have hc' := of_decide_eq_true hc
      rw [BitVec.toInt_neg, h, abs_of_neg hc']
      simp only [Int.bmod]
      omega
    · have hc' : ¬ ((a : ℤ) - b < 0) := by simpa using hc
      rw [h, abs_of_nonneg (by omega)]
  show (((IntOp.absi (IntOp.subi (BitVec.ofNat 32 a) (BitVec.ofNat 32 b))).toInt : ℝ) : EReal) = _
  rw [e]
  push_cast
  rfl

end Cert.DiffAttnMath

end
-- ==== Proof.DiffAttn.Blocks.lean ====
/- The differential attention kernel: its blocks, read at one index. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Body
public import proofs.«01_k».proof.Proof.DiffAttn.Word

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

open Cert.DiffAttnMath

variable (m : (ℓ : Loc nD τ sig) → Buf (Elt Ideal) ℓ)

/-- The queries, the keys, the values, the lambda parameters and the gain. -/
abbrev Xq (c : Dev nD) : FVec Ideal S16384x2048 .bf16 := m ((c : Thread nD τ).loc main_arg0)
abbrev Xk (c : Dev nD) : FVec Ideal S16384x2048 .bf16 := m ((c : Thread nD τ).loc main_arg1)
abbrev Xv (c : Dev nD) : FVec Ideal S16384x2048 .bf16 := m ((c : Thread nD τ).loc main_arg2)
abbrev Xl (c : Dev nD) : FVec Ideal S4x128 .f32 := m ((c : Thread nD τ).loc main_arg3)
abbrev Xg (c : Dev nD) : FVec Ideal S256 .f32 := m ((c : Thread nD τ).loc main_arg4)

/-- One over the logarithm of two. -/
def il2 : EReal := Ideal.div 1 (Ideal.log (Ideal.ofBits .f32 0x40000000#32))

/-- A head's slope. -/
def sl (h : Fin 8) : EReal :=
  Ideal.exp (Ideal.ofBits .f32 0x3F317218#32 * Ideal.div (Ideal.ofBits .f32 0xC1000000#32 * ((FloatOps.sitofp .f32 (BitVec.ofNat 32 h.val) : Ideal .f32) + 1))
    (Ideal.ofBits .f32 0x41000000#32))

/-- Where a value lies in the flat array. -/
def vix (b : Fin 4) (h j : Fin 8) (e : Fin 256) (r : Fin 512) : S16384x2048.Idx :=
  ix2 (⟨b.val * 4096 + (512 * j.val + r.val), by omega⟩ : Fin 16384) (⟨h.val * 256 + e.val, by omega⟩ : Fin 2048)

/-- The queries, scaled, the tokens last. -/
theorem qt_eq (c : Dev nD) : (V m c main_v53 : FVec Ideal S2048x16384 .bf16) = fun z => Xq m c (ix2 (z 1) (z 0)) * (Ideal.ofBits .f32 0x3DB504F3#32 * il2) := by
  simp only [V, hostOps0, hostOps0_1, hostOps0_2, hostOps0_3, hostOps0_4, List.flatten_cons, List.flatten_nil, List.cons_append, List.nil_append, List.append_nil]
  entry_read
  funext z
  obtain ⟨y, x, rfl⟩ : ∃ (y : Fin 2048) (x : Fin 16384), z = ix2 y x := ⟨z 0, z 1, by funext a; match a with | ⟨0, _⟩ => rfl | ⟨1, _⟩ => rfl⟩
  pointwise []
  rfl

/-- The values by head and tile, the tokens last. -/
theorem vt_eq (c : Dev nD) : (V m c main_v55 : FVec Ideal S4x8x8x256x512 .bf16) = fun z => Xv m c (vix (z 0) (z 1) (z 2) (z 3) (z 4)) := by
  simp only [V, hostOps0, hostOps0_1, hostOps0_2, hostOps0_3, hostOps0_4, List.flatten_cons, List.flatten_nil, List.cons_append, List.nil_append, List.append_nil]
  entry_read
  funext z
  obtain ⟨b, h, j, e, r, rfl⟩ : ∃ (b : Fin 4) (h : Fin 8) (j : Fin 8) (e : Fin 256) (r : Fin 512), z = ix5 b h j e r := ⟨z 0, z 1, z 2, z 3, z 4, by funext a; match a with | ⟨0, _⟩ => rfl | ⟨1, _⟩ => rfl | ⟨2, _⟩ => rfl | ⟨3, _⟩ => rfl | ⟨4, _⟩ => rfl⟩
  pointwise []
  refine congrArg (Xv m c) (congrArg₂ ix2 (Fin.ext ?_) (Fin.ext ?_))
  · show b.val * 4096 + j.val * 512 + r.val = b.val * 4096 + (512 * j.val + r.val)
    omega
  · rfl

/-- The bias of a tile before the diagonal. -/
theorem boff_eq (c : Dev nD) : (V m c main_v43 : FVec Ideal S8x512x512 .f32) = fun z => -(sl (z 0) * il2) * (FloatOps.sitofp .f32 (IntOp.subi (BitVec.ofNat 32 (z 2).val) (BitVec.ofNat 32 (z 1).val)) : Ideal .f32) := by
  simp only [V, hostOps0, hostOps0_1, hostOps0_2, hostOps0_3, hostOps0_4, List.flatten_cons, List.flatten_nil, List.cons_append, List.nil_append, List.append_nil]
  entry_read
  funext z
  obtain ⟨h, r, q, rfl⟩ : ∃ (h : Fin 8) (r : Fin 512) (q : Fin 512), z = ix3 h r q := ⟨z 0, z 1, z 2, by funext a; match a with | ⟨0, _⟩ => rfl | ⟨1, _⟩ => rfl | ⟨2, _⟩ => rfl⟩
  pointwise []
  rfl

/-- The bias of the diagonal tile: minus infinity where the key is not seen. -/
theorem bdiag_eq (c : Dev nD) : (V m c main_v52 : FVec Ideal S8x512x512 .f32) = fun z => (Scalar.select (IntOp.cmpi .slt (BitVec.ofNat 32 (z 1).val) (chunkEnd (BitVec.ofNat 32 (z 2).val)))
    (-(sl (z 0) * il2) * (FloatOps.sitofp .f32 (IntOp.absi (IntOp.subi (BitVec.ofNat 32 (z 2).val) (BitVec.ofNat 32 (z 1).val))) : Ideal .f32)) (Ideal.ofBits .f32 0xFF800000#32) : EReal) := by
  simp only [V, hostOps0, hostOps0_1, hostOps0_2, hostOps0_3, hostOps0_4, List.flatten_cons, List.flatten_nil, List.cons_append, List.nil_append, List.append_nil]
  entry_read
  simp only [StableHlo.TRef.ofBuf, StableHlo.TRef.toBuf, cast_eq, id_eq]
  funext z
  obtain ⟨h, r, q, rfl⟩ : ∃ (h : Fin 8) (r : Fin 512) (q : Fin 512), z = ix3 h r q := ⟨z 0, z 1, z 2, by funext a; match a with | ⟨0, _⟩ => rfl | ⟨1, _⟩ => rfl | ⟨2, _⟩ => rfl⟩
  pointwise []
  rfl

/-- The step of the bias from tile to tile. -/
theorem sl_eq (c : Dev nD) : (V m c main_v57 : FVec Ideal S8 .f32) = fun z => sl (z 0) * il2 * Ideal.ofBits .f32 0x44000000#32 := by
  simp only [V, hostOps0, hostOps0_1, hostOps0_2, hostOps0_3, hostOps0_4, List.flatten_cons, List.flatten_nil, List.cons_append, List.nil_append, List.append_nil]
  entry_read
  funext z
  obtain ⟨h, rfl⟩ : ∃ (h : Fin 8), z = ix1 h := ⟨z 0, by funext a; match a with | ⟨0, _⟩ => rfl⟩
  pointwise []
  rfl

/-- The gain as a column. -/
theorem g_eq (c : Dev nD) : (V m c main_v58 : FVec Ideal S256x1 .f32) = fun z => Xg m c (ix1 (z 0)) := by
  simp only [V, hostOps0, hostOps0_1, hostOps0_2, hostOps0_3, hostOps0_4, List.flatten_cons, List.flatten_nil, List.cons_append, List.nil_append, List.append_nil]
  entry_read
  funext z
  obtain ⟨e, o, rfl⟩ : ∃ (e : Fin 256) (o : Fin 1), z = ix2 e o := ⟨z 0, z 1, by funext a; match a with | ⟨0, _⟩ => rfl | ⟨1, _⟩ => rfl⟩
  pointwise []

/-- A point's coordinates and its blocks. -/
theorem idx : ∀ t : Fin cfg0.N, ((grid0.coords t 2).val = t.val % 8 ∧ (grid0.coords t 1).val = t.val / 8 % 8) ∧
    win0_0.index t = ![0] ∧ win0_1.index t = ![0, 0] ∧ win0_2.index t = ![t.val / 8 % 8, 8 * (t.val / 64) + t.val % 8]
    ∧ win0_3.index t = ![t.val / 64, t.val / 8 % 8] ∧ win0_4.index t = ![t.val / 64, t.val / 8 % 8, 0, 0, 0] ∧ win0_5.index t = ![t.val / 8 % 8, 0, 0]
    ∧ win0_6.index t = ![t.val / 8 % 8, 0, 0] ∧ win0_7.index t = ![0, 0] ∧ win0_8.index t = ![8 * (t.val / 64) + t.val % 8, t.val / 8 % 8] :=
  (by decide +kernel : ∀ t : Fin grid0.N, _)

theorem idx_at (b : Fin 4) (h i : Fin 8) (ht : 64 * b.val + 8 * h.val + i.val < cfg0.N) :
    win0_0.index ⟨64 * b.val + 8 * h.val + i.val, ht⟩ = ![0] ∧ win0_1.index ⟨64 * b.val + 8 * h.val + i.val, ht⟩ = ![0, 0]
    ∧ win0_2.index ⟨64 * b.val + 8 * h.val + i.val, ht⟩ = ![h.val, 8 * b.val + i.val]
    ∧ win0_3.index ⟨64 * b.val + 8 * h.val + i.val, ht⟩ = ![b.val, h.val] ∧ win0_4.index ⟨64 * b.val + 8 * h.val + i.val, ht⟩ = ![b.val, h.val, 0, 0, 0]
    ∧ win0_5.index ⟨64 * b.val + 8 * h.val + i.val, ht⟩ = ![h.val, 0, 0] ∧ win0_6.index ⟨64 * b.val + 8 * h.val + i.val, ht⟩ = ![h.val, 0, 0]
    ∧ win0_7.index ⟨64 * b.val + 8 * h.val + i.val, ht⟩ = ![0, 0] ∧ win0_8.index ⟨64 * b.val + 8 * h.val + i.val, ht⟩ = ![8 * b.val + i.val, h.val] := by
  have i1 := (idx ⟨64 * b.val + 8 * h.val + i.val, ht⟩).2
  have hd : (64 * b.val + 8 * h.val + i.val) / 64 = b.val := by omega
  have hm : (64 * b.val + 8 * h.val + i.val) % 8 = i.val := by omega
  have hh : (64 * b.val + 8 * h.val + i.val) / 8 % 8 = h.val := by omega
  simpa only [hd, hm, hh] using i1

/-- The query tile and the head of a point. -/
theorem coords_at (b : Fin 4) (h i : Fin 8) (ht : 64 * b.val + 8 * h.val + i.val < cfg0.N) :
    grid0.coords ⟨64 * b.val + 8 * h.val + i.val, ht⟩ 2 = i ∧ grid0.coords ⟨64 * b.val + 8 * h.val + i.val, ht⟩ 1 = h := by
  have i1 := (idx ⟨64 * b.val + 8 * h.val + i.val, ht⟩).1
  exact ⟨Fin.ext (i1.1.trans (by show (64 * b.val + 8 * h.val + i.val) % 8 = i.val; omega)),
    Fin.ext (i1.2.trans (by show (64 * b.val + 8 * h.val + i.val) / 8 % 8 = h.val; omega))⟩

/-- A query entry of the point's block. -/
theorem q_blk (c : Dev nD) (b : Fin 4) (h i : Fin 8) (ht : 64 * b.val + 8 * h.val + i.val < cfg0.N) (y : Fin 256) (q : Fin 512) :
    (show FVec Ideal S256x512 .bf16 from iblk m c 2 ⟨64 * b.val + 8 * h.val + i.val, ht⟩) (ix2 y q) = Xq m c (ix2 (⟨b.val * 4096 + (512 * i.val + q.val), by omega⟩ : Fin 16384) (⟨h.val * 256 + y.val, by omega⟩ : Fin 2048)) * (Ideal.ofBits .f32 0x3DB504F3#32 * il2) := by
  have i1 := idx_at b h i ht
  have hx : ((cfg0.win 2).blk ⟨64 * b.val + 8 * h.val + i.val, ht⟩).view.emb (ix2 y q) = ix2 (⟨h.val * 256 + y.val, by omega⟩ : Fin 2048) (⟨b.val * 4096 + (512 * i.val + q.val), by omega⟩ : Fin 16384) := by
    blk_ext [i1]
  refine (congrArg (V m c main_v53) hx).trans ?_
  exact congrFun (qt_eq m c) _

/-- A key entry of the point's block. -/
theorem k_blk (c : Dev nD) (b : Fin 4) (h i : Fin 8) (ht : 64 * b.val + 8 * h.val + i.val < cfg0.N) (x : Fin 4096) (y : Fin 256) :
    (show FVec Ideal S4096x256 .bf16 from iblk m c 3 ⟨64 * b.val + 8 * h.val + i.val, ht⟩) (ix2 x y)
      = Xk m c (ix2 (⟨b.val * 4096 + x.val, by omega⟩ : Fin 16384) (⟨h.val * 256 + y.val, by omega⟩ : Fin 2048)) := by
  have i1 := idx_at b h i ht
  have hx : ((cfg0.win 3).blk ⟨64 * b.val + 8 * h.val + i.val, ht⟩).view.emb (ix2 x y)
      = ix2 (⟨b.val * 4096 + x.val, by omega⟩ : Fin 16384) (⟨h.val * 256 + y.val, by omega⟩ : Fin 2048) := by
    blk_ext [i1]
  refine (congrArg (V m c main_arg1) hx).trans ?_
  exact congrFun (V_main_arg1 m c) _

set_option maxHeartbeats 2000000 in
/-- A value entry of the point's block. -/
theorem v_blk (c : Dev nD) (b : Fin 4) (h i : Fin 8) (ht : 64 * b.val + 8 * h.val + i.val < cfg0.N) (j : Fin 8) (e : Fin 256) (r : Fin 512) :
    (show FVec Ideal S1x1x8x256x512 .bf16 from iblk m c 4 ⟨64 * b.val + 8 * h.val + i.val, ht⟩) (ix5 0 0 j e r) = Xv m c (vix b h j e r) := by
  have i1 := idx_at b h i ht
  have hx : ((cfg0.win 4).blk ⟨64 * b.val + 8 * h.val + i.val, ht⟩).view.emb (ix5 0 0 j e r) = ix5 b h j e r := by
    blk_ext [i1]
  refine (congrArg (V m c main_v55) hx).trans ?_
  exact congrFun (vt_eq m c) _

/-- A bias entry of a tile before the diagonal. -/
theorem off_blk (c : Dev nD) (b : Fin 4) (h i : Fin 8) (ht : 64 * b.val + 8 * h.val + i.val < cfg0.N) (r q : Fin 512) :
    (show FVec Ideal S1x512x512 .f32 from iblk m c 5 ⟨64 * b.val + 8 * h.val + i.val, ht⟩) (ix3 0 r q) = -(sl h * il2) * (FloatOps.sitofp .f32 (IntOp.subi (BitVec.ofNat 32 q.val) (BitVec.ofNat 32 r.val)) : Ideal .f32) := by
  have i1 := idx_at b h i ht
  have hx : ((cfg0.win 5).blk ⟨64 * b.val + 8 * h.val + i.val, ht⟩).view.emb (ix3 0 r q) = ix3 h r q := by
    blk_ext [i1]
  refine (congrArg (V m c main_v43) hx).trans ?_
  exact congrFun (boff_eq m c) _

/-- A bias entry of the diagonal tile. -/
theorem diag_blk (c : Dev nD) (b : Fin 4) (h i : Fin 8) (ht : 64 * b.val + 8 * h.val + i.val < cfg0.N) (r q : Fin 512) :
    (show FVec Ideal S1x512x512 .f32 from iblk m c 6 ⟨64 * b.val + 8 * h.val + i.val, ht⟩) (ix3 0 r q) = (Scalar.select (IntOp.cmpi .slt (BitVec.ofNat 32 r.val) (chunkEnd (BitVec.ofNat 32 q.val)))
    (-(sl h * il2) * (FloatOps.sitofp .f32 (IntOp.absi (IntOp.subi (BitVec.ofNat 32 q.val) (BitVec.ofNat 32 r.val))) : Ideal .f32)) (Ideal.ofBits .f32 0xFF800000#32) : EReal) := by
  have i1 := idx_at b h i ht
  have hx : ((cfg0.win 6).blk ⟨64 * b.val + 8 * h.val + i.val, ht⟩).view.emb (ix3 0 r q) = ix3 h r q := by
    blk_ext [i1]
  refine (congrArg (V m c main_v52) hx).trans ?_
  exact congrFun (bdiag_eq m c) _

/-- A gain entry. -/
theorem g_blk (c : Dev nD) (b : Fin 4) (h i : Fin 8) (ht : 64 * b.val + 8 * h.val + i.val < cfg0.N) (e : Fin 256) :
    (show FVec Ideal S256x1 .f32 from iblk m c 7 ⟨64 * b.val + 8 * h.val + i.val, ht⟩) (ix2 e 0) = Xg m c (ix1 e) := by
  have i1 := idx_at b h i ht
  have hx : ((cfg0.win 7).blk ⟨64 * b.val + 8 * h.val + i.val, ht⟩).view.emb (ix2 e 0) = ix2 e (0 : Fin 1) := by
    blk_ext [i1]
  refine (congrArg (V m c main_v58) hx).trans ?_
  exact congrFun (g_eq m c) _

/-- A lambda parameter. -/
theorem l_blk (c : Dev nD) (b : Fin 4) (h i : Fin 8) (ht : 64 * b.val + 8 * h.val + i.val < cfg0.N) (y : Fin 4) (x : Fin 128) :
    (show FVec Ideal S4x128 .f32 from iblk m c 1 ⟨64 * b.val + 8 * h.val + i.val, ht⟩) (ix2 y x) = Xl m c (ix2 y x) := by
  have i1 := idx_at b h i ht
  blk_point [iblk, V, i1]

/-- The weight of the second map. -/
theorem lam_at (X : FVec Ideal S4x128 .f32) : k0_pay64 (F := Ideal) X (ix2 0 0)
    = Ideal.exp (∑ x, X (ix2 0 x) * X (ix2 1 x)) - Ideal.exp (∑ x, X (ix2 2 x) * X (ix2 3 x)) + Ideal.ofBits .f32 0x3EF1014C#32 := by
  pointwise [k0_pay64]

/-- The step of the bias a point reads. -/
theorem slope_at (c : Dev nD) (b : Fin 4) (h i : Fin 8) (ht : 64 * b.val + 8 * h.val + i.val < cfg0.N) :
    slope m c ⟨64 * b.val + 8 * h.val + i.val, ht⟩ = sl h * il2 * Ideal.ofBits .f32 0x44000000#32 := by
  have i1 := idx_at b h i ht
  have hc := (coords_at b h i ht).2
  have ho : ∀ h : Fin 8, (Scalar.indexCast (BitVec.ofNat 32 h.val)).toNat = h.val := by decide
  have hx : ((cfg0.win 0).blk ⟨64 * b.val + 8 * h.val + i.val, ht⟩).view.emb (ix1 h) = ix1 h := by
    blk_ext [i1]
  have hy : (Rect.unit (s := S8) (k0_off1 (grid0.coords ⟨64 * b.val + 8 * h.val + i.val, ht⟩)) S1.size (k0_off1_inb _)).emb (Shape.Idx.first (by have := numel1_S1; show 0 < S1.numel; omega)) = ix1 h := by
    funext a
    refine Fin.ext ?_
    fin_cases a
    simp [k0_off1, hc, ho]
  unfold slope
  refine (congrArg (iblk m c 0 ⟨64 * b.val + 8 * h.val + i.val, ht⟩) hy).trans ?_
  refine (congrArg (V m c main_v57) hx).trans ?_
  exact congrFun (sl_eq m c) _

end Cert.DiffAttnIdeal.Point

end
-- ==== Proof.DiffAttn.Ref.lean ====
/- The differential attention reference, read at one index. -/
module

public import proofs.«01_k».proof.Proof.Gen.DiffAttnRefIdeal.Read
public import proofs.«01_k».proof.Proof.DiffAttn.Word
public import Idealize.ShloMosaic.Lib.Pointwise

@[expose] public section

set_option maxRecDepth 16384

noncomputable section

namespace Cert.DiffAttnRefIdeal.Point

open Cert.DiffAttnRefIdeal Cert.DiffAttnRefIdeal.Gen Cert.DiffAttnRefIdeal.Read Idealize.ShloMosaic Idealize.ShloMosaic.TcCoe Idealize.SL.Sem

variable (q k v : FVec Ideal S16384x2048 .bf16) (l : FVec Ideal S4x128 .f32) (g : FVec Ideal S256 .f32)

/-- A token's row and a head's column in the flat arrays. -/
abbrev row (b : Fin 4) (i : Fin 4096) : Fin 16384 := ⟨b.val * 4096 + i.val, by omega⟩
abbrev col (h : Fin 8) (e : Fin 256) : Fin 2048 := ⟨h.val * 256 + e.val, by omega⟩
abbrev col2 (h : Fin 8) (mi : Fin 2) (x : Fin 128) : Fin 2048 := ⟨h.val * 256 + mi.val * 128 + x.val, by omega⟩

/-- A scaled product of a query with a key. -/
theorem dot_at (b : Fin 4) (h : Fin 8) (mi : Fin 2) (i j : Fin 4096) : val_main_v36 (F := Ideal) q k (ix5 b h mi i j)
    = (∑ x, q (ix2 (row b i) (col2 h mi x)) * k (ix2 (row b j) (col2 h mi x))) * Ideal.ofBits .f32 0x3DB504F3#32 := by
  pointwise [val_main_v34, val_main_v35, val_main_v36, val_main_v0, val_main_v1, val_main_v2, val_main_v3, val_main_cst_6]

/-- The weight of the second map. -/
theorem lam_at : val_main_v21 (F := Ideal) l ix0
    = Ideal.exp (∑ x, l (ix2 0 x) * l (ix2 1 x)) - Ideal.exp (∑ x, l (ix2 2 x) * l (ix2 3 x)) + Ideal.ofBits .f32 0x3EF1014C#32 := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1]

/-- A head's slope. -/
theorem slope_at (h : Fin 8) : val_main_v33 (F := Ideal) (ix1 h)
    = Ideal.exp (Ideal.ofBits .f32 0x3F317218#32 * Ideal.div (Ideal.ofBits .f32 0xC1000000#32 * ((FloatOps.sitofp .f32 (BitVec.ofNat 32 h.val) : Ideal .f32) + 1))
        (Ideal.ofBits .f32 0x41000000#32)) := by
  pointwise [val_main_v24, val_main_v25, val_main_v26, val_main_v27, val_main_v28, val_main_v29, val_main_v30, val_main_v31, val_main_v32, val_main_v33, val_main_cst_2, val_main_cst_3, val_main_cst_4, val_main_cst_5]

/-- The distance of two tokens. -/
theorem dist_at (i j : Fin 4096) : val_main_v43 (F := Ideal) (ix2 i j) = ((|(i.val : ℝ) - j.val| : ℝ) : EReal) := by
  rw [← Cert.DiffAttnMath.dist_real i.val j.val i.isLt j.isLt]
  pointwise [val_main_v22, val_main_v23, val_main_v37, val_main_v38, val_main_v39, val_main_v40, val_main_v41, val_main_v42, val_main_v43]

/-- A key is seen when it lies before the end of the query's chunk. -/
theorem mask_at (i j : Fin 4096) : val_main_v53 (F := Ideal) (ix2 i j) = 1#1 ↔ j.val < (i.val / 64 + 1) * 64 := by
  rw [← Cert.DiffAttnMath.seen_iff i j]
  have e : val_main_v53 (F := Ideal) (ix2 i j) = IntOp.cmpi .slt (BitVec.ofNat 32 j.val) (Cert.DiffAttnMath.chunkEnd (BitVec.ofNat 32 i.val)) := by
    pointwise [val_main_v22, val_main_v23, val_main_v44, val_main_v45, val_main_v46, val_main_v47, val_main_v48, val_main_v49, val_main_v50, val_main_v51, val_main_v52, val_main_v53, val_main_c, val_main_call0_c, val_main_call0_c_0, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_c_7, val_main_c_8]
    rfl
  rw [e]

theorem sel_at (b : Fin 4) (h : Fin 8) (mi : Fin 2) (i j : Fin 4096) : val_main_v62 (F := Ideal) q k (ix5 b h mi i j)
    = Scalar.select (val_main_v53 (F := Ideal) (ix2 i j)) (val_main_v61 (F := Ideal) q k (ix5 b h mi i j)) (val_main_call1_v2 (F := Ideal) (ix5 b h mi i j)) := by
  pointwise [val_main_v62, val_main_call1_v1]

theorem hidden_at (b : Fin 4) (h : Fin 8) (mi : Fin 2) (i j : Fin 4096) : val_main_call1_v2 (F := Ideal) (ix5 b h mi i j) = Ideal.ofBits .f32 0xFF800000#32 := by
  pointwise [val_main_call1_v2, val_main_call1_v0, val_main_cst_9]
  rfl

theorem biased_at (b : Fin 4) (h : Fin 8) (mi : Fin 2) (i j : Fin 4096) : val_main_v61 (F := Ideal) q k (ix5 b h mi i j)
    = val_main_v36 (F := Ideal) q k (ix5 b h mi i j) - val_main_v33 (F := Ideal) (ix1 h) * val_main_v43 (F := Ideal) (ix2 i j) := by
  pointwise [val_main_v54, val_main_v55, val_main_v56, val_main_v57, val_main_v58, val_main_v59, val_main_v60, val_main_v61]

theorem select_one (a b : EReal) : Scalar.select 1#1 a b = a := rfl

theorem select_zero (x : BitVec 1) (hx : x ≠ 1#1) (a b : EReal) : Scalar.select x a b = b := if_neg hx

/-- The score of a key that is seen. -/
theorem seen_at (b : Fin 4) (h : Fin 8) (mi : Fin 2) (i j : Fin 4096) (hm : j.val < (i.val / 64 + 1) * 64) : val_main_v62 (F := Ideal) q k (ix5 b h mi i j)
    = val_main_v36 (F := Ideal) q k (ix5 b h mi i j) - val_main_v33 (F := Ideal) (ix1 h) * val_main_v43 (F := Ideal) (ix2 i j) := by
  rw [sel_at, (mask_at i j).2 hm, biased_at]
  exact select_one _ _

/-- The score of a key that is not seen. -/
theorem unseen_at (b : Fin 4) (h : Fin 8) (mi : Fin 2) (i j : Fin 4096) (hm : ¬ j.val < (i.val / 64 + 1) * 64) : val_main_v62 (F := Ideal) q k (ix5 b h mi i j)
    = Ideal.ofBits .f32 0xFF800000#32 := by
  rw [sel_at, hidden_at]
  exact select_zero _ (fun e => hm ((mask_at i j).1 e)) _ _

/-- The first map's weights. -/
theorem map0_at (b : Fin 4) (h : Fin 8) (i j : Fin 4096) : val_main_v75 (F := Ideal) q k (ix4 b h i j) = val_main_v73 (F := Ideal) q k (ix5 b h 0 i j) := by
  have e : val_main_v75 (F := Ideal) q k (ix4 b h i j) = val_main_v74 (F := Ideal) q k (ix5 b h 0 i j) := by
    unfold val_main_v75
    generalize val_main_v74 (F := Ideal) q k = y
    refine shapeCast_apply y shapeCasts_S4x8x1x4096x4096_S4x8x4096x4096 (ix4 b h i j) (ix5 b h 0 i j) ?_
    rw [Shape.rowMajor_val_five, Shape.rowMajor_val_four]
    show ((((b.val * 8 + h.val) * 1 + 0) * 4096 + i.val) * 4096 + j.val) = (((b.val * 8 + h.val) * 4096 + i.val) * 4096 + j.val)
    omega
  rw [e]
  pointwise [val_main_v74]

/-- The second map's weights. -/
theorem map1_at (b : Fin 4) (h : Fin 8) (i j : Fin 4096) : val_main_v77 (F := Ideal) q k (ix4 b h i j) = val_main_v73 (F := Ideal) q k (ix5 b h 1 i j) := by
  have e : val_main_v77 (F := Ideal) q k (ix4 b h i j) = val_main_v76 (F := Ideal) q k (ix5 b h 0 i j) := by
    unfold val_main_v77
    generalize val_main_v76 (F := Ideal) q k = y
    refine shapeCast_apply y shapeCasts_S4x8x1x4096x4096_S4x8x4096x4096 (ix4 b h i j) (ix5 b h 0 i j) ?_
    rw [Shape.rowMajor_val_five, Shape.rowMajor_val_four]
    show ((((b.val * 8 + h.val) * 1 + 0) * 4096 + i.val) * 4096 + j.val) = (((b.val * 8 + h.val) * 4096 + i.val) * 4096 + j.val)
    omega
  rw [e]
  pointwise [val_main_v76]

/-- A value. -/
theorem value_at (b : Fin 4) (h : Fin 8) (j : Fin 4096) (e : Fin 256) : val_main_v5 (F := Ideal) v (ix4 b j h e) = v (ix2 (row b j) (col h e)) := by
  pointwise [val_main_v4, val_main_v5]

/-- A difference of the two maps. -/
theorem diff_at (b : Fin 4) (h : Fin 8) (i j : Fin 4096) : val_main_v80 (F := Ideal) q k l (ix4 b h i j)
    = val_main_v73 (F := Ideal) q k (ix5 b h 0 i j) - val_main_v21 (F := Ideal) l ix0 * val_main_v73 (F := Ideal) q k (ix5 b h 1 i j) := by
  have e78 : val_main_v78 (F := Ideal) l (ix4 b h i j) = val_main_v21 (F := Ideal) l ix0 :=
    (val_main_v78_apply _ _).trans (congrArg (val_main_v21 (F := Ideal) l) (funext fun a => a.elim0))
  rw [val_main_v80_apply, val_main_v79_apply, e78, map0_at, map1_at]
  generalize val_main_v73 (F := Ideal) q k (ix5 b h 0 i j) = x
  generalize val_main_v73 (F := Ideal) q k (ix5 b h 1 i j) = y
  generalize val_main_v21 (F := Ideal) l ix0 = z
  rfl

/-- The difference of the maps over the values. -/
theorem av_at (b : Fin 4) (h : Fin 8) (i : Fin 4096) (e : Fin 256) : val_main_v81 (F := Ideal) q k v l (ix4 b h e i)
    = ∑ j : Fin 4096, val_main_v5 (F := Ideal) v (ix4 b j h e) * val_main_v80 (F := Ideal) q k l (ix4 b h i j) := by
  pointwise [val_main_v81]

theorem head_at (b : Fin 4) (h : Fin 8) (i : Fin 4096) (e : Fin 256) : val_main_v82 (F := Ideal) q k v l (ix4 b i h e) = val_main_v81 (F := Ideal) q k v l (ix4 b h e i) := by
  pointwise [val_main_v82]

/-- A head vector over its root mean square. -/
theorem norm_at (b : Fin 4) (h : Fin 8) (i : Fin 4096) (e : Fin 256) : val_main_v97 (F := Ideal) q k v l g (ix4 b i h e)
    = val_main_v82 (F := Ideal) q k v l (ix4 b i h e) * Ideal.rsqrt (Ideal.div (∑ x, val_main_v82 (F := Ideal) q k v l (ix4 b i h x) * val_main_v82 (F := Ideal) q k v l (ix4 b i h x))
          (Ideal.ofBits .f32 0x43800000#32) + Ideal.ofBits .f32 0x358637BD#32) * g (ix1 e) * Ideal.ofBits .f32 0x3F077F5A#32 := by
  pointwise [val_main_v83, val_main_v84, val_main_v85, val_main_v86, val_main_v87, val_main_v88, val_main_v89, val_main_v90, val_main_v91, val_main_v92, val_main_v93, val_main_v94, val_main_v95, val_main_v96, val_main_v97, val_main_cst_13, val_main_cst_14, val_main_cst_15, val_main_cst_16]

/-- The result. -/
theorem ref_at (b : Fin 4) (h : Fin 8) (i : Fin 4096) (e : Fin 256) : val_main_v99 (F := Ideal) q k v l g (ix2 (⟨b.val * 4096 + i.val, by omega⟩ : Fin 16384) (⟨h.val * 256 + e.val, by omega⟩ : Fin 2048))
    = val_main_v97 (F := Ideal) q k v l g (ix4 b i h e) := by
  pointwise [val_main_v98, val_main_v99]

end Cert.DiffAttnRefIdeal.Point

end
-- ==== Proof.DiffAttn.Link.lean ====
/- The kernel's scores against the reference's, as real numbers: the kernel's are divided by `log 2`, and its bias is split into a
   table and a number per tile. -/
module

public import proofs.«01_k».proof.Proof.DiffAttn.Math

@[expose] public section

noncomputable section

namespace Cert.DiffAttnMath

open Idealize.ShloMosaic

theorem lit_scale : ∃ r : ℝ, Ideal.ofBits .f32 0x3DB504F3#32 = r := ⟨_, by simp [Ideal.ofBits, Ideal.ieee, -EReal.coe_mul]; rfl⟩
theorem lit_log2 : ∃ r : ℝ, Ideal.ofBits .f32 0x3F317218#32 = r := ⟨_, by simp [Ideal.ofBits, Ideal.ieee, -EReal.coe_mul]; rfl⟩
theorem lit_lam : ∃ r : ℝ, Ideal.ofBits .f32 0x3EF1014C#32 = r := ⟨_, by simp [Ideal.ofBits, Ideal.ieee, -EReal.coe_mul]; rfl⟩
theorem lit_low : ∃ r : ℝ, Ideal.ofBits .f32 0xF149F2CA#32 = r := ⟨_, by simp [Ideal.ofBits, Ideal.ieee, -EReal.coe_mul]; rfl⟩
theorem lit_neg8 : ∃ r : ℝ, Ideal.ofBits .f32 0xC1000000#32 = r := ⟨_, by simp [Ideal.ofBits, Ideal.ieee, -EReal.coe_mul]; rfl⟩
theorem lit_8 : Ideal.ofBits .f32 0x41000000#32 = ((8 : ℝ) : EReal) := by simp [Ideal.ofBits, Ideal.ieee, -EReal.coe_mul]; norm_num
theorem lit_2 : Ideal.ofBits .f32 0x40000000#32 = ((2 : ℝ) : EReal) := by simp [Ideal.ofBits, Ideal.ieee, -EReal.coe_mul]; norm_num
theorem lit_512 : Ideal.ofBits .f32 0x44000000#32 = ((512 : ℝ) : EReal) := by simp [Ideal.ofBits, Ideal.ieee, -EReal.coe_mul]; norm_num
theorem lit_bot : Ideal.ofBits .f32 0xFF800000#32 = (⊥ : EReal) := by simp [Ideal.ofBits, Ideal.ieee]

/-- One over the logarithm of two. -/
theorem inv_log2 : Ideal.div 1 (Ideal.log (Ideal.ofBits .f32 0x40000000#32)) = ((1 / Real.log 2 : ℝ) : EReal) := by
  rw [lit_2, Ideal.log_coe, if_neg (by norm_num), Ideal.div_coe (Real.log_pos (by norm_num)).ne', one_mul]

/-- A head's slope is a real number. -/
theorem slope_real (n : Ideal .f32) (hn : ∃ r : ℝ, (n : EReal) = r) :
    ∃ r : ℝ, Ideal.exp (Ideal.ofBits .f32 0x3F317218#32 * Ideal.div (Ideal.ofBits .f32 0xC1000000#32 * (n + 1)) (Ideal.ofBits .f32 0x41000000#32)) = r := by
  obtain ⟨a, ha⟩ := lit_log2
  obtain ⟨b, hb⟩ := lit_neg8
  obtain ⟨n', hn'⟩ := hn
  have h1 : (n + 1 : EReal) = ((n' + 1 : ℝ) : EReal) := by rw [EReal.coe_add, ← hn']; rfl
  refine ⟨Real.exp (a * (b * (n' + 1) * (1 / 8))), ?_⟩
  rw [ha, hb, h1, lit_8, Ideal.div_coe (by norm_num), ← EReal.coe_mul, ← EReal.coe_mul, ← EReal.coe_mul, Ideal.exp_coe]

/-- The weight of the second map is a real number. -/
theorem lam_real (a b c d : Fin 128 → ℝ) : ∃ r : ℝ,
    Ideal.exp (∑ x, (a x : EReal) * (b x : EReal)) - Ideal.exp (∑ x, (c x : EReal) * (d x : EReal)) + Ideal.ofBits .f32 0x3EF1014C#32 = r := by
  obtain ⟨e, he⟩ := lit_lam
  refine ⟨Real.exp (∑ x, a x * b x) - Real.exp (∑ x, c x * d x) + e, ?_⟩
  simp only [← EReal.coe_mul]
  rw [sum_coe, sum_coe, Ideal.exp_coe, Ideal.exp_coe, he, ← EReal.coe_sub, ← EReal.coe_add]

/-- The reference's score of a key that is seen. -/
def scr (Q K : Fin 128 → ℝ) (σ s d : ℝ) : ℝ := (∑ x, Q x * K x) * σ - s * d

theorem scr_coe (Q K : Fin 128 → ℝ) (σ s d : ℝ) :
    (∑ x, (Q x : EReal) * (K x : EReal)) * (σ : EReal) - (s : EReal) * (d : EReal) = ((scr Q K σ s d : ℝ) : EReal) := by
  simp only [← EReal.coe_mul]
  rw [sum_coe, ← EReal.coe_mul, ← EReal.coe_sub]
  rfl

/-- The kernel's, its bias a number `d` times the slope, less a number `o` of its tile. -/
theorem ksc_coe (Q K : Fin 128 → ℝ) (σ s d o e : ℝ) (he : e = d + o) :
    (∑ x, (K x : EReal) * ((Q x : EReal) * ((σ : EReal) * ((1 / Real.log 2 : ℝ) : EReal)))) + -((s : EReal) * ((1 / Real.log 2 : ℝ) : EReal)) * (d : EReal)
        - ((s * (1 / Real.log 2) * o : ℝ) : EReal)
      = ((scr Q K σ s e / Real.log 2 : ℝ) : EReal) := by
  subst he
  simp only [← EReal.coe_mul, ← EReal.coe_neg]
  rw [sum_coe, ← EReal.coe_add, ← EReal.coe_sub]
  congr 1
  have h : ∑ x, K x * (Q x * (σ * (1 / Real.log 2))) = (∑ x, Q x * K x) * σ * (1 / Real.log 2) := by
    rw [Finset.sum_mul, Finset.sum_mul]
    exact Finset.sum_congr rfl fun x _ => by ring
  rw [h]
  unfold scr
  ring

theorem ksc_ne_top (Q K : Fin 128 → ℝ) (σ s d : ℝ) :
    (∑ x, (K x : EReal) * ((Q x : EReal) * ((σ : EReal) * ((1 / Real.log 2 : ℝ) : EReal)))) + -((s : EReal) * ((1 / Real.log 2 : ℝ) : EReal)) * (d : EReal) ≠ ⊤ := by
  simp only [← EReal.coe_mul, ← EReal.coe_neg]
  rw [sum_coe, ← EReal.coe_add]
  exact EReal.coe_ne_top _

theorem ksc_bot (Q K : Fin 128 → ℝ) (σ : ℝ) :
    (∑ x, (K x : EReal) * ((Q x : EReal) * ((σ : EReal) * ((1 / Real.log 2 : ℝ) : EReal)))) + (⊥ : EReal) = ⊥ := by
  exact EReal.add_bot _

/-- The values under the difference of two maps are the difference of the values under each. -/
theorem mix {n : ℕ} (v w₀ w₁ : Fin n → ℝ) (lam T₀ T₁ : ℝ) :
    ∑ k, (v k : EReal) * (((w₀ k / T₀ : ℝ) : EReal) - (lam : EReal) * ((w₁ k / T₁ : ℝ) : EReal))
      = (((∑ k, v k * w₀ k) / T₀ : ℝ) : EReal) - (lam : EReal) * (((∑ k, v k * w₁ k) / T₁ : ℝ) : EReal) := by
  simp only [← EReal.coe_mul, ← EReal.coe_sub]
  rw [sum_coe]
  congr 1
  rw [Finset.sum_div, Finset.sum_div, Finset.mul_sum, ← Finset.sum_sub_distrib]
  exact Finset.sum_congr rfl fun k _ => by ring

end Cert.DiffAttnMath

end
-- ==== Proof.DiffAttn.State.lean ====
/- The state of a query after the last tile: what the loop leaves and the diagonal tile adds. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Body
public import proofs.«01_k».proof.Proof.DiffAttn.Word
public import proofs.«01_k».proof.Proof.DiffAttn.Link

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

open Cert.DiffAttnMath

theorem psum_congr {n : ℕ} {f g : Fin 8 → ℝ} (h : ∀ j : Fin 8, j.val < n → f j = g j) : psum n f = psum n g :=
  Finset.sum_congr rfl fun j _ => by
    by_cases h1 : j.val < n
    · rw [if_pos h1, if_pos h1, h j h1]
    · rw [if_neg h1, if_neg h1]

/-- The number a trip subtracts. -/
theorem step_real (i : grid0.Coords) (v1 : Ideal .f32) (a : ℝ) (hv : (v1 : EReal) = a) (k : Fin (k0_t1_loop i).trips) (j : Fin 8) (hj : k.val = j.val) :
    (k0_pay2 (F := Ideal) i (BitVec.ofNat 32 (i 2).val) v1 0#32 1#32 k : EReal) = ((a * ((i 2).val - j.val) : ℝ) : EReal) := by
  have e : Scf.iv 0#32 1#32 k.val = BitVec.ofNat 32 j.val := by
    rw [hj]
    revert j
    have : ∀ j : Fin 8, Scf.iv 0#32 1#32 j.val = BitVec.ofNat 32 j.val := by decide
    exact fun j _ => this j
  have h8 : (i 2).val < 8 := (i 2).isLt
  rw [EReal.coe_mul, ← hv, ← diff_real (i 2).val j.val (by omega) (by have := j.isLt; omega), ← e]
  rfl

variable (m : (ℓ : Loc nD τ sig) → Buf (Elt Ideal) ℓ)

/-- The state before the loop. -/
theorem start_at (mi : Fin 2) (q : Fin 512) : Holds 0 (fun _ => 0) (W0.read (Elt Ideal) G0 (ix3 mi 0 q)) (W1.read (Elt Ideal) G1 (ix3 mi 0 q))
    (fun e => W2.read (Elt Ideal) G2 (ix3 mi e q)) := by
  obtain ⟨μ, hμ⟩ := lit_low
  have h0 : W0.read (Elt Ideal) G0 (ix3 mi 0 q) = (μ : EReal) := by
    unfold G0
    refine (View.read_writes_cons_unit_of_mem W0 _ inb_S2x1x512_S2x1x512_0_0_0 _ _ (ix3 mi 0 q) (ix3 mi 0 q) rfl (fun a => by fin_cases a <;> simp)).trans ?_
    rw [← hμ]
    pointwise [k0_pay34]
  have h1 : W1.read (Elt Ideal) G1 (ix3 mi 0 q) = (0 : EReal) := by
    unfold G1
    refine (View.read_writes_cons_unit_of_mem W1 _ inb_S2x1x512_S2x1x512_0_0_0 _ _ (ix3 mi 0 q) (ix3 mi 0 q) rfl (fun a => by fin_cases a <;> simp)).trans ?_
    pointwise [k0_pay35]
  have h2 : ∀ e, W2.read (Elt Ideal) G2 (ix3 mi e q) = (0 : EReal) := fun e => by
    unfold G2
    refine (View.read_writes_cons_unit_of_mem W2 _ inb_S2x256x512_S2x256x512_0_0_0 _ _ (ix3 mi e q) (ix3 mi e q) rfl (fun a => by fin_cases a <;> simp)).trans ?_
    pointwise [k0_pay36]
  rw [h0, h1]
  simp only [h2]
  exact Holds.start μ

/-- A score of a tile before the diagonal. -/
def bsc (c : Dev nD) (t : Fin cfg0.N) (mi : Fin 2) (q : Fin 512) (j : Fin 8) : Fin 512 → EReal :=
  score mi (iblk m c 3 t) (iblk m c 2 t) (iblk m c 5 t) j q

/-- The state after the diagonal tile, where `w` are the weights of all keys. -/
theorem state_at (c : Dev nD) (t : Fin cfg0.N) (mi : Fin 2) (q : Fin 512) (a : ℝ) (ha : (slope m c t : EReal) = a) (v : Fin 8 → Fin 256 → Fin 512 → ℝ)
    (hv : ∀ j e r, (iblk m c 4 t (ix5 0 0 j e r) : EReal) = ((v j e r : ℝ) : EReal)) (w : Fin 8 → Fin 512 → ℝ)
    (hb : ∀ j r, j.val < (grid0.coords t 2).val → bsc m c t mi q j r ≠ ⊤
      ∧ wt (bsc m c t mi q j r - ((a * ((grid0.coords t 2).val - j.val) : ℝ) : EReal)) = w j r)
    (hd : ∀ r, dsc m c t mi q r ≠ ⊤ ∧ wt (dsc m c t mi q r - ((0 : ℝ) : EReal)) = w (grid0.coords t 2) r)
    (ha0 : ∀ j r, (grid0.coords t 2).val < j.val → w j r = 0) :
    Holds (∑ j, ∑ r, w j r) (fun e => ∑ j, ∑ r, v j e r * w j r) (nm 0 (dsc m c t mi q) (M m c t (ix3 mi 0 q)))
      (nl 0 (dsc m c t mi q) (M m c t (ix3 mi 0 q)) (L m c t (ix3 mi 0 q)))
      (fun e => na 0 (dsc m c t mi q) (M m c t (ix3 mi 0 q)) (dv m c t e) (A m c t (ix3 mi e q))) := by
  have r2 := (hs0_2 t).read_unread (Val := Elt Ideal) (iblk m c 2 t)
  have r3 := (hs0_3 t).read_unread (Val := Elt Ideal) (iblk m c 3 t)
  have r4 := (hs0_4 t).read_unread (Val := Elt Ideal) (iblk m c 4 t)
  have r5 := (hs0_5 t).read_unread (Val := Elt Ideal) (iblk m c 5 t)
  have hl := loop Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0 (Memref.isWhole_whole _) scM0_1
    (Memref.isWhole_whole _) scM0_2 (Memref.isWhole_whole _) (BitVec.ofNat 32 (grid0.coords t 2).val) (slope m c t)
    ((hs0_2 t).unread (iblk m c 2 t)) ((hs0_3 t).unread (iblk m c 3 t)) ((hs0_4 t).unread (iblk m c 4 t)) ((hs0_5 t).unread (iblk m c 5 t))
    G0 G1 G2 mi q (fun j => a * ((grid0.coords t 2).val - j.val)) v (fun k j hj => step_real _ _ a ha k j hj)
    (fun j r hj => by rw [r2, r3, r5]; exact (hb j r hj).1) (fun j e r => by rw [r4]; exact hv j e r) (start_at mi q) (grid0.coords t 2).val le_rfl
  rw [r2, r3, r5] at hl
  have e1 : (psum (grid0.coords t 2).val fun j => ∑ r, wt (score mi (iblk m c 3 t) (iblk m c 2 t) (iblk m c 5 t) j q r - ((a * ((grid0.coords t 2).val - j.val) : ℝ) : EReal)))
      = psum (grid0.coords t 2).val fun j => ∑ r, w j r := psum_congr fun j hj => Finset.sum_congr rfl fun r _ => (hb j r hj).2
  have e2 : (fun e => psum (grid0.coords t 2).val fun j => ∑ r, v j e r * wt (score mi (iblk m c 3 t) (iblk m c 2 t) (iblk m c 5 t) j q r - ((a * ((grid0.coords t 2).val - j.val) : ℝ) : EReal)))
      = fun e => psum (grid0.coords t 2).val fun j => ∑ r, v j e r * w j r :=
    funext fun e => psum_congr fun j hj => Finset.sum_congr rfl fun r _ => congrArg (v j e r * ·) (hb j r hj).2
  rw [e1, e2] at hl
  have hst := Holds.step hl (dsc m c t mi q) 0 (fun r => (hd r).1) (dv m c t) (v (grid0.coords t 2)) (fun e r => hv _ e r) _ rfl
  have h8 : (grid0.coords t 2).val < 8 := (grid0.coords t 2).isLt
  have e3 : (psum (grid0.coords t 2).val fun j => ∑ r, w j r) + ∑ r, wt (dsc m c t mi q r - ((0 : ℝ) : EReal)) = ∑ j, ∑ r, w j r := by
    rw [Finset.sum_congr rfl fun r _ => (hd r).2]
    refine (psum_succ h8 fun j => ∑ r, w j r).symm.trans (psum_all fun j hj => Finset.sum_eq_zero fun r _ => ha0 j r (by omega))
  have e4 : (fun e => (psum (grid0.coords t 2).val fun j => ∑ r, v j e r * w j r) + ∑ r, v (grid0.coords t 2) e r * wt (dsc m c t mi q r - ((0 : ℝ) : EReal)))
      = fun e => ∑ j, ∑ r, v j e r * w j r := funext fun e => by
    rw [Finset.sum_congr rfl fun r _ => congrArg (v (grid0.coords t 2) e r * ·) (hd r).2]
    refine (psum_succ h8 fun j => ∑ r, v j e r * w j r).symm.trans (psum_all fun j hj => Finset.sum_eq_zero fun r _ => ?_)
    rw [ha0 j r (by omega), mul_zero]
  rw [e3, e4] at hst
  exact hst

end Cert.DiffAttnIdeal.Point

end
-- ==== Proof.DiffAttn.Score.lean ====
/- The scores the kernel weighs are the reference's, divided by `log 2`. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Blocks
public import proofs.«01_k».proof.Proof.DiffAttn.Ref
public import proofs.«01_k».proof.Proof.DiffAttn.State

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

open Cert.DiffAttnMath
open Cert.DiffAttnRefIdeal.Point (row col col2)

variable (m : (ℓ : Loc nD τ sig) → Buf (Elt Ideal) ℓ)

/-- A token of a tile. -/
abbrev tok (i : Fin 8) (q : Fin 512) : Fin 4096 := ⟨512 * i.val + q.val, by omega⟩

/-- The reference's scores of a query. -/
abbrev rsc (c : Dev nD) (b : Fin 4) (h : Fin 8) (mi : Fin 2) (i : Fin 8) (q : Fin 512) (k : Fin 4096) : EReal :=
  Cert.DiffAttnRefIdeal.Read.val_main_v62 (F := Ideal) (Xq m c) (Xk m c) (ix5 b h mi (tok i q) k)

section
variable {m} {c : Dev nD} {xq xk : S16384x2048.Idx → ℝ} (hq : ∀ x, (Xq m c x : EReal) = xq x) (hk : ∀ x, (Xk m c x : EReal) = xk x)
  {σ s : ℝ} (hσ : Ideal.ofBits .f32 0x3DB504F3#32 = σ) {h : Fin 8} (hs : sl h = s)
include hq hk hσ

/-- A product of a query and a key, as the kernel scales it. -/
theorem dots (b : Fin 4) (mi : Fin 2) (i j : Fin 8) (q r : Fin 512) (ht : 64 * b.val + 8 * h.val + i.val < cfg0.N) :
    (∑ x : Fin 128, ((show FVec Ideal S4096x256 .bf16 from iblk m c 3 ⟨64 * b.val + 8 * h.val + i.val, ht⟩) (ix2 ⟨512 * j.val + r.val, by omega⟩ ⟨128 * mi.val + x.val, by omega⟩) : EReal)
        * (show FVec Ideal S256x512 .bf16 from iblk m c 2 ⟨64 * b.val + 8 * h.val + i.val, ht⟩) (ix2 ⟨128 * mi.val + x.val, by omega⟩ q))
      = ∑ x, (xk (ix2 (row b (tok j r)) (col2 h mi x)) : EReal) * ((xq (ix2 (row b (tok i q)) (col2 h mi x)) : EReal) * ((σ : EReal) * ((1 / Real.log 2 : ℝ) : EReal))) := by
  refine Finset.sum_congr rfl fun x _ => ?_
  have ec : (⟨h.val * 256 + (128 * mi.val + x.val), by omega⟩ : Fin 2048) = col2 h mi x := Fin.ext (by show h.val * 256 + (128 * mi.val + x.val) = h.val * 256 + mi.val * 128 + x.val; omega)
  refine congrArg₂ (· * ·) ((k_blk m c b h i ht _ _).trans ?_) ((q_blk m c b h i ht _ q).trans ?_)
  · rw [hk]
    exact congrArg (fun z => ((xk (ix2 (row b (tok j r)) z) : ℝ) : EReal)) ec
  · rw [hq, hσ, il2, inv_log2]
    exact congrArg (fun z => ((xq (ix2 (row b (tok i q)) z) : ℝ) : EReal) * ((σ : EReal) * ((1 / Real.log 2 : ℝ) : EReal))) ec

include hs

/-- A score of a tile before the diagonal. -/
theorem bsc_eq (b : Fin 4) (mi : Fin 2) (i j : Fin 8) (q r : Fin 512) (ht : 64 * b.val + 8 * h.val + i.val < cfg0.N) :
    bsc m c ⟨64 * b.val + 8 * h.val + i.val, ht⟩ mi q j r
      = (∑ x, (xk (ix2 (row b (tok j r)) (col2 h mi x)) : EReal) * ((xq (ix2 (row b (tok i q)) (col2 h mi x)) : EReal) * ((σ : EReal) * ((1 / Real.log 2 : ℝ) : EReal))))
        + -((s : EReal) * ((1 / Real.log 2 : ℝ) : EReal)) * (((q.val : ℝ) - r.val : ℝ) : EReal) := by
  refine congrArg₂ (· + ·) (dots hq hk hσ b mi i j q r ht) ((off_blk m c b h i ht r q).trans ?_)
  rw [hs, il2, inv_log2, diff_real q.val r.val (by omega) (by omega)]

/-- A score of the diagonal tile. -/
theorem dsc_eq (b : Fin 4) (mi : Fin 2) (i : Fin 8) (q r : Fin 512) (ht : 64 * b.val + 8 * h.val + i.val < cfg0.N) :
    dsc m c ⟨64 * b.val + 8 * h.val + i.val, ht⟩ mi q r
      = (∑ x, (xk (ix2 (row b (tok i r)) (col2 h mi x)) : EReal) * ((xq (ix2 (row b (tok i q)) (col2 h mi x)) : EReal) * ((σ : EReal) * ((1 / Real.log 2 : ℝ) : EReal))))
        + Scalar.select (IntOp.cmpi .slt (BitVec.ofNat 32 r.val) (chunkEnd (BitVec.ofNat 32 q.val)))
          (-((s : EReal) * ((1 / Real.log 2 : ℝ) : EReal)) * ((|(q.val : ℝ) - r.val| : ℝ) : EReal)) ⊥ := by
  have e : dsc m c ⟨64 * b.val + 8 * h.val + i.val, ht⟩ mi q r
      = score mi (iblk m c 3 ⟨64 * b.val + 8 * h.val + i.val, ht⟩) (iblk m c 2 ⟨64 * b.val + 8 * h.val + i.val, ht⟩) (iblk m c 6 ⟨64 * b.val + 8 * h.val + i.val, ht⟩) i q r := by
    unfold dsc
    rw [(coords_at b h i ht).1]
  rw [e]
  refine congrArg₂ (· + ·) (dots hq hk hσ b mi i i q r ht) ((diag_blk m c b h i ht r q).trans ?_)
  rw [hs, il2, inv_log2, dist_real q.val r.val (by omega) (by omega), lit_bot]

/-- The reference's score of a key that is seen. -/
theorem rsc_seen (b : Fin 4) (mi : Fin 2) (i j : Fin 8) (q r : Fin 512) (hm : 512 * j.val + r.val < ((512 * i.val + q.val) / 64 + 1) * 64) :
    rsc m c b h mi i q (tok j r)
      = ((scr (fun x => xq (ix2 (row b (tok i q)) (col2 h mi x))) (fun x => xk (ix2 (row b (tok j r)) (col2 h mi x))) σ s
          |((512 * i.val + q.val : ℕ) : ℝ) - ((512 * j.val + r.val : ℕ) : ℝ)| : ℝ) : EReal) := by
  refine (Cert.DiffAttnRefIdeal.Point.seen_at (Xq m c) (Xk m c) b h mi (tok i q) (tok j r) hm).trans ?_
  rw [Cert.DiffAttnRefIdeal.Point.dot_at, Cert.DiffAttnRefIdeal.Point.slope_at, Cert.DiffAttnRefIdeal.Point.dist_at, hσ, ← scr_coe]
  refine congrArg₂ (· - ·) (congrArg (· * (σ : EReal)) (Finset.sum_congr rfl fun x _ => congrArg₂ (· * ·) (hq _) (hk _))) ?_
  exact congrArg (· * _) hs

/-- A weight of a tile before the diagonal. -/
theorem before (b : Fin 4) (mi : Fin 2) (i j : Fin 8) (q r : Fin 512) (ht : 64 * b.val + 8 * h.val + i.val < cfg0.N) (hj : j.val < i.val) :
    bsc m c ⟨64 * b.val + 8 * h.val + i.val, ht⟩ mi q j r ≠ ⊤
      ∧ wt (bsc m c ⟨64 * b.val + 8 * h.val + i.val, ht⟩ mi q j r - ((s * (1 / Real.log 2) * 512 * (i.val - j.val) : ℝ) : EReal)) = ew (rsc m c b h mi i q (tok j r)) := by
  rw [bsc_eq hq hk hσ hs b mi i j q r ht]
  refine ⟨ksc_ne_top _ _ _ _ _, ?_⟩
  rw [rsc_seen hq hk hσ hs b mi i j q r (by omega), mul_assoc (s * (1 / Real.log 2)) 512]
  rw [ksc_coe (fun x => xq (ix2 (row b (tok i q)) (col2 h mi x))) (fun x => xk (ix2 (row b (tok j r)) (col2 h mi x))) σ s ((q.val : ℝ) - r.val)
    (512 * (i.val - j.val)) |((512 * i.val + q.val : ℕ) : ℝ) - ((512 * j.val + r.val : ℕ) : ℝ)| ?_]
  · exact wt_div _
  · have h1 : ((512 * j.val + r.val : ℕ) : ℝ) ≤ ((512 * i.val + q.val : ℕ) : ℝ) := by exact_mod_cast (by omega : 512 * j.val + r.val ≤ 512 * i.val + q.val)
    rw [abs_of_nonneg (by linarith)]
    push_cast
    ring

/-- A weight of the diagonal tile. -/
theorem diagonal (b : Fin 4) (mi : Fin 2) (i : Fin 8) (q r : Fin 512) (ht : 64 * b.val + 8 * h.val + i.val < cfg0.N) :
    dsc m c ⟨64 * b.val + 8 * h.val + i.val, ht⟩ mi q r ≠ ⊤
      ∧ wt (dsc m c ⟨64 * b.val + 8 * h.val + i.val, ht⟩ mi q r - ((0 : ℝ) : EReal)) = ew (rsc m c b h mi i q (tok i r)) := by
  rw [dsc_eq hq hk hσ hs b mi i q r ht]
  have hseen := seen_iff ⟨q.val, by omega⟩ ⟨r.val, by omega⟩
  by_cases hm : r.val < (q.val / 64 + 1) * 64
  · rw [hseen.2 hm]
    rw [show ∀ a b : EReal, Scalar.select 1#1 a b = a from fun _ _ => rfl]
    refine ⟨ksc_ne_top _ _ _ _ _, ?_⟩
    rw [rsc_seen hq hk hσ hs b mi i i q r (by omega)]
    rw [show ((0 : ℝ) : EReal) = ((s * (1 / Real.log 2) * 0 : ℝ) : EReal) by rw [mul_zero]]
    rw [ksc_coe (fun x => xq (ix2 (row b (tok i q)) (col2 h mi x))) (fun x => xk (ix2 (row b (tok i r)) (col2 h mi x))) σ s |(q.val : ℝ) - r.val|
      0 |((512 * i.val + q.val : ℕ) : ℝ) - ((512 * i.val + r.val : ℕ) : ℝ)| ?_]
    · exact wt_div _
    · push_cast
      rw [add_zero]
      congr 1
      ring
  · have hz : ∀ a b : EReal, Scalar.select (IntOp.cmpi .slt (BitVec.ofNat 32 r.val) (chunkEnd (BitVec.ofNat 32 q.val))) a b = b :=
      fun a b => if_neg fun e => hm (hseen.1 e)
    rw [hz, EReal.add_bot]
    refine ⟨bot_ne_top, ?_⟩
    have e : rsc m c b h mi i q (tok i r) = ⊥ :=
      (Cert.DiffAttnRefIdeal.Point.unseen_at (Xq m c) (Xk m c) b h mi (tok i q) (tok i r) (by show ¬ 512 * i.val + r.val < ((512 * i.val + q.val) / 64 + 1) * 64; omega)).trans lit_bot
    rw [e, ew_bot, EReal.bot_sub, wt_bot]

end

/-- A key of a tile after the diagonal weighs nothing. -/
theorem after (c : Dev nD) (b : Fin 4) (h : Fin 8) (mi : Fin 2) (i j : Fin 8) (q r : Fin 512) (hj : i.val < j.val) : ew (rsc m c b h mi i q (tok j r)) = 0 := by
  have e : rsc m c b h mi i q (tok j r) = ⊥ :=
    (Cert.DiffAttnRefIdeal.Point.unseen_at (Xq m c) (Xk m c) b h mi (tok i q) (tok j r) (by show ¬ 512 * j.val + r.val < ((512 * i.val + q.val) / 64 + 1) * 64; omega)).trans lit_bot
  rw [e, ew_bot]

end Cert.DiffAttnIdeal.Point

end
-- ==== Proof.DiffAttn.Soft.lean ====
/- The softmax of the differential attention reference, read at one index. -/
module

public import proofs.«01_k».proof.Proof.Gen.DiffAttnRefIdeal.Read
public import proofs.«01_k».proof.Proof.DiffAttn.Math
public import Idealize.ShloMosaic.Lib.Pointwise

@[expose] public section

set_option maxRecDepth 16384

noncomputable section

namespace Cert.DiffAttnRefIdeal.Point

open Cert.DiffAttnRefIdeal Cert.DiffAttnRefIdeal.Gen Cert.DiffAttnRefIdeal.Read Idealize.ShloMosaic Idealize.ShloMosaic.TcCoe Idealize.SL.Sem

variable (q k : FVec Ideal S16384x2048 .bf16)

/-- The largest score of a query. -/
theorem max_at (b : Fin 4) (h : Fin 8) (mi : Fin 2) (i : Fin 4096) : val_main_v63 (F := Ideal) q k (ix4 b h mi i)
    = Finset.fold max (Ideal.ofBits .f32 0xFF800000#32) (fun x => val_main_v62 (F := Ideal) q k (ix5 b h mi i x)) Finset.univ := by
  pointwise [val_main_v63, val_main_cst_10]

/-- What is subtracted of a query's scores. -/
theorem top_at (b : Fin 4) (h : Fin 8) (mi : Fin 2) (i : Fin 4096) : val_main_v65 (F := Ideal) q k (ix4 b h mi i)
    = max (Ideal.ofBits .f32 0xFF800000#32) (val_main_v63 (F := Ideal) q k (ix4 b h mi i)) := by
  rw [val_main_v65_apply, val_main_v64_apply]
  generalize val_main_v63 (F := Ideal) q k (ix4 b h mi i) = y
  rfl

/-- The same at every key. -/
theorem tops_at (b : Fin 4) (h : Fin 8) (mi : Fin 2) (i j : Fin 4096) : val_main_v67 (F := Ideal) q k (ix5 b h mi i j) = val_main_v65 (F := Ideal) q k (ix4 b h mi i) := by
  rw [val_main_v67_apply, val_main_v66_apply]
  exact congrArg (val_main_v65 (F := Ideal) q k) (funext fun a => match a with | ⟨0, _⟩ => rfl | ⟨1, _⟩ => rfl | ⟨2, _⟩ => rfl | ⟨3, _⟩ => rfl)

/-- A weight before the division. -/
theorem exp_at (b : Fin 4) (h : Fin 8) (mi : Fin 2) (i j : Fin 4096) : val_main_v69 (F := Ideal) q k (ix5 b h mi i j)
    = Ideal.exp (val_main_v62 (F := Ideal) q k (ix5 b h mi i j) - max (Ideal.ofBits .f32 0xFF800000#32) (val_main_v63 (F := Ideal) q k (ix4 b h mi i))) := by
  rw [val_main_v69_apply, val_main_v68_apply, tops_at, top_at]
  generalize val_main_v62 (F := Ideal) q k (ix5 b h mi i j) = x
  generalize val_main_v63 (F := Ideal) q k (ix4 b h mi i) = y
  rfl

/-- The sum of a query's weights. -/
theorem sum_at (b : Fin 4) (h : Fin 8) (mi : Fin 2) (i : Fin 4096) : val_main_v70 (F := Ideal) q k (ix4 b h mi i)
    = ∑ x, val_main_v69 (F := Ideal) q k (ix5 b h mi i x) := by
  pointwise [val_main_v70, val_main_cst_12]

/-- The sum at every key. -/
theorem sums_at (b : Fin 4) (h : Fin 8) (mi : Fin 2) (i j : Fin 4096) : val_main_v72 (F := Ideal) q k (ix5 b h mi i j) = val_main_v70 (F := Ideal) q k (ix4 b h mi i) := by
  rw [val_main_v72_apply, val_main_v71_apply]
  exact congrArg (val_main_v70 (F := Ideal) q k) (funext fun a => match a with | ⟨0, _⟩ => rfl | ⟨1, _⟩ => rfl | ⟨2, _⟩ => rfl | ⟨3, _⟩ => rfl)

/-- A softmax weight. -/
theorem soft_at (b : Fin 4) (h : Fin 8) (mi : Fin 2) (i j : Fin 4096) : val_main_v73 (F := Ideal) q k (ix5 b h mi i j)
    = Ideal.div (val_main_v69 (F := Ideal) q k (ix5 b h mi i j)) (val_main_v70 (F := Ideal) q k (ix4 b h mi i)) := by
  rw [val_main_v73_apply, sums_at]
  generalize val_main_v69 (F := Ideal) q k (ix5 b h mi i j) = x
  generalize val_main_v70 (F := Ideal) q k (ix4 b h mi i) = y
  rfl

end Cert.DiffAttnRefIdeal.Point

end
-- ==== Proof.DiffAttn.Value.lean ====
/- The differential attention kernel computes its reference. -/
module

public import proofs.«01_k».proof.Proof.Gen.DiffAttnIdeal.Value
public import Idealize.ShloMosaic.Lib.Pipeline.ValueKit
public import Idealize.ShloMosaic.Lib.Pipeline.ReadBack
public import Idealize.ShloMosaic.Lib.Pointwise
public import proofs.«01_k».proof.Proof.DiffAttn.Score
public import proofs.«01_k».proof.Proof.DiffAttn.Soft
public import proofs.«01_k».proof.Proof.DiffAttn.Pre

@[expose] public section

set_option maxRecDepth 16384

noncomputable section

namespace Cert.DiffAttnIdeal.Point

open Cert.DiffAttnIdeal Cert.DiffAttnIdeal.Gen Idealize.ShloMosaic Idealize.ShloMosaic.TcCoe Idealize.SL.Sem
open Idealize.ShloMosaic.Pipeline (Dat)

open Cert.DiffAttnMath
open Cert.DiffAttnRefIdeal.Point (row col col2)
open Cert.DiffAttnRefIdeal.Read

variable (m : (ℓ : Loc nD τ sig) → Buf (Elt Ideal) ℓ)

section
variable {m} {c : Dev nD} {xq xk xv : S16384x2048.Idx → ℝ} (hq : ∀ x, (Xq m c x : EReal) = xq x) (hk : ∀ x, (Xk m c x : EReal) = xk x)
  (hv : ∀ x, (Xv m c x : EReal) = xv x) {σ s : ℝ} (hσ : Ideal.ofBits .f32 0x3DB504F3#32 = σ) {h : Fin 8} (hs : sl h = s)
include hq hk hσ hs

/-- No score of the reference is plus infinity. -/
theorem rsc_ne_top (b : Fin 4) (mi : Fin 2) (i : Fin 8) (q : Fin 512) (k : Fin 4096) : rsc m c b h mi i q k ≠ ⊤ := by
  obtain ⟨j, r, rfl⟩ : ∃ (j : Fin 8) (r : Fin 512), k = tok j r :=
    ⟨⟨k.val / 512, by omega⟩, ⟨k.val % 512, by omega⟩, Fin.ext (by show k.val = 512 * (k.val / 512) + k.val % 512; omega)⟩
  by_cases hm : 512 * j.val + r.val < ((512 * i.val + q.val) / 64 + 1) * 64
  · rw [rsc_seen hq hk hσ hs b mi i j q r hm]
    exact EReal.coe_ne_top _
  · rw [show rsc m c b h mi i q (tok j r) = ⊥ from (Cert.DiffAttnRefIdeal.Point.unseen_at (Xq m c) (Xk m c) b h mi (tok i q) (tok j r) hm).trans lit_bot]
    exact bot_ne_top

/-- A query sees itself. -/
theorem rsc_self (b : Fin 4) (mi : Fin 2) (i : Fin 8) (q : Fin 512) : rsc m c b h mi i q (tok i q) ≠ ⊥ := by
  rw [rsc_seen hq hk hσ hs b mi i i q q (by omega)]
  exact EReal.coe_ne_bot _

/-- A softmax weight of the reference. -/
theorem soft_eq (b : Fin 4) (mi : Fin 2) (i : Fin 8) (q : Fin 512) (k : Fin 4096) : val_main_v73 (F := Ideal) (Xq m c) (Xk m c) (ix5 b h mi (tok i q) k)
    = ((ew (rsc m c b h mi i q k) / ∑ k, ew (rsc m c b h mi i q k) : ℝ) : EReal) := by
  rw [Cert.DiffAttnRefIdeal.Point.soft_at, Cert.DiffAttnRefIdeal.Point.sum_at]
  simp only [Cert.DiffAttnRefIdeal.Point.exp_at]
  rw [Cert.DiffAttnRefIdeal.Point.max_at, lit_bot]
  exact softmax_at (rsc m c b h mi i q) (rsc_ne_top hq hk hσ hs b mi i q) (tok i q) (rsc_self hq hk hσ hs b mi i q) k

include hv

/-- A map of the kernel: the values under the softmax weights. -/
theorem map_eq (b : Fin 4) (mi : Fin 2) (i : Fin 8) (q : Fin 512) (ht : 64 * b.val + 8 * h.val + i.val < cfg0.N) (e : Fin 256) :
    na 0 (dsc m c ⟨64 * b.val + 8 * h.val + i.val, ht⟩ mi q) (M m c ⟨64 * b.val + 8 * h.val + i.val, ht⟩ (ix3 mi 0 q)) (dv m c ⟨64 * b.val + 8 * h.val + i.val, ht⟩ e) (A m c ⟨64 * b.val + 8 * h.val + i.val, ht⟩ (ix3 mi e q))
      * Ideal.div 1 (nl 0 (dsc m c ⟨64 * b.val + 8 * h.val + i.val, ht⟩ mi q) (M m c ⟨64 * b.val + 8 * h.val + i.val, ht⟩ (ix3 mi 0 q)) (L m c ⟨64 * b.val + 8 * h.val + i.val, ht⟩ (ix3 mi 0 q)))
      = (((∑ k : Fin 4096, xv (ix2 (row b k) (col h e)) * ew (rsc m c b h mi i q k)) / ∑ k, ew (rsc m c b h mi i q k) : ℝ) : EReal) := by
  have hc := (coords_at b h i ht).1
  have hst := state_at m c ⟨64 * b.val + 8 * h.val + i.val, ht⟩ mi q (s * (1 / Real.log 2) * 512)
    (by rw [slope_at, hs, il2, inv_log2, lit_512, ← EReal.coe_mul, ← EReal.coe_mul])
    (fun j e r => xv (vix b h j e r)) (fun j e r => (v_blk m c b h i ht j e r).trans (hv _))
    (fun j r => ew (rsc m c b h mi i q (tok j r)))
    (fun j r hj => by
      rw [hc] at hj ⊢
      exact before hq hk hσ hs b mi i j q r ht hj)
    (fun r => by
      rw [hc]
      exact diagonal hq hk hσ hs b mi i q r ht)
    (fun j r hj => by
      rw [hc] at hj
      exact after m c b h mi i j q r hj)
  have eT : ∑ j : Fin 8, ∑ r : Fin 512, ew (rsc m c b h mi i q (tok j r)) = ∑ k, ew (rsc m c b h mi i q k) :=
    (sum_keys fun k => ew (rsc m c b h mi i q k)).symm
  have eQ : ∑ j : Fin 8, ∑ r : Fin 512, xv (vix b h j e r) * ew (rsc m c b h mi i q (tok j r)) = ∑ k : Fin 4096, xv (ix2 (row b k) (col h e)) * ew (rsc m c b h mi i q k) :=
    (sum_keys fun k => xv (ix2 (row b k) (col h e)) * ew (rsc m c b h mi i q k)).symm
  have hT := sum_ew_pos (rsc m c b h mi i q) (rsc_ne_top hq hk hσ hs b mi i q) (tok i q) (rsc_self hq hk hσ hs b mi i q)
  have hf := Holds.finish hst (by rw [eT]; exact hT) e
  rw [eT] at hf
  refine hf.trans ?_
  rw [eQ]

/-- A head vector before its norm. -/
theorem head_eq (hl : ∀ x, ∃ r : ℝ, (Xl m c x : EReal) = r) (b : Fin 4) (i : Fin 8) (q : Fin 512) (ht : 64 * b.val + 8 * h.val + i.val < cfg0.N) (e : Fin 256) :
    ot (k0_pay64 (F := Ideal) (iblk m c 1 ⟨64 * b.val + 8 * h.val + i.val, ht⟩) (ix2 0 0))
      (fun e => na 0 (dsc m c ⟨64 * b.val + 8 * h.val + i.val, ht⟩ 0 q) (M m c ⟨64 * b.val + 8 * h.val + i.val, ht⟩ (ix3 0 0 q)) (dv m c ⟨64 * b.val + 8 * h.val + i.val, ht⟩ e) (A m c ⟨64 * b.val + 8 * h.val + i.val, ht⟩ (ix3 0 e q)))
      (nl 0 (dsc m c ⟨64 * b.val + 8 * h.val + i.val, ht⟩ 0 q) (M m c ⟨64 * b.val + 8 * h.val + i.val, ht⟩ (ix3 0 0 q)) (L m c ⟨64 * b.val + 8 * h.val + i.val, ht⟩ (ix3 0 0 q)))
      (fun e => na 0 (dsc m c ⟨64 * b.val + 8 * h.val + i.val, ht⟩ 1 q) (M m c ⟨64 * b.val + 8 * h.val + i.val, ht⟩ (ix3 1 0 q)) (dv m c ⟨64 * b.val + 8 * h.val + i.val, ht⟩ e) (A m c ⟨64 * b.val + 8 * h.val + i.val, ht⟩ (ix3 1 e q)))
      (nl 0 (dsc m c ⟨64 * b.val + 8 * h.val + i.val, ht⟩ 1 q) (M m c ⟨64 * b.val + 8 * h.val + i.val, ht⟩ (ix3 1 0 q)) (L m c ⟨64 * b.val + 8 * h.val + i.val, ht⟩ (ix3 1 0 q))) e
      = val_main_v82 (F := Ideal) (Xq m c) (Xk m c) (Xv m c) (Xl m c) (ix4 b (tok i q) h e) := by
  have hlam : k0_pay64 (F := Ideal) (iblk m c 1 ⟨64 * b.val + 8 * h.val + i.val, ht⟩) (ix2 0 0) = val_main_v21 (F := Ideal) (Xl m c) ix0 := by
    rw [lam_at, Cert.DiffAttnRefIdeal.Point.lam_at]
    refine congrArg (· + _) (congrArg₂ (· - ·) (congrArg Ideal.exp (Finset.sum_congr rfl fun x _ => ?_)) (congrArg Ideal.exp (Finset.sum_congr rfl fun x _ => ?_))) <;>
      exact congrArg₂ (· * ·) (l_blk m c b h i ht _ x) (l_blk m c b h i ht _ x)
  obtain ⟨lam, hr⟩ : ∃ r : ℝ, val_main_v21 (F := Ideal) (Xl m c) ix0 = (r : EReal) := by
    choose y hy using hl
    rw [Cert.DiffAttnRefIdeal.Point.lam_at]
    simp only [hy]
    exact lam_real _ _ _ _
  rw [hlam, Cert.DiffAttnRefIdeal.Point.head_at, Cert.DiffAttnRefIdeal.Point.av_at]
  have hsum : ∑ k : Fin 4096, (val_main_v5 (F := Ideal) (Xv m c) (ix4 b k h e) * val_main_v80 (F := Ideal) (Xq m c) (Xk m c) (Xl m c) (ix4 b h (tok i q) k) : EReal)
      = ∑ k : Fin 4096, (xv (ix2 (row b k) (col h e)) : EReal) * (((ew (rsc m c b h 0 i q k) / ∑ k, ew (rsc m c b h 0 i q k) : ℝ) : EReal)
          - (lam : EReal) * ((ew (rsc m c b h 1 i q k) / ∑ k, ew (rsc m c b h 1 i q k) : ℝ) : EReal)) := by
    refine Finset.sum_congr rfl fun k _ => ?_
    rw [Cert.DiffAttnRefIdeal.Point.value_at, Cert.DiffAttnRefIdeal.Point.diff_at, soft_eq hq hk hσ hs b 0 i q k, soft_eq hq hk hσ hs b 1 i q k, hr]
    exact congrArg (· * _) (hv _)
  refine Eq.trans ?_ hsum.symm
  rw [mix, hr]
  unfold ot
  rw [map_eq hq hk hv hσ hs b 0 i q ht e, map_eq hq hk hv hσ hs b 1 i q ht e]

end

/-- The reference over the kernel's own arguments. -/
abbrev ref (c : Dev nD) : FVec Ideal S16384x2048 .bf16 := val_main_v99 (F := Ideal) (Xq m c) (Xk m c) (Xv m c) (Xl m c) (Xg m c)

/-- A block the kernel writes. -/
theorem block_eq (c : Dev nD) (hp : (∀ x, ∃ r : ℝ, (Xq m c x : EReal) = r) ∧ (∀ x, ∃ r : ℝ, (Xk m c x : EReal) = r) ∧ (∀ x, ∃ r : ℝ, (Xv m c x : EReal) = r) ∧ (∀ x, ∃ r : ℝ, (Xl m c x : EReal) = r))
    (b : Fin 4) (h i : Fin 8) (ht : 64 * b.val + 8 * h.val + i.val < cfg0.N) (q : Fin 512) (e : Fin 256) :
    outsAt0 m c ⟨64 * b.val + 8 * h.val + i.val, ht⟩ (ix2 q e) = val_main_v97 (F := Ideal) (Xq m c) (Xk m c) (Xv m c) (Xl m c) (Xg m c) (ix4 b (tok i q) h e) := by
  obtain ⟨hq, hk, hv, hl⟩ := hp
  choose xq hq using hq
  choose xk hk using hk
  choose xv hv using hv
  obtain ⟨σ, hσ⟩ := lit_scale
  obtain ⟨s, hs⟩ : ∃ r : ℝ, sl h = r := slope_real _ ⟨_, rfl⟩
  rw [out_at, Cert.DiffAttnRefIdeal.Point.norm_at]
  unfold normed
  simp only [head_eq hq hk hv hσ hs hl b i q ht]
  exact congrArg (· * _) (congrArg (_ * ·) (g_blk m c b h i ht e))

/-- What the kernel leaves is the reference. -/
theorem final (c : Dev nD) (hp : (∀ x, ∃ r : ℝ, (Xq m c x : EReal) = r) ∧ (∀ x, ∃ r : ℝ, (Xk m c x : EReal) = r) ∧ (∀ x, ∃ r : ℝ, (Xv m c x : EReal) = r) ∧ (∀ x, ∃ r : ℝ, (Xl m c x : EReal) = r)) :
    (dats m 0 c).arrAt 8 cfg0.N = ref m c := by
  refine (dats m 0 c).arrAt_eq_of_covers 8 _ (by decide +kernel) fun t hf y => ?_
  blk_simp
  rw [after0_8]
  have hN : t.val < 256 := lt_of_lt_of_eq t.isLt N_0
  obtain ⟨b, h, i, ht⟩ : ∃ (b : Fin 4) (h i : Fin 8), t.val = 64 * b.val + 8 * h.val + i.val :=
    ⟨⟨t.val / 64, by omega⟩, ⟨t.val / 8 % 8, by omega⟩, ⟨t.val % 8, by omega⟩, by show t.val = 64 * (t.val / 64) + 8 * (t.val / 8 % 8) + t.val % 8; omega⟩
  obtain ⟨tv, htv⟩ := t
  obtain rfl : tv = 64 * b.val + 8 * h.val + i.val := ht
  have i1 := idx_at b h i htv
  obtain ⟨q, e, rfl⟩ : ∃ (q : Fin 512) (e : Fin 256), y = ix2 q e := ⟨y 0, y 1, by funext a; match a with | ⟨0, _⟩ => rfl | ⟨1, _⟩ => rfl⟩
  have hi : ((cfg0.win 8).blk ⟨64 * b.val + 8 * h.val + i.val, htv⟩).view.emb (ix2 q e)
      = ix2 (⟨b.val * 4096 + (tok i q).val, by omega⟩ : Fin 16384) (⟨h.val * 256 + e.val, by omega⟩ : Fin 2048) := by
    blk_ext [i1]
  unfold ref
  rw [hi, Cert.DiffAttnRefIdeal.Point.ref_at]
  exact block_eq m c hp b h i htv q e

end Cert.DiffAttnIdeal.Point

end
-- ==== Proof.DiffAttn.Claim.lean ====
/- The attention call of the prompt batch: the kernel and its reference agree where the arguments are finite. -/
module

public import proofs.«01_k».proof.Defs
public import proofs.«01_k».proof.Proof.DiffAttn.Value
public import proofs.«01_k».proof.Proof.Gen.DiffAttnRefIdeal.Run
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.SL.Sem

/-- From the same finite arguments both programs run, leave their arguments as they were, and end with equal results. -/
theorem algebraicDiffAttn : Cert.algebraic_DiffAttnIdeal_DiffAttnRefIdeal_pre_finite := by
  pair_intro
  · run_from Cert.DiffAttnIdeal.Value.run_blocks m g
  · run_from Cert.DiffAttnRefIdeal.Value.run m' g'
    rw [Cert.DiffAttnRefIdeal.Read.val_main_v99_eq, (hagree c).1, (hagree c).2.1, (hagree c).2.2.1, (hagree c).2.2.2.1, (hagree c).2.2.2.2]
    exact (Cert.DiffAttnIdeal.Point.final m c (Cert.DiffAttnMath.real_args _ _ _ _ _ (hpre c))).symm

end Cert.Proof

end
-- ==== Proof.lean ====
/- The proof of the certificate's claims: of each call, that the kernel and its reference run without a fault, and that at
   the ideal numbers the kernel leaves what the reference computes. The value proofs lie in a directory per call. -/
module

public import proofs.«01_k».proof.Defs
public import proofs.«01_k».proof.Proof.Gen.RetSample.Frame
public import proofs.«01_k».proof.Proof.Gen.RetSampleIdeal.Frame
public import proofs.«01_k».proof.Proof.RetSample.Claim
public import proofs.«01_k».proof.Proof.Gen.Mlp.Frame
public import proofs.«01_k».proof.Proof.Gen.MlpIdeal.Frame
public import proofs.«01_k».proof.Proof.Mlp.Claim
public import proofs.«01_k».proof.Proof.Gen.RetIn.Frame
public import proofs.«01_k».proof.Proof.Gen.RetInIdeal.Frame
public import proofs.«01_k».proof.Proof.RetIn.Claim
public import proofs.«01_k».proof.Proof.Gen.RetOut.Frame
public import proofs.«01_k».proof.Proof.Gen.RetOutIdeal.Frame
public import proofs.«01_k».proof.Proof.RetOut.Claim
public import proofs.«01_k».proof.Proof.Gen.SharedK.Frame
public import proofs.«01_k».proof.Proof.Gen.SharedKIdeal.Frame
public import proofs.«01_k».proof.Proof.SharedK.Claim
public import proofs.«01_k».proof.Proof.Gen.SharedV.Frame
public import proofs.«01_k».proof.Proof.Gen.SharedVIdeal.Frame
public import proofs.«01_k».proof.Proof.SharedV.Claim
public import proofs.«01_k».proof.Proof.Gen.DiffQ.Frame
public import proofs.«01_k».proof.Proof.Gen.DiffQIdeal.Frame
public import proofs.«01_k».proof.Proof.DiffQ.Claim
public import proofs.«01_k».proof.Proof.Gen.DiffOut.Frame
public import proofs.«01_k».proof.Proof.Gen.DiffOutIdeal.Frame
public import proofs.«01_k».proof.Proof.DiffOut.Claim
public import proofs.«01_k».proof.Proof.Gen.RetPrompt.Frame
public import proofs.«01_k».proof.Proof.Gen.RetPromptIdeal.Frame
public import proofs.«01_k».proof.Proof.RetPrompt.Claim
public import proofs.«01_k».proof.Proof.Gen.DiffAttn.Frame
public import proofs.«01_k».proof.Proof.Gen.DiffAttnIdeal.Frame
public import proofs.«01_k».proof.Proof.DiffAttn.Claim
public import proofs.«01_k».proof.Proof.Gen.Pre_finite_proj
public import proofs.«01_k».proof.Proof.Gen.Pre_finite
public import Idealize.ShloMosaic.Adequacy
public import Idealize.ShloMosaic.Init

@[expose] public section

noncomputable section

namespace Cert.Proof

open Idealize.ShloMosaic Idealize.SL.Sem

/-- The kernel of the retention call of the sample batch, at the machine's numbers: every run ends without a fault, its arguments as they were and
    every counter at zero. -/
theorem frameRetSample : Cert.quiescent_RetSample := fun m ρ _ => Cert.RetSample.Gen.frame m ρ

/-- The same run at the ideal numbers. -/
theorem frameRetSampleIdeal : Cert.quiescent_RetSampleIdeal := fun m ρ _ => Cert.RetSampleIdeal.Gen.frame m ρ

/-- The reference of the retention call of the sample batch runs, its arguments as they were. -/
theorem frameRetSampleRef : Cert.quiescent_RetSampleRefIdeal := fun m ρ _ =>
  (θ_run Cert.RetSampleRefIdeal.defs _ _).mono (fun r h => ⟨fun c => (h c).2.2, sem_eq_zero_of_no_sems (by decide) r.2⟩)
    (Cert.RetSampleRefIdeal.Value.run (F := Ideal) m ρ)

/-- The kernel of the feed-forward call, at the machine's numbers: every run ends without a fault, its arguments as they were and
    every counter at zero. -/
theorem frameMlp : Cert.quiescent_Mlp := fun m ρ _ => Cert.Mlp.Gen.frame m ρ

/-- The same run at the ideal numbers. -/
theorem frameMlpIdeal : Cert.quiescent_MlpIdeal := fun m ρ _ => Cert.MlpIdeal.Gen.frame m ρ

/-- The reference of the feed-forward call runs, its arguments as they were. -/
theorem frameMlpRef : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- The kernel of the retention layer's input projection, at the machine's numbers: every run ends without a fault, its arguments as they were and
    every counter at zero. -/
theorem frameRetIn : Cert.quiescent_RetIn := fun m ρ _ => Cert.RetIn.Gen.frame m ρ

/-- The same run at the ideal numbers. -/
theorem frameRetInIdeal : Cert.quiescent_RetInIdeal := fun m ρ _ => Cert.RetInIdeal.Gen.frame m ρ

/-- The reference of the retention layer's input projection runs, its arguments as they were. -/
theorem frameRetInRef : Cert.quiescent_RetInRefIdeal := fun m ρ _ =>
  (θ_run Cert.RetInRefIdeal.defs _ _).mono (fun r h => ⟨fun c => (h c).2, sem_eq_zero_of_no_sems (by decide) r.2⟩)
    (Cert.RetInRefIdeal.Value.run (F := Ideal) m ρ)

/-- The kernel of the retention layer's output projection, at the machine's numbers: every run ends without a fault, its arguments as they were and
    every counter at zero. -/
theorem frameRetOut : Cert.quiescent_RetOut := fun m ρ _ => Cert.RetOut.Gen.frame m ρ

/-- The same run at the ideal numbers. -/
theorem frameRetOutIdeal : Cert.quiescent_RetOutIdeal := fun m ρ _ => Cert.RetOutIdeal.Gen.frame m ρ

/-- The reference of the retention layer's output projection runs, its arguments as they were. -/
theorem frameRetOutRef : Cert.quiescent_RetOutRefIdeal := fun m ρ _ =>
  (θ_run Cert.RetOutRefIdeal.defs _ _).mono (fun r h => ⟨fun c => (h c).2, sem_eq_zero_of_no_sems (by decide) r.2⟩)
    (Cert.RetOutRefIdeal.Value.run (F := Ideal) m ρ)

/-- The kernel of the shared keys, at the machine's numbers: every run ends without a fault, its arguments as they were and
    every counter at zero. -/
theorem frameSharedK : Cert.quiescent_SharedK := fun m ρ _ => Cert.SharedK.Gen.frame m ρ

/-- The same run at the ideal numbers. -/
theorem frameSharedKIdeal : Cert.quiescent_SharedKIdeal := fun m ρ _ => Cert.SharedKIdeal.Gen.frame m ρ

/-- The reference of the shared keys runs, its arguments as they were. -/
theorem frameSharedKRef : Cert.quiescent_SharedKRefIdeal := fun m ρ _ =>
  (θ_run Cert.SharedKRefIdeal.defs _ _).mono (fun r h => ⟨fun c => (h c).2.2, sem_eq_zero_of_no_sems (by decide) r.2⟩)
    (Cert.SharedKRefIdeal.Value.run (F := Ideal) m ρ)

/-- The kernel of the shared values, at the machine's numbers: every run ends without a fault, its arguments as they were and
    every counter at zero. -/
theorem frameSharedV : Cert.quiescent_SharedV := fun m ρ _ => Cert.SharedV.Gen.frame m ρ

/-- The same run at the ideal numbers. -/
theorem frameSharedVIdeal : Cert.quiescent_SharedVIdeal := fun m ρ _ => Cert.SharedVIdeal.Gen.frame m ρ

/-- The reference of the shared values runs, its arguments as they were. -/
theorem frameSharedVRef : Cert.quiescent_SharedVRefIdeal := fun m ρ _ =>
  (θ_run Cert.SharedVRefIdeal.defs _ _).mono (fun r h => ⟨fun c => (h c).2.2, sem_eq_zero_of_no_sems (by decide) r.2⟩)
    (Cert.SharedVRefIdeal.Value.run (F := Ideal) m ρ)

/-- The kernel of the attention layer's query projection, at the machine's numbers: every run ends without a fault, its arguments as they were and
    every counter at zero. -/
theorem frameDiffQ : Cert.quiescent_DiffQ := fun m ρ _ => Cert.DiffQ.Gen.frame m ρ

/-- The same run at the ideal numbers. -/
theorem frameDiffQIdeal : Cert.quiescent_DiffQIdeal := fun m ρ _ => Cert.DiffQIdeal.Gen.frame m ρ

/-- The reference of the attention layer's query projection runs, its arguments as they were. -/
theorem frameDiffQRef : Cert.quiescent_DiffQRefIdeal := fun m ρ _ =>
  (θ_run Cert.DiffQRefIdeal.defs _ _).mono (fun r h => ⟨fun c => (h c).2, sem_eq_zero_of_no_sems (by decide) r.2⟩)
    (Cert.DiffQRefIdeal.Value.run (F := Ideal) m ρ)

/-- The kernel of the attention layer's output projection, at the machine's numbers: every run ends without a fault, its arguments as they were and
    every counter at zero. -/
theorem frameDiffOut : Cert.quiescent_DiffOut := fun m ρ _ => Cert.DiffOut.Gen.frame m ρ

/-- The same run at the ideal numbers. -/
theorem frameDiffOutIdeal : Cert.quiescent_DiffOutIdeal := fun m ρ _ => Cert.DiffOutIdeal.Gen.frame m ρ

/-- The reference of the attention layer's output projection runs, its arguments as they were. -/
theorem frameDiffOutRef : Cert.quiescent_DiffOutRefIdeal := fun m ρ _ =>
  (θ_run Cert.DiffOutRefIdeal.defs _ _).mono (fun r h => ⟨fun c => (h c).2, sem_eq_zero_of_no_sems (by decide) r.2⟩)
    (Cert.DiffOutRefIdeal.Value.run (F := Ideal) m ρ)

/-- The kernel of the retention call of the prompt batch, at the machine's numbers: every run ends without a fault, its arguments as they were and
    every counter at zero. -/
theorem frameRetPrompt : Cert.quiescent_RetPrompt := fun m ρ _ => Cert.RetPrompt.Gen.frame m ρ

/-- The same run at the ideal numbers. -/
theorem frameRetPromptIdeal : Cert.quiescent_RetPromptIdeal := fun m ρ _ => Cert.RetPromptIdeal.Gen.frame m ρ

/-- The reference of the retention call of the prompt batch runs, its arguments as they were. -/
theorem frameRetPromptRef : Cert.quiescent_RetPromptRefIdeal := fun m ρ _ =>
  (θ_run Cert.RetPromptRefIdeal.defs _ _).mono (fun r h => ⟨fun c => (h c).2.2, sem_eq_zero_of_no_sems (by decide) r.2⟩)
    (Cert.RetPromptRefIdeal.Value.run (F := Ideal) m ρ)

/-- The same of the arguments the precondition allows. -/
theorem frameRetPromptIdealPre : Cert.quiescent_RetPromptIdeal_pre_finite_proj := fun m ρ _ => Cert.RetPromptIdeal.Gen.frame m ρ

/-- The reference of the retention call of the prompt batch on the arguments the precondition allows. -/
theorem frameRetPromptRefPre : Cert.quiescent_RetPromptRefIdeal_pre_finite_proj := fun m ρ _ =>
  (θ_run Cert.RetPromptRefIdeal.defs _ _).mono (fun r h => ⟨fun c => (h c).2.2, sem_eq_zero_of_no_sems (by decide) r.2⟩)
    (Cert.RetPromptRefIdeal.Value.run (F := Ideal) m ρ)

/-- The kernel of the attention call of the prompt batch, at the machine's numbers: every run ends without a fault, its arguments as they were and
    every counter at zero. -/
theorem frameDiffAttn : Cert.quiescent_DiffAttn := fun m ρ _ => Cert.DiffAttn.Gen.frame m ρ

/-- The same run at the ideal numbers. -/
theorem frameDiffAttnIdeal : Cert.quiescent_DiffAttnIdeal := fun m ρ _ => Cert.DiffAttnIdeal.Gen.frame m ρ

/-- The reference of the attention call of the prompt batch runs, its arguments as they were. -/
theorem frameDiffAttnRef : Cert.quiescent_DiffAttnRefIdeal := fun m ρ _ =>
  (θ_run Cert.DiffAttnRefIdeal.defs _ _).mono (fun r h => ⟨fun c => (h c).2, sem_eq_zero_of_no_sems (by decide) r.2⟩)
    (Cert.DiffAttnRefIdeal.Value.run (F := Ideal) m ρ)

/-- The same of the arguments the precondition allows. -/
theorem frameDiffAttnIdealPre : Cert.quiescent_DiffAttnIdeal_pre_finite := fun m ρ _ => Cert.DiffAttnIdeal.Gen.frame m ρ

/-- The reference of the attention call of the prompt batch on the arguments the precondition allows. -/
theorem frameDiffAttnRefPre : Cert.quiescent_DiffAttnRefIdeal_pre_finite := fun m ρ _ =>
  (θ_run Cert.DiffAttnRefIdeal.defs _ _).mono (fun r h => ⟨fun c => (h c).2, sem_eq_zero_of_no_sems (by decide) r.2⟩)
    (Cert.DiffAttnRefIdeal.Value.run (F := Ideal) m ρ)

/-- Everything the certificate claims. -/
theorem claim : Cert.Claim :=
  ⟨Cert.RetSample.Gen.facts, Cert.RetSampleIdeal.Gen.facts, Cert.RetSampleRefIdeal.Gen.facts,
    Cert.Mlp.Gen.facts, Cert.MlpIdeal.Gen.facts, Cert.MlpRefIdeal.Gen.facts,
    Cert.RetIn.Gen.facts, Cert.RetInIdeal.Gen.facts, Cert.RetInRefIdeal.Gen.facts,
    Cert.RetOut.Gen.facts, Cert.RetOutIdeal.Gen.facts, Cert.RetOutRefIdeal.Gen.facts,
    Cert.SharedK.Gen.facts, Cert.SharedKIdeal.Gen.facts, Cert.SharedKRefIdeal.Gen.facts,
    Cert.SharedV.Gen.facts, Cert.SharedVIdeal.Gen.facts, Cert.SharedVRefIdeal.Gen.facts,
    Cert.DiffQ.Gen.facts, Cert.DiffQIdeal.Gen.facts, Cert.DiffQRefIdeal.Gen.facts,
    Cert.DiffOut.Gen.facts, Cert.DiffOutIdeal.Gen.facts, Cert.DiffOutRefIdeal.Gen.facts,
    Cert.RetPrompt.Gen.facts, Cert.RetPromptIdeal.Gen.facts, Cert.RetPromptRefIdeal.Gen.facts,
    Cert.DiffAttn.Gen.facts, Cert.DiffAttnIdeal.Gen.facts, Cert.DiffAttnRefIdeal.Gen.facts,
    Cert.Pre_finite_proj.Gen.facts, Cert.Pre_finite.Gen.facts,
    frameRetSample, frameRetSampleIdeal, frameRetSampleRef, frameMlp, frameMlpIdeal, frameMlpRef, frameRetIn, frameRetInIdeal, frameRetInRef, frameRetOut, frameRetOutIdeal, frameRetOutRef, frameSharedK, frameSharedKIdeal, frameSharedKRef, frameSharedV, frameSharedVIdeal, frameSharedVRef, frameDiffQ, frameDiffQIdeal, frameDiffQRef, frameDiffOut, frameDiffOutIdeal, frameDiffOutRef, frameRetPrompt, frameRetPromptIdeal, frameRetPromptIdealPre, frameRetPromptRef, frameRetPromptRefPre, frameDiffAttn, frameDiffAttnIdeal, frameDiffAttnIdealPre, frameDiffAttnRef, frameDiffAttnRefPre,
    trivial, algebraicRetSample, trivial, algebraicMlp, trivial, algebraicRetIn, trivial, algebraicRetOut, trivial, algebraicSharedK, trivial, algebraicSharedV, trivial, algebraicDiffQ, trivial, algebraicDiffOut, trivial, algebraicRetPrompt, trivial, algebraicDiffAttn⟩

end Cert.Proof

end
